-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "sixth" .f32 0x3E2AAAAB#32 ((1 / 6 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x96x224x224 : Shape := ⟨4, ![1, 96, 224, 224]⟩
abbrev S96x224x224 : Shape := ⟨3, ![96, 224, 224]⟩
abbrev S6x224x224 : Shape := ⟨3, ![6, 224, 224]⟩
abbrev S12x224x224 : Shape := ⟨3, ![12, 224, 224]⟩
abbrev S3x224x224 : Shape := ⟨3, ![3, 224, 224]⟩
abbrev S1x224x223 : Shape := ⟨3, ![1, 224, 223]⟩
abbrev S224x223 : Shape := ⟨2, ![224, 223]⟩
abbrev S1x224x222 : Shape := ⟨3, ![1, 224, 222]⟩
abbrev S224x222 : Shape := ⟨2, ![224, 222]⟩
abbrev S8x222 : Shape := ⟨2, ![8, 222]⟩
abbrev S1x224x224 : Shape := ⟨3, ![1, 224, 224]⟩
abbrev S224x224 : Shape := ⟨2, ![224, 224]⟩
abbrev S16x222 : Shape := ⟨2, ![16, 222]⟩
abbrev S1x8x222 : Shape := ⟨3, ![1, 8, 222]⟩
abbrev S1 : Shape := ⟨1, ![1]⟩
abbrev S1x1x1 : Shape := ⟨3, ![1, 1, 1]⟩
abbrev S6x222 : Shape := ⟨2, ![6, 222]⟩
abbrev S1x6x222 : Shape := ⟨3, ![1, 6, 222]⟩
abbrev S8x224 : Shape := ⟨2, ![8, 224]⟩
abbrev S1x16x224 : Shape := ⟨3, ![1, 16, 224]⟩
abbrev S16x224 : Shape := ⟨2, ![16, 224]⟩
abbrev S1x8x224 : Shape := ⟨3, ![1, 8, 224]⟩
abbrev S1x224 : Shape := ⟨2, ![1, 224]⟩
abbrev S7x224 : Shape := ⟨2, ![7, 224]⟩
abbrev S2x224 : Shape := ⟨2, ![2, 224]⟩
abbrev S6x224 : Shape := ⟨2, ![6, 224]⟩

abbrev nBuf : Space → Nat
  | .hbm => 4
  | .vmem => 6
  | .smem => 0
  | _ => 0

abbrev bufTy : (tb : Table) → Fin (tcTables nBuf tb) → BufTy
  | .hbm, ⟨0, _⟩ => ⟨S1x96x224x224, .f32⟩
  | .hbm, ⟨1, _⟩ => ⟨S96x224x224, .f32⟩
  | .hbm, ⟨2, _⟩ => ⟨S96x224x224, .f32⟩
  | .hbm, ⟨3, _⟩ => ⟨S1x96x224x224, .f32⟩
  | .local _ .vmem, ⟨0, _⟩ => ⟨S6x224x224, .f32⟩
  | .local _ .vmem, ⟨1, _⟩ => ⟨S6x224x224, .f32⟩
  | .local _ .vmem, ⟨2, _⟩ => ⟨S6x224x224, .f32⟩
  | .local _ .vmem, ⟨3, _⟩ => ⟨S6x224x224, .f32⟩
  | .local _ .vmem, ⟨4, _⟩ => ⟨S12x224x224, .f32⟩
  | .local _ .vmem, ⟨5, _⟩ => ⟨S3x224x224, .f32⟩
  | _, _ => ⟨S1x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c27_i32 : BitVec 32 := 27#32
  let v80 : BitVec 32 := Scalar.addi c0_i32 c27_i32
  let c1_i32 : BitVec 32 := 1#32
  ⟨c0_i32, v80, c1_i32⟩
def k0_off1 (k0_t1 : Fin k0_t1_loop.trips) : Fin 2 → Nat :=
  let c8_i32_2354 : BitVec 32 := 8#32
  let c0_i32 : BitVec 32 := 0#32
  let c1_i32 : BitVec 32 := 1#32
  let arg5 : BitVec 32 := Scf.iv c0_i32 c1_i32 k0_t1
  let v4850 : BitVec 32 := Scalar.muli c8_i32_2354 arg5
  let v4853 : Index := Scalar.indexCast v4850
  let c0_2358 : Index := 0#32
  ![v4853.toNat, 0]
def k0_off2 (k0_t1 : Fin k0_t1_loop.trips) : Fin 2 → Nat :=
  let c8_i32_2369 : BitVec 32 := 8#32
  let c0_i32 : BitVec 32 := 0#32
  let c1_i32 : BitVec 32 := 1#32
  let arg5 : BitVec 32 := Scf.iv c0_i32 c1_i32 k0_t1
  let v4866 : BitVec 32 := Scalar.muli c8_i32_2369 arg5
  let v4869 : Index := Scalar.indexCast v4866
  let c0_2373 : Index := 0#32
  ![v4869.toNat, 0]
@[reducible] def k0_t2_loop : Scf.Loop 32 :=
  let c0_i32_188 : BitVec 32 := 0#32
  let c27_i32_189 : BitVec 32 := 27#32
  let v383 : BitVec 32 := Scalar.addi c0_i32_188 c27_i32_189
  let c1_i32_190 : BitVec 32 := 1#32
  ⟨c0_i32_188, v383, c1_i32_190⟩
def k0_off3 (k0_t2 : Fin k0_t2_loop.trips) : Fin 2 → Nat :=
  let c8_i32_2354 : BitVec 32 := 8#32
  let c0_i32_188 : BitVec 32 := 0#32
  let c1_i32_190 : BitVec 32 := 1#32
  let arg5 : BitVec 32 := Scf.iv c0_i32_188 c1_i32_190 k0_t2
  let v4850 : BitVec 32 := Scalar.muli c8_i32_2354 arg5
  let v4853 : Index := Scalar.indexCast v4850
  let c0_2358 : Index := 0#32
  ![v4853.toNat, 0]
def k0_off4 (k0_t2 : Fin k0_t2_loop.trips) : Fin 2 → Nat :=
  let c8_i32_2369 : BitVec 32 := 8#32
  let c0_i32_188 : BitVec 32 := 0#32
  let c1_i32_190 : BitVec 32 := 1#32
  let arg5 : BitVec 32 := Scf.iv c0_i32_188 c1_i32_190 k0_t2
  let v4866 : BitVec 32 := Scalar.muli c8_i32_2369 arg5
  let v4869 : Index := Scalar.indexCast v4866
  let c0_2373 : Index := 0#32
  ![v4869.toNat, 0]
def k0_off5 (k0_t2 : Fin k0_t2_loop.trips) : Fin 3 → Nat :=
  let c0_2385 : Index := 0#32
  let c8_i32_2384 : BitVec 32 := 8#32
  let c0_i32_188 : BitVec 32 := 0#32
  let c1_i32_190 : BitVec 32 := 1#32
  let arg5 : BitVec 32 := Scf.iv c0_i32_188 c1_i32_190 k0_t2
  let v4904 : BitVec 32 := Scalar.muli c8_i32_2384 arg5
  let v4905 : Index := Scalar.indexCast v4904
  let c0_2386 : Index := 0#32
  ![0, v4905.toNat, 0]
def k0_off6 (k0_t2 : Fin k0_t2_loop.trips) : Fin 3 → Nat :=
  let c1_2388 : Index := 1#32
  let c8_i32_2387 : BitVec 32 := 8#32
  let c0_i32_188 : BitVec 32 := 0#32
  let c1_i32_190 : BitVec 32 := 1#32
  let arg5 : BitVec 32 := Scf.iv c0_i32_188 c1_i32_190 k0_t2
  let v4909 : BitVec 32 := Scalar.muli c8_i32_2387 arg5
  let v4910 : Index := Scalar.indexCast v4909
  let c1_2389 : Index := 1#32
  ![1, v4910.toNat, 1]
def k0_off7 (k0_t2 : Fin k0_t2_loop.trips) : Fin 3 → Nat :=
  let c2_2391 : Index := 2#32
  let c8_i32_2390 : BitVec 32 := 8#32
  let c0_i32_188 : BitVec 32 := 0#32
  let c1_i32_190 : BitVec 32 := 1#32
  let arg5 : BitVec 32 := Scf.iv c0_i32_188 c1_i32_190 k0_t2
  let v4914 : BitVec 32 := Scalar.muli c8_i32_2390 arg5
  let v4915 : Index := Scalar.indexCast v4914
  let c2_2392 : Index := 2#32
  ![2, v4915.toNat, 2]
@[reducible] def k0_t3_loop : Scf.Loop 32 :=
  let c1_i32_232 : BitVec 32 := 1#32
  let c26_i32 : BitVec 32 := 26#32
  let v449 : BitVec 32 := Scalar.addi c1_i32_232 c26_i32
  let c1_i32_233 : BitVec 32 := 1#32
  ⟨c1_i32_232, v449, c1_i32_233⟩
def k0_off8 (k0_t3 : Fin k0_t3_loop.trips) : Fin 3 → Nat :=
  let c0_2356 : Index := 0#32
  let c8_i32_2355 : BitVec 32 := 8#32
  let c1_i32_232 : BitVec 32 := 1#32
  let c1_i32_233 : BitVec 32 := 1#32
  let arg5 : BitVec 32 := Scf.iv c1_i32_232 c1_i32_233 k0_t3
  let c1_i32_2354 : BitVec 32 := 1#32
  let v4850 : BitVec 32 := Scalar.subi arg5 c1_i32_2354
  let v4851 : BitVec 32 := Scalar.muli c8_i32_2355 v4850
  let v4852 : Index := Scalar.indexCast v4851
  let c0_2357 : Index := 0#32
  ![0, v4852.toNat, 0]
def k0_off9 (k0_t3 : Fin k0_t3_loop.trips) : Fin 3 → Nat :=
  let c1_2360 : Index := 1#32
  let c8_i32_2359 : BitVec 32 := 8#32
  let c1_i32_232 : BitVec 32 := 1#32
  let c1_i32_233 : BitVec 32 := 1#32
  let arg5 : BitVec 32 := Scf.iv c1_i32_232 c1_i32_233 k0_t3
  let c1_i32_2358 : BitVec 32 := 1#32
  let v4855 : BitVec 32 := Scalar.subi arg5 c1_i32_2358
  let v4856 : BitVec 32 := Scalar.muli c8_i32_2359 v4855
  let v4857 : Index := Scalar.indexCast v4856
  let c0_2361 : Index := 0#32
  ![1, v4857.toNat, 0]
def k0_off10 (k0_t3 : Fin k0_t3_loop.trips) : Fin 3 → Nat :=
  let c2_2364 : Index := 2#32
  let c8_i32_2363 : BitVec 32 := 8#32
  let c1_i32_232 : BitVec 32 := 1#32
  let c1_i32_233 : BitVec 32 := 1#32
  let arg5 : BitVec 32 := Scf.iv c1_i32_232 c1_i32_233 k0_t3
  let c1_i32_2362 : BitVec 32 := 1#32
  let v4860 : BitVec 32 := Scalar.subi arg5 c1_i32_2362
  let v4861 : BitVec 32 := Scalar.muli c8_i32_2363 v4860
  let v4862 : Index := Scalar.indexCast v4861
  let c0_2365 : Index := 0#32
  ![2, v4862.toNat, 0]
def k0_off11 (k0_t3 : Fin k0_t3_loop.trips) : Fin 3 → Nat :=
  let c0_2367 : Index := 0#32
  let c8_i32_2366 : BitVec 32 := 8#32
  let c1_i32_232 : BitVec 32 := 1#32
  let c1_i32_233 : BitVec 32 := 1#32
  let arg5 : BitVec 32 := Scf.iv c1_i32_232 c1_i32_233 k0_t3
  let v4865 : BitVec 32 := Scalar.muli c8_i32_2366 arg5
  let v4866 : Index := Scalar.indexCast v4865
  let c0_2368 : Index := 0#32
  ![0, v4866.toNat, 0]
@[reducible] def k0_t4_loop : Scf.Loop 32 :=
  let c0_i32_311 : BitVec 32 := 0#32
  let c27_i32_312 : BitVec 32 := 27#32
  let v605 : BitVec 32 := Scalar.addi c0_i32_311 c27_i32_312
  let c1_i32_313 : BitVec 32 := 1#32
  ⟨c0_i32_311, v605, c1_i32_313⟩
def k0_off12 (k0_t4 : Fin k0_t4_loop.trips) : Fin 2 → Nat :=
  let c8_i32_2354 : BitVec 32 := 8#32
  let c0_i32_311 : BitVec 32 := 0#32
  let c1_i32_313 : BitVec 32 := 1#32
  let arg5 : BitVec 32 := Scf.iv c0_i32_311 c1_i32_313 k0_t4
  let v4850 : BitVec 32 := Scalar.muli c8_i32_2354 arg5
  let v4853 : Index := Scalar.indexCast v4850
  let c0_2358 : Index := 0#32
  ![v4853.toNat, 0]
def k0_off13 (k0_t4 : Fin k0_t4_loop.trips) : Fin 2 → Nat :=
  let c8_i32_2369 : BitVec 32 := 8#32
  let c0_i32_311 : BitVec 32 := 0#32
  let c1_i32_313 : BitVec 32 := 1#32
  let arg5 : BitVec 32 := Scf.iv c0_i32_311 c1_i32_313 k0_t4
  let v4869 : BitVec 32 := Scalar.muli c8_i32_2369 arg5
  let v4872 : Index := Scalar.indexCast v4869
  let c0_2373 : Index := 0#32
  ![v4872.toNat, 0]
@[reducible] def k0_t5_loop : Scf.Loop 32 :=
  let c0_i32_430 : BitVec 32 := 0#32
  let c27_i32_431 : BitVec 32 := 27#32
  let v908 : BitVec 32 := Scalar.addi c0_i32_430 c27_i32_431
  let c1_i32_432 : BitVec 32 := 1#32
  ⟨c0_i32_430, v908, c1_i32_432⟩
def k0_off14 (k0_t5 : Fin k0_t5_loop.trips) : Fin 2 → Nat :=
  let c8_i32_2354 : BitVec 32 := 8#32
  let c0_i32_430 : BitVec 32 := 0#32
  let c1_i32_432 : BitVec 32 := 1#32
  let arg5 : BitVec 32 := Scf.iv c0_i32_430 c1_i32_432 k0_t5
  let v4850 : BitVec 32 := Scalar.muli c8_i32_2354 arg5
  let v4853 : Index := Scalar.indexCast v4850
  let c0_2358 : Index := 0#32
  ![v4853.toNat, 0]
def k0_off15 (k0_t5 : Fin k0_t5_loop.trips) : Fin 2 → Nat :=
  let c8_i32_2369 : BitVec 32 := 8#32
  let c0_i32_430 : BitVec 32 := 0#32
  let c1_i32_432 : BitVec 32 := 1#32
  let arg5 : BitVec 32 := Scf.iv c0_i32_430 c1_i32_432 k0_t5
  let v4869 : BitVec 32 := Scalar.muli c8_i32_2369 arg5
  let v4872 : Index := Scalar.indexCast v4869
  let c0_2373 : Index := 0#32
  ![v4872.toNat, 0]
def k0_off16 (k0_t5 : Fin k0_t5_loop.trips) : Fin 3 → Nat :=
  let c0_2385 : Index := 0#32
  let c8_i32_2384 : BitVec 32 := 8#32
  let c0_i32_430 : BitVec 32 := 0#32
  let c1_i32_432 : BitVec 32 := 1#32
  let arg5 : BitVec 32 := Scf.iv c0_i32_430 c1_i32_432 k0_t5
  let v4904 : BitVec 32 := Scalar.muli c8_i32_2384 arg5
  let v4905 : Index := Scalar.indexCast v4904
  let c0_2386 : Index := 0#32
  ![0, v4905.toNat, 0]
def k0_off17 (k0_t5 : Fin k0_t5_loop.trips) : Fin 3 → Nat :=
  let c1_2388 : Index := 1#32
  let c8_i32_2387 : BitVec 32 := 8#32
  let c0_i32_430 : BitVec 32 := 0#32
  let c1_i32_432 : BitVec 32 := 1#32
  let arg5 : BitVec 32 := Scf.iv c0_i32_430 c1_i32_432 k0_t5
  let v4909 : BitVec 32 := Scalar.muli c8_i32_2387 arg5
  let v4910 : Index := Scalar.indexCast v4909
  let c1_2389 : Index := 1#32
  ![1, v4910.toNat, 1]
def k0_off18 (k0_t5 : Fin k0_t5_loop.trips) : Fin 3 → Nat :=
  let c2_2391 : Index := 2#32
  let c8_i32_2390 : BitVec 32 := 8#32
  let c0_i32_430 : BitVec 32 := 0#32
  let c1_i32_432 : BitVec 32 := 1#32
  let arg5 : BitVec 32 := Scf.iv c0_i32_430 c1_i32_432 k0_t5
  let v4914 : BitVec 32 := Scalar.muli c8_i32_2390 arg5
  let v4915 : Index := Scalar.indexCast v4914
  let c2_2392 : Index := 2#32
  ![2, v4915.toNat, 2]
@[reducible] def k0_t6_loop : Scf.Loop 32 :=
  let c1_i32_478 : BitVec 32 := 1#32
  let c26_i32_479 : BitVec 32 := 26#32
  let v974 : BitVec 32 := Scalar.addi c1_i32_478 c26_i32_479
  let c1_i32_480 : BitVec 32 := 1#32
  ⟨c1_i32_478, v974, c1_i32_480⟩
def k0_off19 (k0_t6 : Fin k0_t6_loop.trips) : Fin 3 → Nat :=
  let c0_2356 : Index := 0#32
  let c8_i32_2355 : BitVec 32 := 8#32
  let c1_i32_478 : BitVec 32 := 1#32
  let c1_i32_480 : BitVec 32 := 1#32
  let arg5 : BitVec 32 := Scf.iv c1_i32_478 c1_i32_480 k0_t6
  let c1_i32_2354 : BitVec 32 := 1#32
  let v4850 : BitVec 32 := Scalar.subi arg5 c1_i32_2354
  let v4851 : BitVec 32 := Scalar.muli c8_i32_2355 v4850
  let v4852 : Index := Scalar.indexCast v4851
  let c0_2357 : Index := 0#32
  ![0, v4852.toNat, 0]
def k0_off20 (k0_t6 : Fin k0_t6_loop.trips) : Fin 3 → Nat :=
  let c1_2360 : Index := 1#32
  let c8_i32_2359 : BitVec 32 := 8#32
  let c1_i32_478 : BitVec 32 := 1#32
  let c1_i32_480 : BitVec 32 := 1#32
  let arg5 : BitVec 32 := Scf.iv c1_i32_478 c1_i32_480 k0_t6
  let c1_i32_2358 : BitVec 32 := 1#32
  let v4855 : BitVec 32 := Scalar.subi arg5 c1_i32_2358
  let v4856 : BitVec 32 := Scalar.muli c8_i32_2359 v4855
  let v4857 : Index := Scalar.indexCast v4856
  let c0_2361 : Index := 0#32
  ![1, v4857.toNat, 0]
def k0_off21 (k0_t6 : Fin k0_t6_loop.trips) : Fin 3 → Nat :=
  let c2_2364 : Index := 2#32
  let c8_i32_2363 : BitVec 32 := 8#32
  let c1_i32_478 : BitVec 32 := 1#32
  let c1_i32_480 : BitVec 32 := 1#32
  let arg5 : BitVec 32 := Scf.iv c1_i32_478 c1_i32_480 k0_t6
  let c1_i32_2362 : BitVec 32 := 1#32
  let v4860 : BitVec 32 := Scalar.subi arg5 c1_i32_2362
  let v4861 : BitVec 32 := Scalar.muli c8_i32_2363 v4860
  let v4862 : Index := Scalar.indexCast v4861
  let c0_2365 : Index := 0#32
  ![2, v4862.toNat, 0]
def k0_off22 (k0_t6 : Fin k0_t6_loop.trips) : Fin 3 → Nat :=
  let c0_2367 : Index := 0#32
  let c8_i32_2366 : BitVec 32 := 8#32
  let c1_i32_478 : BitVec 32 := 1#32
  let c1_i32_480 : BitVec 32 := 1#32
  let arg5 : BitVec 32 := Scf.iv c1_i32_478 c1_i32_480 k0_t6
  let v4865 : BitVec 32 := Scalar.muli c8_i32_2366 arg5
  let v4866 : Index := Scalar.indexCast v4865
  let c0_2368 : Index := 0#32
  ![0, v4866.toNat, 0]
def k0_off23 (k0_t6 : Fin k0_t6_loop.trips) : Fin 3 → Nat :=
  let c1_2370 : Index := 1#32
  let c8_i32_2369 : BitVec 32 := 8#32
  let c1_i32_478 : BitVec 32 := 1#32
  let c1_i32_480 : BitVec 32 := 1#32
  let arg5 : BitVec 32 := Scf.iv c1_i32_478 c1_i32_480 k0_t6
  let v4869 : BitVec 32 := Scalar.muli c8_i32_2369 arg5
  let v4870 : Index := Scalar.indexCast v4869
  let c0_2371 : Index := 0#32
  ![1, v4870.toNat, 0]
@[reducible] def k0_t7_loop : Scf.Loop 32 :=
  let c0_i32_577 : BitVec 32 := 0#32
  let c27_i32_578 : BitVec 32 := 27#32
  let v1144 : BitVec 32 := Scalar.addi c0_i32_577 c27_i32_578
  let c1_i32_579 : BitVec 32 := 1#32
  ⟨c0_i32_577, v1144, c1_i32_579⟩
def k0_off24 (k0_t7 : Fin k0_t7_loop.trips) : Fin 2 → Nat :=
  let c8_i32_2354 : BitVec 32 := 8#32
  let c0_i32_577 : BitVec 32 := 0#32
  let c1_i32_579 : BitVec 32 := 1#32
  let arg5 : BitVec 32 := Scf.iv c0_i32_577 c1_i32_579 k0_t7
  let v4850 : BitVec 32 := Scalar.muli c8_i32_2354 arg5
  let v4853 : Index := Scalar.indexCast v4850
  let c0_2358 : Index := 0#32
  ![v4853.toNat, 0]
@[reducible] def k0_t8_loop : Scf.Loop 32 :=
  let c0_i32_696 : BitVec 32 := 0#32
  let c27_i32_697 : BitVec 32 := 27#32
  let v1447 : BitVec 32 := Scalar.addi c0_i32_696 c27_i32_697
  let c1_i32_698 : BitVec 32 := 1#32
  ⟨c0_i32_696, v1447, c1_i32_698⟩
def k0_off25 (k0_t8 : Fin k0_t8_loop.trips) : Fin 2 → Nat :=
  let c8_i32_2354 : BitVec 32 := 8#32
  let c0_i32_696 : BitVec 32 := 0#32
  let c1_i32_698 : BitVec 32 := 1#32
  let arg5 : BitVec 32 := Scf.iv c0_i32_696 c1_i32_698 k0_t8
  let v4850 : BitVec 32 := Scalar.muli c8_i32_2354 arg5
  let v4853 : Index := Scalar.indexCast v4850
  let c0_2358 : Index := 0#32
  ![v4853.toNat, 0]
def k0_off26 (k0_t8 : Fin k0_t8_loop.trips) : Fin 3 → Nat :=
  let c0_2385 : Index := 0#32
  let c8_i32_2384 : BitVec 32 := 8#32
  let c0_i32_696 : BitVec 32 := 0#32
  let c1_i32_698 : BitVec 32 := 1#32
  let arg5 : BitVec 32 := Scf.iv c0_i32_696 c1_i32_698 k0_t8
  let v4907 : BitVec 32 := Scalar.muli c8_i32_2384 arg5
  let v4908 : Index := Scalar.indexCast v4907
  let c0_2386 : Index := 0#32
  ![0, v4908.toNat, 0]
def k0_off27 (k0_t8 : Fin k0_t8_loop.trips) : Fin 3 → Nat :=
  let c1_2388 : Index := 1#32
  let c8_i32_2387 : BitVec 32 := 8#32
  let c0_i32_696 : BitVec 32 := 0#32
  let c1_i32_698 : BitVec 32 := 1#32
  let arg5 : BitVec 32 := Scf.iv c0_i32_696 c1_i32_698 k0_t8
  let v4912 : BitVec 32 := Scalar.muli c8_i32_2387 arg5
  let v4913 : Index := Scalar.indexCast v4912
  let c1_2389 : Index := 1#32
  ![1, v4913.toNat, 1]
def k0_off28 (k0_t8 : Fin k0_t8_loop.trips) : Fin 3 → Nat :=
  let c2_2391 : Index := 2#32
  let c8_i32_2390 : BitVec 32 := 8#32
  let c0_i32_696 : BitVec 32 := 0#32
  let c1_i32_698 : BitVec 32 := 1#32
  let arg5 : BitVec 32 := Scf.iv c0_i32_696 c1_i32_698 k0_t8
  let v4917 : BitVec 32 := Scalar.muli c8_i32_2390 arg5
  let v4918 : Index := Scalar.indexCast v4917
  let c2_2392 : Index := 2#32
  ![2, v4918.toNat, 2]
@[reducible] def k0_t9_loop : Scf.Loop 32 :=
  let c1_i32_745 : BitVec 32 := 1#32
  let c26_i32_746 : BitVec 32 := 26#32
  let v1513 : BitVec 32 := Scalar.addi c1_i32_745 c26_i32_746
  let c1_i32_747 : BitVec 32 := 1#32
  ⟨c1_i32_745, v1513, c1_i32_747⟩
def k0_off29 (k0_t9 : Fin k0_t9_loop.trips) : Fin 3 → Nat :=
  let c0_2356 : Index := 0#32
  let c8_i32_2355 : BitVec 32 := 8#32
  let c1_i32_745 : BitVec 32 := 1#32
  let c1_i32_747 : BitVec 32 := 1#32
  let arg5 : BitVec 32 := Scf.iv c1_i32_745 c1_i32_747 k0_t9
  let c1_i32_2354 : BitVec 32 := 1#32
  let v4850 : BitVec 32 := Scalar.subi arg5 c1_i32_2354
  let v4851 : BitVec 32 := Scalar.muli c8_i32_2355 v4850
  let v4852 : Index := Scalar.indexCast v4851
  let c0_2357 : Index := 0#32
  ![0, v4852.toNat, 0]
def k0_off30 (k0_t9 : Fin k0_t9_loop.trips) : Fin 3 → Nat :=
  let c1_2360 : Index := 1#32
  let c8_i32_2359 : BitVec 32 := 8#32
  let c1_i32_745 : BitVec 32 := 1#32
  let c1_i32_747 : BitVec 32 := 1#32
  let arg5 : BitVec 32 := Scf.iv c1_i32_745 c1_i32_747 k0_t9
  let c1_i32_2358 : BitVec 32 := 1#32
  let v4855 : BitVec 32 := Scalar.subi arg5 c1_i32_2358
  let v4856 : BitVec 32 := Scalar.muli c8_i32_2359 v4855
  let v4857 : Index := Scalar.indexCast v4856
  let c0_2361 : Index := 0#32
  ![1, v4857.toNat, 0]
def k0_off31 (k0_t9 : Fin k0_t9_loop.trips) : Fin 3 → Nat :=
  let c2_2364 : Index := 2#32
  let c8_i32_2363 : BitVec 32 := 8#32
  let c1_i32_745 : BitVec 32 := 1#32
  let c1_i32_747 : BitVec 32 := 1#32
  let arg5 : BitVec 32 := Scf.iv c1_i32_745 c1_i32_747 k0_t9
  let c1_i32_2362 : BitVec 32 := 1#32
  let v4860 : BitVec 32 := Scalar.subi arg5 c1_i32_2362
  let v4861 : BitVec 32 := Scalar.muli c8_i32_2363 v4860
  let v4862 : Index := Scalar.indexCast v4861
  let c0_2365 : Index := 0#32
  ![2, v4862.toNat, 0]
def k0_off32 (k0_t9 : Fin k0_t9_loop.trips) : Fin 3 → Nat :=
  let c1_2367 : Index := 1#32
  let c8_i32_2366 : BitVec 32 := 8#32
  let c1_i32_745 : BitVec 32 := 1#32
  let c1_i32_747 : BitVec 32 := 1#32
  let arg5 : BitVec 32 := Scf.iv c1_i32_745 c1_i32_747 k0_t9
  let v4865 : BitVec 32 := Scalar.muli c8_i32_2366 arg5
  let v4866 : Index := Scalar.indexCast v4865
  let c0_2368 : Index := 0#32
  ![1, v4866.toNat, 0]
@[reducible] def k0_t10_loop : Scf.Loop 32 :=
  let c0_i32_830 : BitVec 32 := 0#32
  let c27_i32_831 : BitVec 32 := 27#32
  let v1675 : BitVec 32 := Scalar.addi c0_i32_830 c27_i32_831
  let c1_i32_832 : BitVec 32 := 1#32
  ⟨c0_i32_830, v1675, c1_i32_832⟩
def k0_off33 (k0_t10 : Fin k0_t10_loop.trips) : Fin 2 → Nat :=
  let c8_i32_2354 : BitVec 32 := 8#32
  let c0_i32_830 : BitVec 32 := 0#32
  let c1_i32_832 : BitVec 32 := 1#32
  let arg5 : BitVec 32 := Scf.iv c0_i32_830 c1_i32_832 k0_t10
  let v4850 : BitVec 32 := Scalar.muli c8_i32_2354 arg5
  let v4853 : Index := Scalar.indexCast v4850
  let c0_2358 : Index := 0#32
  ![v4853.toNat, 0]
def k0_off34 (k0_t10 : Fin k0_t10_loop.trips) : Fin 2 → Nat :=
  let c8_i32_2369 : BitVec 32 := 8#32
  let c0_i32_830 : BitVec 32 := 0#32
  let c1_i32_832 : BitVec 32 := 1#32
  let arg5 : BitVec 32 := Scf.iv c0_i32_830 c1_i32_832 k0_t10
  let v4866 : BitVec 32 := Scalar.muli c8_i32_2369 arg5
  let v4869 : Index := Scalar.indexCast v4866
  let c0_2373 : Index := 0#32
  ![v4869.toNat, 0]
@[reducible] def k0_t11_loop : Scf.Loop 32 :=
  let c0_i32_949 : BitVec 32 := 0#32
  let c27_i32_950 : BitVec 32 := 27#32
  let v1978 : BitVec 32 := Scalar.addi c0_i32_949 c27_i32_950
  let c1_i32_951 : BitVec 32 := 1#32
  ⟨c0_i32_949, v1978, c1_i32_951⟩
def k0_off35 (k0_t11 : Fin k0_t11_loop.trips) : Fin 2 → Nat :=
  let c8_i32_2354 : BitVec 32 := 8#32
  let c0_i32_949 : BitVec 32 := 0#32
  let c1_i32_951 : BitVec 32 := 1#32
  let arg5 : BitVec 32 := Scf.iv c0_i32_949 c1_i32_951 k0_t11
  let v4850 : BitVec 32 := Scalar.muli c8_i32_2354 arg5
  let v4853 : Index := Scalar.indexCast v4850
  let c0_2358 : Index := 0#32
  ![v4853.toNat, 0]
def k0_off36 (k0_t11 : Fin k0_t11_loop.trips) : Fin 2 → Nat :=
  let c8_i32_2369 : BitVec 32 := 8#32
  let c0_i32_949 : BitVec 32 := 0#32
  let c1_i32_951 : BitVec 32 := 1#32
  let arg5 : BitVec 32 := Scf.iv c0_i32_949 c1_i32_951 k0_t11
  let v4866 : BitVec 32 := Scalar.muli c8_i32_2369 arg5
  let v4869 : Index := Scalar.indexCast v4866
  let c0_2373 : Index := 0#32
  ![v4869.toNat, 0]
def k0_off37 (k0_t11 : Fin k0_t11_loop.trips) : Fin 3 → Nat :=
  let c0_2385 : Index := 0#32
  let c8_i32_2384 : BitVec 32 := 8#32
  let c0_i32_949 : BitVec 32 := 0#32
  let c1_i32_951 : BitVec 32 := 1#32
  let arg5 : BitVec 32 := Scf.iv c0_i32_949 c1_i32_951 k0_t11
  let v4904 : BitVec 32 := Scalar.muli c8_i32_2384 arg5
  let v4905 : Index := Scalar.indexCast v4904
  let c0_2386 : Index := 0#32
  ![0, v4905.toNat, 0]
def k0_off38 (k0_t11 : Fin k0_t11_loop.trips) : Fin 3 → Nat :=
  let c1_2388 : Index := 1#32
  let c8_i32_2387 : BitVec 32 := 8#32
  let c0_i32_949 : BitVec 32 := 0#32
  let c1_i32_951 : BitVec 32 := 1#32
  let arg5 : BitVec 32 := Scf.iv c0_i32_949 c1_i32_951 k0_t11
  let v4909 : BitVec 32 := Scalar.muli c8_i32_2387 arg5
  let v4910 : Index := Scalar.indexCast v4909
  let c1_2389 : Index := 1#32
  ![1, v4910.toNat, 1]
def k0_off39 (k0_t11 : Fin k0_t11_loop.trips) : Fin 3 → Nat :=
  let c2_2391 : Index := 2#32
  let c8_i32_2390 : BitVec 32 := 8#32
  let c0_i32_949 : BitVec 32 := 0#32
  let c1_i32_951 : BitVec 32 := 1#32
  let arg5 : BitVec 32 := Scf.iv c0_i32_949 c1_i32_951 k0_t11
  let v4914 : BitVec 32 := Scalar.muli c8_i32_2390 arg5
  let v4915 : Index := Scalar.indexCast v4914
  let c2_2392 : Index := 2#32
  ![2, v4915.toNat, 2]
@[reducible] def k0_t12_loop : Scf.Loop 32 :=
  let c1_i32_998 : BitVec 32 := 1#32
  let c26_i32_999 : BitVec 32 := 26#32
  let v2044 : BitVec 32 := Scalar.addi c1_i32_998 c26_i32_999
  let c1_i32_1000 : BitVec 32 := 1#32
  ⟨c1_i32_998, v2044, c1_i32_1000⟩
def k0_off40 (k0_t12 : Fin k0_t12_loop.trips) : Fin 3 → Nat :=
  let c0_2356 : Index := 0#32
  let c8_i32_2355 : BitVec 32 := 8#32
  let c1_i32_998 : BitVec 32 := 1#32
  let c1_i32_1000 : BitVec 32 := 1#32
  let arg5 : BitVec 32 := Scf.iv c1_i32_998 c1_i32_1000 k0_t12
  let c1_i32_2354 : BitVec 32 := 1#32
  let v4850 : BitVec 32 := Scalar.subi arg5 c1_i32_2354
  let v4851 : BitVec 32 := Scalar.muli c8_i32_2355 v4850
  let v4852 : Index := Scalar.indexCast v4851
  let c0_2357 : Index := 0#32
  ![0, v4852.toNat, 0]
def k0_off41 (k0_t12 : Fin k0_t12_loop.trips) : Fin 3 → Nat :=
  let c1_2360 : Index := 1#32
  let c8_i32_2359 : BitVec 32 := 8#32
  let c1_i32_998 : BitVec 32 := 1#32
  let c1_i32_1000 : BitVec 32 := 1#32
  let arg5 : BitVec 32 := Scf.iv c1_i32_998 c1_i32_1000 k0_t12
  let c1_i32_2358 : BitVec 32 := 1#32
  let v4855 : BitVec 32 := Scalar.subi arg5 c1_i32_2358
  let v4856 : BitVec 32 := Scalar.muli c8_i32_2359 v4855
  let v4857 : Index := Scalar.indexCast v4856
  let c0_2361 : Index := 0#32
  ![1, v4857.toNat, 0]
def k0_off42 (k0_t12 : Fin k0_t12_loop.trips) : Fin 3 → Nat :=
  let c2_2364 : Index := 2#32
  let c8_i32_2363 : BitVec 32 := 8#32
  let c1_i32_998 : BitVec 32 := 1#32
  let c1_i32_1000 : BitVec 32 := 1#32
  let arg5 : BitVec 32 := Scf.iv c1_i32_998 c1_i32_1000 k0_t12
  let c1_i32_2362 : BitVec 32 := 1#32
  let v4860 : BitVec 32 := Scalar.subi arg5 c1_i32_2362
  let v4861 : BitVec 32 := Scalar.muli c8_i32_2363 v4860
  let v4862 : Index := Scalar.indexCast v4861
  let c0_2365 : Index := 0#32
  ![2, v4862.toNat, 0]
def k0_off43 (k0_t12 : Fin k0_t12_loop.trips) : Fin 3 → Nat :=
  let c2_2367 : Index := 2#32
  let c8_i32_2366 : BitVec 32 := 8#32
  let c1_i32_998 : BitVec 32 := 1#32
  let c1_i32_1000 : BitVec 32 := 1#32
  let arg5 : BitVec 32 := Scf.iv c1_i32_998 c1_i32_1000 k0_t12
  let v4865 : BitVec 32 := Scalar.muli c8_i32_2366 arg5
  let v4866 : Index := Scalar.indexCast v4865
  let c0_2368 : Index := 0#32
  ![2, v4866.toNat, 0]
@[reducible] def k0_t13_loop : Scf.Loop 32 :=
  let c0_i32_1080 : BitVec 32 := 0#32
  let c27_i32_1081 : BitVec 32 := 27#32
  let v2200 : BitVec 32 := Scalar.addi c0_i32_1080 c27_i32_1081
  let c1_i32_1082 : BitVec 32 := 1#32
  ⟨c0_i32_1080, v2200, c1_i32_1082⟩
def k0_off44 (k0_t13 : Fin k0_t13_loop.trips) : Fin 2 → Nat :=
  let c8_i32_2354 : BitVec 32 := 8#32
  let c0_i32_1080 : BitVec 32 := 0#32
  let c1_i32_1082 : BitVec 32 := 1#32
  let arg5 : BitVec 32 := Scf.iv c0_i32_1080 c1_i32_1082 k0_t13
  let v4850 : BitVec 32 := Scalar.muli c8_i32_2354 arg5
  let v4853 : Index := Scalar.indexCast v4850
  let c0_2358 : Index := 0#32
  ![v4853.toNat, 0]
def k0_off45 (k0_t13 : Fin k0_t13_loop.trips) : Fin 2 → Nat :=
  let c8_i32_2369 : BitVec 32 := 8#32
  let c0_i32_1080 : BitVec 32 := 0#32
  let c1_i32_1082 : BitVec 32 := 1#32
  let arg5 : BitVec 32 := Scf.iv c0_i32_1080 c1_i32_1082 k0_t13
  let v4869 : BitVec 32 := Scalar.muli c8_i32_2369 arg5
  let v4872 : Index := Scalar.indexCast v4869
  let c0_2373 : Index := 0#32
  ![v4872.toNat, 0]
@[reducible] def k0_t14_loop : Scf.Loop 32 :=
  let c0_i32_1198 : BitVec 32 := 0#32
  let c27_i32_1199 : BitVec 32 := 27#32
  let v2503 : BitVec 32 := Scalar.addi c0_i32_1198 c27_i32_1199
  let c1_i32_1200 : BitVec 32 := 1#32
  ⟨c0_i32_1198, v2503, c1_i32_1200⟩
def k0_off46 (k0_t14 : Fin k0_t14_loop.trips) : Fin 2 → Nat :=
  let c8_i32_2354 : BitVec 32 := 8#32
  let c0_i32_1198 : BitVec 32 := 0#32
  let c1_i32_1200 : BitVec 32 := 1#32
  let arg5 : BitVec 32 := Scf.iv c0_i32_1198 c1_i32_1200 k0_t14
  let v4850 : BitVec 32 := Scalar.muli c8_i32_2354 arg5
  let v4853 : Index := Scalar.indexCast v4850
  let c0_2358 : Index := 0#32
  ![v4853.toNat, 0]
def k0_off47 (k0_t14 : Fin k0_t14_loop.trips) : Fin 2 → Nat :=
  let c8_i32_2369 : BitVec 32 := 8#32
  let c0_i32_1198 : BitVec 32 := 0#32
  let c1_i32_1200 : BitVec 32 := 1#32
  let arg5 : BitVec 32 := Scf.iv c0_i32_1198 c1_i32_1200 k0_t14
  let v4869 : BitVec 32 := Scalar.muli c8_i32_2369 arg5
  let v4872 : Index := Scalar.indexCast v4869
  let c0_2373 : Index := 0#32
  ![v4872.toNat, 0]
def k0_off48 (k0_t14 : Fin k0_t14_loop.trips) : Fin 3 → Nat :=
  let c0_2385 : Index := 0#32
  let c8_i32_2384 : BitVec 32 := 8#32
  let c0_i32_1198 : BitVec 32 := 0#32
  let c1_i32_1200 : BitVec 32 := 1#32
  let arg5 : BitVec 32 := Scf.iv c0_i32_1198 c1_i32_1200 k0_t14
  let v4904 : BitVec 32 := Scalar.muli c8_i32_2384 arg5
  let v4905 : Index := Scalar.indexCast v4904
  let c0_2386 : Index := 0#32
  ![0, v4905.toNat, 0]
def k0_off49 (k0_t14 : Fin k0_t14_loop.trips) : Fin 3 → Nat :=
  let c1_2388 : Index := 1#32
  let c8_i32_2387 : BitVec 32 := 8#32
  let c0_i32_1198 : BitVec 32 := 0#32
  let c1_i32_1200 : BitVec 32 := 1#32
  let arg5 : BitVec 32 := Scf.iv c0_i32_1198 c1_i32_1200 k0_t14
  let v4909 : BitVec 32 := Scalar.muli c8_i32_2387 arg5
  let v4910 : Index := Scalar.indexCast v4909
  let c1_2389 : Index := 1#32
  ![1, v4910.toNat, 1]
def k0_off50 (k0_t14 : Fin k0_t14_loop.trips) : Fin 3 → Nat :=
  let c2_2391 : Index := 2#32
  let c8_i32_2390 : BitVec 32 := 8#32
  let c0_i32_1198 : BitVec 32 := 0#32
  let c1_i32_1200 : BitVec 32 := 1#32
  let arg5 : BitVec 32 := Scf.iv c0_i32_1198 c1_i32_1200 k0_t14
  let v4914 : BitVec 32 := Scalar.muli c8_i32_2390 arg5
  let v4915 : Index := Scalar.indexCast v4914
  let c2_2392 : Index := 2#32
  ![2, v4915.toNat, 2]
@[reducible] def k0_t15_loop : Scf.Loop 32 :=
  let c1_i32_1247 : BitVec 32 := 1#32
  let c26_i32_1248 : BitVec 32 := 26#32
  let v2569 : BitVec 32 := Scalar.addi c1_i32_1247 c26_i32_1248
  let c1_i32_1249 : BitVec 32 := 1#32
  ⟨c1_i32_1247, v2569, c1_i32_1249⟩
def k0_off51 (k0_t15 : Fin k0_t15_loop.trips) : Fin 3 → Nat :=
  let c0_2356 : Index := 0#32
  let c8_i32_2355 : BitVec 32 := 8#32
  let c1_i32_1247 : BitVec 32 := 1#32
  let c1_i32_1249 : BitVec 32 := 1#32
  let arg5 : BitVec 32 := Scf.iv c1_i32_1247 c1_i32_1249 k0_t15
  let c1_i32_2354 : BitVec 32 := 1#32
  let v4850 : BitVec 32 := Scalar.subi arg5 c1_i32_2354
  let v4851 : BitVec 32 := Scalar.muli c8_i32_2355 v4850
  let v4852 : Index := Scalar.indexCast v4851
  let c0_2357 : Index := 0#32
  ![0, v4852.toNat, 0]
def k0_off52 (k0_t15 : Fin k0_t15_loop.trips) : Fin 3 → Nat :=
  let c1_2360 : Index := 1#32
  let c8_i32_2359 : BitVec 32 := 8#32
  let c1_i32_1247 : BitVec 32 := 1#32
  let c1_i32_1249 : BitVec 32 := 1#32
  let arg5 : BitVec 32 := Scf.iv c1_i32_1247 c1_i32_1249 k0_t15
  let c1_i32_2358 : BitVec 32 := 1#32
  let v4855 : BitVec 32 := Scalar.subi arg5 c1_i32_2358
  let v4856 : BitVec 32 := Scalar.muli c8_i32_2359 v4855
  let v4857 : Index := Scalar.indexCast v4856
  let c0_2361 : Index := 0#32
  ![1, v4857.toNat, 0]
def k0_off53 (k0_t15 : Fin k0_t15_loop.trips) : Fin 3 → Nat :=
  let c2_2364 : Index := 2#32
  let c8_i32_2363 : BitVec 32 := 8#32
  let c1_i32_1247 : BitVec 32 := 1#32
  let c1_i32_1249 : BitVec 32 := 1#32
  let arg5 : BitVec 32 := Scf.iv c1_i32_1247 c1_i32_1249 k0_t15
  let c1_i32_2362 : BitVec 32 := 1#32
  let v4860 : BitVec 32 := Scalar.subi arg5 c1_i32_2362
  let v4861 : BitVec 32 := Scalar.muli c8_i32_2363 v4860
  let v4862 : Index := Scalar.indexCast v4861
  let c0_2365 : Index := 0#32
  ![2, v4862.toNat, 0]
def k0_off54 (k0_t15 : Fin k0_t15_loop.trips) : Fin 3 → Nat :=
  let c2_2367 : Index := 2#32
  let c8_i32_2366 : BitVec 32 := 8#32
  let c1_i32_1247 : BitVec 32 := 1#32
  let c1_i32_1249 : BitVec 32 := 1#32
  let arg5 : BitVec 32 := Scf.iv c1_i32_1247 c1_i32_1249 k0_t15
  let v4865 : BitVec 32 := Scalar.muli c8_i32_2366 arg5
  let v4866 : Index := Scalar.indexCast v4865
  let c0_2368 : Index := 0#32
  ![2, v4866.toNat, 0]
def k0_off55 (k0_t15 : Fin k0_t15_loop.trips) : Fin 3 → Nat :=
  let c3_2370 : Index := 3#32
  let c8_i32_2369 : BitVec 32 := 8#32
  let c1_i32_1247 : BitVec 32 := 1#32
  let c1_i32_1249 : BitVec 32 := 1#32
  let arg5 : BitVec 32 := Scf.iv c1_i32_1247 c1_i32_1249 k0_t15
  let v4869 : BitVec 32 := Scalar.muli c8_i32_2369 arg5
  let v4870 : Index := Scalar.indexCast v4869
  let c0_2371 : Index := 0#32
  ![3, v4870.toNat, 0]
@[reducible] def k0_t16_loop : Scf.Loop 32 :=
  let c0_i32_1347 : BitVec 32 := 0#32
  let c27_i32_1348 : BitVec 32 := 27#32
  let v2739 : BitVec 32 := Scalar.addi c0_i32_1347 c27_i32_1348
  let c1_i32_1349 : BitVec 32 := 1#32
  ⟨c0_i32_1347, v2739, c1_i32_1349⟩
def k0_off56 (k0_t16 : Fin k0_t16_loop.trips) : Fin 2 → Nat :=
  let c8_i32_2354 : BitVec 32 := 8#32
  let c0_i32_1347 : BitVec 32 := 0#32
  let c1_i32_1349 : BitVec 32 := 1#32
  let arg5 : BitVec 32 := Scf.iv c0_i32_1347 c1_i32_1349 k0_t16
  let v4850 : BitVec 32 := Scalar.muli c8_i32_2354 arg5
  let v4853 : Index := Scalar.indexCast v4850
  let c0_2358 : Index := 0#32
  ![v4853.toNat, 0]
@[reducible] def k0_t17_loop : Scf.Loop 32 :=
  let c0_i32_1466 : BitVec 32 := 0#32
  let c27_i32_1467 : BitVec 32 := 27#32
  let v3042 : BitVec 32 := Scalar.addi c0_i32_1466 c27_i32_1467
  let c1_i32_1468 : BitVec 32 := 1#32
  ⟨c0_i32_1466, v3042, c1_i32_1468⟩
def k0_off57 (k0_t17 : Fin k0_t17_loop.trips) : Fin 2 → Nat :=
  let c8_i32_2354 : BitVec 32 := 8#32
  let c0_i32_1466 : BitVec 32 := 0#32
  let c1_i32_1468 : BitVec 32 := 1#32
  let arg5 : BitVec 32 := Scf.iv c0_i32_1466 c1_i32_1468 k0_t17
  let v4850 : BitVec 32 := Scalar.muli c8_i32_2354 arg5
  let v4853 : Index := Scalar.indexCast v4850
  let c0_2358 : Index := 0#32
  ![v4853.toNat, 0]
def k0_off58 (k0_t17 : Fin k0_t17_loop.trips) : Fin 3 → Nat :=
  let c0_2385 : Index := 0#32
  let c8_i32_2384 : BitVec 32 := 8#32
  let c0_i32_1466 : BitVec 32 := 0#32
  let c1_i32_1468 : BitVec 32 := 1#32
  let arg5 : BitVec 32 := Scf.iv c0_i32_1466 c1_i32_1468 k0_t17
  let v4907 : BitVec 32 := Scalar.muli c8_i32_2384 arg5
  let v4908 : Index := Scalar.indexCast v4907
  let c0_2386 : Index := 0#32
  ![0, v4908.toNat, 0]
def k0_off59 (k0_t17 : Fin k0_t17_loop.trips) : Fin 3 → Nat :=
  let c1_2388 : Index := 1#32
  let c8_i32_2387 : BitVec 32 := 8#32
  let c0_i32_1466 : BitVec 32 := 0#32
  let c1_i32_1468 : BitVec 32 := 1#32
  let arg5 : BitVec 32 := Scf.iv c0_i32_1466 c1_i32_1468 k0_t17
  let v4912 : BitVec 32 := Scalar.muli c8_i32_2387 arg5
  let v4913 : Index := Scalar.indexCast v4912
  let c1_2389 : Index := 1#32
  ![1, v4913.toNat, 1]
def k0_off60 (k0_t17 : Fin k0_t17_loop.trips) : Fin 3 → Nat :=
  let c2_2391 : Index := 2#32
  let c8_i32_2390 : BitVec 32 := 8#32
  let c0_i32_1466 : BitVec 32 := 0#32
  let c1_i32_1468 : BitVec 32 := 1#32
  let arg5 : BitVec 32 := Scf.iv c0_i32_1466 c1_i32_1468 k0_t17
  let v4917 : BitVec 32 := Scalar.muli c8_i32_2390 arg5
  let v4918 : Index := Scalar.indexCast v4917
  let c2_2392 : Index := 2#32
  ![2, v4918.toNat, 2]
@[reducible] def k0_t18_loop : Scf.Loop 32 :=
  let c1_i32_1515 : BitVec 32 := 1#32
  let c26_i32_1516 : BitVec 32 := 26#32
  let v3108 : BitVec 32 := Scalar.addi c1_i32_1515 c26_i32_1516
  let c1_i32_1517 : BitVec 32 := 1#32
  ⟨c1_i32_1515, v3108, c1_i32_1517⟩
def k0_off61 (k0_t18 : Fin k0_t18_loop.trips) : Fin 3 → Nat :=
  let c0_2356 : Index := 0#32
  let c8_i32_2355 : BitVec 32 := 8#32
  let c1_i32_1515 : BitVec 32 := 1#32
  let c1_i32_1517 : BitVec 32 := 1#32
  let arg5 : BitVec 32 := Scf.iv c1_i32_1515 c1_i32_1517 k0_t18
  let c1_i32_2354 : BitVec 32 := 1#32
  let v4850 : BitVec 32 := Scalar.subi arg5 c1_i32_2354
  let v4851 : BitVec 32 := Scalar.muli c8_i32_2355 v4850
  let v4852 : Index := Scalar.indexCast v4851
  let c0_2357 : Index := 0#32
  ![0, v4852.toNat, 0]
def k0_off62 (k0_t18 : Fin k0_t18_loop.trips) : Fin 3 → Nat :=
  let c1_2360 : Index := 1#32
  let c8_i32_2359 : BitVec 32 := 8#32
  let c1_i32_1515 : BitVec 32 := 1#32
  let c1_i32_1517 : BitVec 32 := 1#32
  let arg5 : BitVec 32 := Scf.iv c1_i32_1515 c1_i32_1517 k0_t18
  let c1_i32_2358 : BitVec 32 := 1#32
  let v4855 : BitVec 32 := Scalar.subi arg5 c1_i32_2358
  let v4856 : BitVec 32 := Scalar.muli c8_i32_2359 v4855
  let v4857 : Index := Scalar.indexCast v4856
  let c0_2361 : Index := 0#32
  ![1, v4857.toNat, 0]
def k0_off63 (k0_t18 : Fin k0_t18_loop.trips) : Fin 3 → Nat :=
  let c2_2364 : Index := 2#32
  let c8_i32_2363 : BitVec 32 := 8#32
  let c1_i32_1515 : BitVec 32 := 1#32
  let c1_i32_1517 : BitVec 32 := 1#32
  let arg5 : BitVec 32 := Scf.iv c1_i32_1515 c1_i32_1517 k0_t18
  let c1_i32_2362 : BitVec 32 := 1#32
  let v4860 : BitVec 32 := Scalar.subi arg5 c1_i32_2362
  let v4861 : BitVec 32 := Scalar.muli c8_i32_2363 v4860
  let v4862 : Index := Scalar.indexCast v4861
  let c0_2365 : Index := 0#32
  ![2, v4862.toNat, 0]
def k0_off64 (k0_t18 : Fin k0_t18_loop.trips) : Fin 3 → Nat :=
  let c3_2367 : Index := 3#32
  let c8_i32_2366 : BitVec 32 := 8#32
  let c1_i32_1515 : BitVec 32 := 1#32
  let c1_i32_1517 : BitVec 32 := 1#32
  let arg5 : BitVec 32 := Scf.iv c1_i32_1515 c1_i32_1517 k0_t18
  let v4865 : BitVec 32 := Scalar.muli c8_i32_2366 arg5
  let v4866 : Index := Scalar.indexCast v4865
  let c0_2368 : Index := 0#32
  ![3, v4866.toNat, 0]
@[reducible] def k0_t19_loop : Scf.Loop 32 :=
  let c0_i32_1600 : BitVec 32 := 0#32
  let c27_i32_1601 : BitVec 32 := 27#32
  let v3270 : BitVec 32 := Scalar.addi c0_i32_1600 c27_i32_1601
  let c1_i32_1602 : BitVec 32 := 1#32
  ⟨c0_i32_1600, v3270, c1_i32_1602⟩
def k0_off65 (k0_t19 : Fin k0_t19_loop.trips) : Fin 2 → Nat :=
  let c8_i32_2354 : BitVec 32 := 8#32
  let c0_i32_1600 : BitVec 32 := 0#32
  let c1_i32_1602 : BitVec 32 := 1#32
  let arg5 : BitVec 32 := Scf.iv c0_i32_1600 c1_i32_1602 k0_t19
  let v4850 : BitVec 32 := Scalar.muli c8_i32_2354 arg5
  let v4853 : Index := Scalar.indexCast v4850
  let c0_2358 : Index := 0#32
  ![v4853.toNat, 0]
def k0_off66 (k0_t19 : Fin k0_t19_loop.trips) : Fin 2 → Nat :=
  let c8_i32_2369 : BitVec 32 := 8#32
  let c0_i32_1600 : BitVec 32 := 0#32
  let c1_i32_1602 : BitVec 32 := 1#32
  let arg5 : BitVec 32 := Scf.iv c0_i32_1600 c1_i32_1602 k0_t19
  let v4866 : BitVec 32 := Scalar.muli c8_i32_2369 arg5
  let v4869 : Index := Scalar.indexCast v4866
  let c0_2373 : Index := 0#32
  ![v4869.toNat, 0]
@[reducible] def k0_t20_loop : Scf.Loop 32 :=
  let c0_i32_1718 : BitVec 32 := 0#32
  let c27_i32_1719 : BitVec 32 := 27#32
  let v3573 : BitVec 32 := Scalar.addi c0_i32_1718 c27_i32_1719
  let c1_i32_1720 : BitVec 32 := 1#32
  ⟨c0_i32_1718, v3573, c1_i32_1720⟩
def k0_off67 (k0_t20 : Fin k0_t20_loop.trips) : Fin 2 → Nat :=
  let c8_i32_2354 : BitVec 32 := 8#32
  let c0_i32_1718 : BitVec 32 := 0#32
  let c1_i32_1720 : BitVec 32 := 1#32
  let arg5 : BitVec 32 := Scf.iv c0_i32_1718 c1_i32_1720 k0_t20
  let v4850 : BitVec 32 := Scalar.muli c8_i32_2354 arg5
  let v4853 : Index := Scalar.indexCast v4850
  let c0_2358 : Index := 0#32
  ![v4853.toNat, 0]
def k0_off68 (k0_t20 : Fin k0_t20_loop.trips) : Fin 2 → Nat :=
  let c8_i32_2369 : BitVec 32 := 8#32
  let c0_i32_1718 : BitVec 32 := 0#32
  let c1_i32_1720 : BitVec 32 := 1#32
  let arg5 : BitVec 32 := Scf.iv c0_i32_1718 c1_i32_1720 k0_t20
  let v4866 : BitVec 32 := Scalar.muli c8_i32_2369 arg5
  let v4869 : Index := Scalar.indexCast v4866
  let c0_2373 : Index := 0#32
  ![v4869.toNat, 0]
def k0_off69 (k0_t20 : Fin k0_t20_loop.trips) : Fin 3 → Nat :=
  let c0_2385 : Index := 0#32
  let c8_i32_2384 : BitVec 32 := 8#32
  let c0_i32_1718 : BitVec 32 := 0#32
  let c1_i32_1720 : BitVec 32 := 1#32
  let arg5 : BitVec 32 := Scf.iv c0_i32_1718 c1_i32_1720 k0_t20
  let v4904 : BitVec 32 := Scalar.muli c8_i32_2384 arg5
  let v4905 : Index := Scalar.indexCast v4904
  let c0_2386 : Index := 0#32
  ![0, v4905.toNat, 0]
def k0_off70 (k0_t20 : Fin k0_t20_loop.trips) : Fin 3 → Nat :=
  let c1_2388 : Index := 1#32
  let c8_i32_2387 : BitVec 32 := 8#32
  let c0_i32_1718 : BitVec 32 := 0#32
  let c1_i32_1720 : BitVec 32 := 1#32
  let arg5 : BitVec 32 := Scf.iv c0_i32_1718 c1_i32_1720 k0_t20
  let v4909 : BitVec 32 := Scalar.muli c8_i32_2387 arg5
  let v4910 : Index := Scalar.indexCast v4909
  let c1_2389 : Index := 1#32
  ![1, v4910.toNat, 1]
def k0_off71 (k0_t20 : Fin k0_t20_loop.trips) : Fin 3 → Nat :=
  let c2_2391 : Index := 2#32
  let c8_i32_2390 : BitVec 32 := 8#32
  let c0_i32_1718 : BitVec 32 := 0#32
  let c1_i32_1720 : BitVec 32 := 1#32
  let arg5 : BitVec 32 := Scf.iv c0_i32_1718 c1_i32_1720 k0_t20
  let v4914 : BitVec 32 := Scalar.muli c8_i32_2390 arg5
  let v4915 : Index := Scalar.indexCast v4914
  let c2_2392 : Index := 2#32
  ![2, v4915.toNat, 2]
@[reducible] def k0_t21_loop : Scf.Loop 32 :=
  let c1_i32_1767 : BitVec 32 := 1#32
  let c26_i32_1768 : BitVec 32 := 26#32
  let v3639 : BitVec 32 := Scalar.addi c1_i32_1767 c26_i32_1768
  let c1_i32_1769 : BitVec 32 := 1#32
  ⟨c1_i32_1767, v3639, c1_i32_1769⟩
def k0_off72 (k0_t21 : Fin k0_t21_loop.trips) : Fin 3 → Nat :=
  let c0_2356 : Index := 0#32
  let c8_i32_2355 : BitVec 32 := 8#32
  let c1_i32_1767 : BitVec 32 := 1#32
  let c1_i32_1769 : BitVec 32 := 1#32
  let arg5 : BitVec 32 := Scf.iv c1_i32_1767 c1_i32_1769 k0_t21
  let c1_i32_2354 : BitVec 32 := 1#32
  let v4850 : BitVec 32 := Scalar.subi arg5 c1_i32_2354
  let v4851 : BitVec 32 := Scalar.muli c8_i32_2355 v4850
  let v4852 : Index := Scalar.indexCast v4851
  let c0_2357 : Index := 0#32
  ![0, v4852.toNat, 0]
def k0_off73 (k0_t21 : Fin k0_t21_loop.trips) : Fin 3 → Nat :=
  let c1_2360 : Index := 1#32
  let c8_i32_2359 : BitVec 32 := 8#32
  let c1_i32_1767 : BitVec 32 := 1#32
  let c1_i32_1769 : BitVec 32 := 1#32
  let arg5 : BitVec 32 := Scf.iv c1_i32_1767 c1_i32_1769 k0_t21
  let c1_i32_2358 : BitVec 32 := 1#32
  let v4855 : BitVec 32 := Scalar.subi arg5 c1_i32_2358
  let v4856 : BitVec 32 := Scalar.muli c8_i32_2359 v4855
  let v4857 : Index := Scalar.indexCast v4856
  let c0_2361 : Index := 0#32
  ![1, v4857.toNat, 0]
def k0_off74 (k0_t21 : Fin k0_t21_loop.trips) : Fin 3 → Nat :=
  let c2_2364 : Index := 2#32
  let c8_i32_2363 : BitVec 32 := 8#32
  let c1_i32_1767 : BitVec 32 := 1#32
  let c1_i32_1769 : BitVec 32 := 1#32
  let arg5 : BitVec 32 := Scf.iv c1_i32_1767 c1_i32_1769 k0_t21
  let c1_i32_2362 : BitVec 32 := 1#32
  let v4860 : BitVec 32 := Scalar.subi arg5 c1_i32_2362
  let v4861 : BitVec 32 := Scalar.muli c8_i32_2363 v4860
  let v4862 : Index := Scalar.indexCast v4861
  let c0_2365 : Index := 0#32
  ![2, v4862.toNat, 0]
def k0_off75 (k0_t21 : Fin k0_t21_loop.trips) : Fin 3 → Nat :=
  let c4_2367 : Index := 4#32
  let c8_i32_2366 : BitVec 32 := 8#32
  let c1_i32_1767 : BitVec 32 := 1#32
  let c1_i32_1769 : BitVec 32 := 1#32
  let arg5 : BitVec 32 := Scf.iv c1_i32_1767 c1_i32_1769 k0_t21
  let v4865 : BitVec 32 := Scalar.muli c8_i32_2366 arg5
  let v4866 : Index := Scalar.indexCast v4865
  let c0_2368 : Index := 0#32
  ![4, v4866.toNat, 0]
@[reducible] def k0_t22_loop : Scf.Loop 32 :=
  let c0_i32_1849 : BitVec 32 := 0#32
  let c27_i32_1850 : BitVec 32 := 27#32
  let v3795 : BitVec 32 := Scalar.addi c0_i32_1849 c27_i32_1850
  let c1_i32_1851 : BitVec 32 := 1#32
  ⟨c0_i32_1849, v3795, c1_i32_1851⟩
def k0_off76 (k0_t22 : Fin k0_t22_loop.trips) : Fin 2 → Nat :=
  let c8_i32_2354 : BitVec 32 := 8#32
  let c0_i32_1849 : BitVec 32 := 0#32
  let c1_i32_1851 : BitVec 32 := 1#32
  let arg5 : BitVec 32 := Scf.iv c0_i32_1849 c1_i32_1851 k0_t22
  let v4850 : BitVec 32 := Scalar.muli c8_i32_2354 arg5
  let v4853 : Index := Scalar.indexCast v4850
  let c0_2358 : Index := 0#32
  ![v4853.toNat, 0]
def k0_off77 (k0_t22 : Fin k0_t22_loop.trips) : Fin 2 → Nat :=
  let c8_i32_2369 : BitVec 32 := 8#32
  let c0_i32_1849 : BitVec 32 := 0#32
  let c1_i32_1851 : BitVec 32 := 1#32
  let arg5 : BitVec 32 := Scf.iv c0_i32_1849 c1_i32_1851 k0_t22
  let v4869 : BitVec 32 := Scalar.muli c8_i32_2369 arg5
  let v4872 : Index := Scalar.indexCast v4869
  let c0_2373 : Index := 0#32
  ![v4872.toNat, 0]
@[reducible] def k0_t23_loop : Scf.Loop 32 :=
  let c0_i32_1967 : BitVec 32 := 0#32
  let c27_i32_1968 : BitVec 32 := 27#32
  let v4098 : BitVec 32 := Scalar.addi c0_i32_1967 c27_i32_1968
  let c1_i32_1969 : BitVec 32 := 1#32
  ⟨c0_i32_1967, v4098, c1_i32_1969⟩
def k0_off78 (k0_t23 : Fin k0_t23_loop.trips) : Fin 2 → Nat :=
  let c8_i32_2354 : BitVec 32 := 8#32
  let c0_i32_1967 : BitVec 32 := 0#32
  let c1_i32_1969 : BitVec 32 := 1#32
  let arg5 : BitVec 32 := Scf.iv c0_i32_1967 c1_i32_1969 k0_t23
  let v4850 : BitVec 32 := Scalar.muli c8_i32_2354 arg5
  let v4853 : Index := Scalar.indexCast v4850
  let c0_2358 : Index := 0#32
  ![v4853.toNat, 0]
def k0_off79 (k0_t23 : Fin k0_t23_loop.trips) : Fin 2 → Nat :=
  let c8_i32_2369 : BitVec 32 := 8#32
  let c0_i32_1967 : BitVec 32 := 0#32
  let c1_i32_1969 : BitVec 32 := 1#32
  let arg5 : BitVec 32 := Scf.iv c0_i32_1967 c1_i32_1969 k0_t23
  let v4869 : BitVec 32 := Scalar.muli c8_i32_2369 arg5
  let v4872 : Index := Scalar.indexCast v4869
  let c0_2373 : Index := 0#32
  ![v4872.toNat, 0]
def k0_off80 (k0_t23 : Fin k0_t23_loop.trips) : Fin 3 → Nat :=
  let c0_2385 : Index := 0#32
  let c8_i32_2384 : BitVec 32 := 8#32
  let c0_i32_1967 : BitVec 32 := 0#32
  let c1_i32_1969 : BitVec 32 := 1#32
  let arg5 : BitVec 32 := Scf.iv c0_i32_1967 c1_i32_1969 k0_t23
  let v4904 : BitVec 32 := Scalar.muli c8_i32_2384 arg5
  let v4905 : Index := Scalar.indexCast v4904
  let c0_2386 : Index := 0#32
  ![0, v4905.toNat, 0]
def k0_off81 (k0_t23 : Fin k0_t23_loop.trips) : Fin 3 → Nat :=
  let c1_2388 : Index := 1#32
  let c8_i32_2387 : BitVec 32 := 8#32
  let c0_i32_1967 : BitVec 32 := 0#32
  let c1_i32_1969 : BitVec 32 := 1#32
  let arg5 : BitVec 32 := Scf.iv c0_i32_1967 c1_i32_1969 k0_t23
  let v4909 : BitVec 32 := Scalar.muli c8_i32_2387 arg5
  let v4910 : Index := Scalar.indexCast v4909
  let c1_2389 : Index := 1#32
  ![1, v4910.toNat, 1]
def k0_off82 (k0_t23 : Fin k0_t23_loop.trips) : Fin 3 → Nat :=
  let c2_2391 : Index := 2#32
  let c8_i32_2390 : BitVec 32 := 8#32
  let c0_i32_1967 : BitVec 32 := 0#32
  let c1_i32_1969 : BitVec 32 := 1#32
  let arg5 : BitVec 32 := Scf.iv c0_i32_1967 c1_i32_1969 k0_t23
  let v4914 : BitVec 32 := Scalar.muli c8_i32_2390 arg5
  let v4915 : Index := Scalar.indexCast v4914
  let c2_2392 : Index := 2#32
  ![2, v4915.toNat, 2]
@[reducible] def k0_t24_loop : Scf.Loop 32 :=
  let c1_i32_2016 : BitVec 32 := 1#32
  let c26_i32_2017 : BitVec 32 := 26#32
  let v4164 : BitVec 32 := Scalar.addi c1_i32_2016 c26_i32_2017
  let c1_i32_2018 : BitVec 32 := 1#32
  ⟨c1_i32_2016, v4164, c1_i32_2018⟩
def k0_off83 (k0_t24 : Fin k0_t24_loop.trips) : Fin 3 → Nat :=
  let c0_2356 : Index := 0#32
  let c8_i32_2355 : BitVec 32 := 8#32
  let c1_i32_2016 : BitVec 32 := 1#32
  let c1_i32_2018 : BitVec 32 := 1#32
  let arg5 : BitVec 32 := Scf.iv c1_i32_2016 c1_i32_2018 k0_t24
  let c1_i32_2354 : BitVec 32 := 1#32
  let v4850 : BitVec 32 := Scalar.subi arg5 c1_i32_2354
  let v4851 : BitVec 32 := Scalar.muli c8_i32_2355 v4850
  let v4852 : Index := Scalar.indexCast v4851
  let c0_2357 : Index := 0#32
  ![0, v4852.toNat, 0]
def k0_off84 (k0_t24 : Fin k0_t24_loop.trips) : Fin 3 → Nat :=
  let c1_2360 : Index := 1#32
  let c8_i32_2359 : BitVec 32 := 8#32
  let c1_i32_2016 : BitVec 32 := 1#32
  let c1_i32_2018 : BitVec 32 := 1#32
  let arg5 : BitVec 32 := Scf.iv c1_i32_2016 c1_i32_2018 k0_t24
  let c1_i32_2358 : BitVec 32 := 1#32
  let v4855 : BitVec 32 := Scalar.subi arg5 c1_i32_2358
  let v4856 : BitVec 32 := Scalar.muli c8_i32_2359 v4855
  let v4857 : Index := Scalar.indexCast v4856
  let c0_2361 : Index := 0#32
  ![1, v4857.toNat, 0]
def k0_off85 (k0_t24 : Fin k0_t24_loop.trips) : Fin 3 → Nat :=
  let c2_2364 : Index := 2#32
  let c8_i32_2363 : BitVec 32 := 8#32
  let c1_i32_2016 : BitVec 32 := 1#32
  let c1_i32_2018 : BitVec 32 := 1#32
  let arg5 : BitVec 32 := Scf.iv c1_i32_2016 c1_i32_2018 k0_t24
  let c1_i32_2362 : BitVec 32 := 1#32
  let v4860 : BitVec 32 := Scalar.subi arg5 c1_i32_2362
  let v4861 : BitVec 32 := Scalar.muli c8_i32_2363 v4860
  let v4862 : Index := Scalar.indexCast v4861
  let c0_2365 : Index := 0#32
  ![2, v4862.toNat, 0]
def k0_off86 (k0_t24 : Fin k0_t24_loop.trips) : Fin 3 → Nat :=
  let c4_2367 : Index := 4#32
  let c8_i32_2366 : BitVec 32 := 8#32
  let c1_i32_2016 : BitVec 32 := 1#32
  let c1_i32_2018 : BitVec 32 := 1#32
  let arg5 : BitVec 32 := Scf.iv c1_i32_2016 c1_i32_2018 k0_t24
  let v4865 : BitVec 32 := Scalar.muli c8_i32_2366 arg5
  let v4866 : Index := Scalar.indexCast v4865
  let c0_2368 : Index := 0#32
  ![4, v4866.toNat, 0]
def k0_off87 (k0_t24 : Fin k0_t24_loop.trips) : Fin 3 → Nat :=
  let c5_2370 : Index := 5#32
  let c8_i32_2369 : BitVec 32 := 8#32
  let c1_i32_2016 : BitVec 32 := 1#32
  let c1_i32_2018 : BitVec 32 := 1#32
  let arg5 : BitVec 32 := Scf.iv c1_i32_2016 c1_i32_2018 k0_t24
  let v4869 : BitVec 32 := Scalar.muli c8_i32_2369 arg5
  let v4870 : Index := Scalar.indexCast v4869
  let c0_2371 : Index := 0#32
  ![5, v4870.toNat, 0]
@[reducible] def k0_t25_loop : Scf.Loop 32 :=
  let c0_i32_2116 : BitVec 32 := 0#32
  let c27_i32_2117 : BitVec 32 := 27#32
  let v4334 : BitVec 32 := Scalar.addi c0_i32_2116 c27_i32_2117
  let c1_i32_2118 : BitVec 32 := 1#32
  ⟨c0_i32_2116, v4334, c1_i32_2118⟩
def k0_off88 (k0_t25 : Fin k0_t25_loop.trips) : Fin 2 → Nat :=
  let c8_i32_2354 : BitVec 32 := 8#32
  let c0_i32_2116 : BitVec 32 := 0#32
  let c1_i32_2118 : BitVec 32 := 1#32
  let arg5 : BitVec 32 := Scf.iv c0_i32_2116 c1_i32_2118 k0_t25
  let v4850 : BitVec 32 := Scalar.muli c8_i32_2354 arg5
  let v4853 : Index := Scalar.indexCast v4850
  let c0_2358 : Index := 0#32
  ![v4853.toNat, 0]
@[reducible] def k0_t26_loop : Scf.Loop 32 :=
  let c0_i32_2235 : BitVec 32 := 0#32
  let c27_i32_2236 : BitVec 32 := 27#32
  let v4637 : BitVec 32 := Scalar.addi c0_i32_2235 c27_i32_2236
  let c1_i32_2237 : BitVec 32 := 1#32
  ⟨c0_i32_2235, v4637, c1_i32_2237⟩
def k0_off89 (k0_t26 : Fin k0_t26_loop.trips) : Fin 2 → Nat :=
  let c8_i32_2354 : BitVec 32 := 8#32
  let c0_i32_2235 : BitVec 32 := 0#32
  let c1_i32_2237 : BitVec 32 := 1#32
  let arg5 : BitVec 32 := Scf.iv c0_i32_2235 c1_i32_2237 k0_t26
  let v4850 : BitVec 32 := Scalar.muli c8_i32_2354 arg5
  let v4853 : Index := Scalar.indexCast v4850
  let c0_2358 : Index := 0#32
  ![v4853.toNat, 0]
def k0_off90 (k0_t26 : Fin k0_t26_loop.trips) : Fin 3 → Nat :=
  let c0_2385 : Index := 0#32
  let c8_i32_2384 : BitVec 32 := 8#32
  let c0_i32_2235 : BitVec 32 := 0#32
  let c1_i32_2237 : BitVec 32 := 1#32
  let arg5 : BitVec 32 := Scf.iv c0_i32_2235 c1_i32_2237 k0_t26
  let v4907 : BitVec 32 := Scalar.muli c8_i32_2384 arg5
  let v4908 : Index := Scalar.indexCast v4907
  let c0_2386 : Index := 0#32
  ![0, v4908.toNat, 0]
def k0_off91 (k0_t26 : Fin k0_t26_loop.trips) : Fin 3 → Nat :=
  let c1_2388 : Index := 1#32
  let c8_i32_2387 : BitVec 32 := 8#32
  let c0_i32_2235 : BitVec 32 := 0#32
  let c1_i32_2237 : BitVec 32 := 1#32
  let arg5 : BitVec 32 := Scf.iv c0_i32_2235 c1_i32_2237 k0_t26
  let v4912 : BitVec 32 := Scalar.muli c8_i32_2387 arg5
  let v4913 : Index := Scalar.indexCast v4912
  let c1_2389 : Index := 1#32
  ![1, v4913.toNat, 1]
def k0_off92 (k0_t26 : Fin k0_t26_loop.trips) : Fin 3 → Nat :=
  let c2_2391 : Index := 2#32
  let c8_i32_2390 : BitVec 32 := 8#32
  let c0_i32_2235 : BitVec 32 := 0#32
  let c1_i32_2237 : BitVec 32 := 1#32
  let arg5 : BitVec 32 := Scf.iv c0_i32_2235 c1_i32_2237 k0_t26
  let v4917 : BitVec 32 := Scalar.muli c8_i32_2390 arg5
  let v4918 : Index := Scalar.indexCast v4917
  let c2_2392 : Index := 2#32
  ![2, v4918.toNat, 2]
@[reducible] def k0_t27_loop : Scf.Loop 32 :=
  let c1_i32_2284 : BitVec 32 := 1#32
  let c26_i32_2285 : BitVec 32 := 26#32
  let v4703 : BitVec 32 := Scalar.addi c1_i32_2284 c26_i32_2285
  let c1_i32_2286 : BitVec 32 := 1#32
  ⟨c1_i32_2284, v4703, c1_i32_2286⟩
def k0_off93 (k0_t27 : Fin k0_t27_loop.trips) : Fin 3 → Nat :=
  let c0_2356 : Index := 0#32
  let c8_i32_2355 : BitVec 32 := 8#32
  let c1_i32_2284 : BitVec 32 := 1#32
  let c1_i32_2286 : BitVec 32 := 1#32
  let arg5 : BitVec 32 := Scf.iv c1_i32_2284 c1_i32_2286 k0_t27
  let c1_i32_2354 : BitVec 32 := 1#32
  let v4850 : BitVec 32 := Scalar.subi arg5 c1_i32_2354
  let v4851 : BitVec 32 := Scalar.muli c8_i32_2355 v4850
  let v4852 : Index := Scalar.indexCast v4851
  let c0_2357 : Index := 0#32
  ![0, v4852.toNat, 0]
def k0_off94 (k0_t27 : Fin k0_t27_loop.trips) : Fin 3 → Nat :=
  let c1_2360 : Index := 1#32
  let c8_i32_2359 : BitVec 32 := 8#32
  let c1_i32_2284 : BitVec 32 := 1#32
  let c1_i32_2286 : BitVec 32 := 1#32
  let arg5 : BitVec 32 := Scf.iv c1_i32_2284 c1_i32_2286 k0_t27
  let c1_i32_2358 : BitVec 32 := 1#32
  let v4855 : BitVec 32 := Scalar.subi arg5 c1_i32_2358
  let v4856 : BitVec 32 := Scalar.muli c8_i32_2359 v4855
  let v4857 : Index := Scalar.indexCast v4856
  let c0_2361 : Index := 0#32
  ![1, v4857.toNat, 0]
def k0_off95 (k0_t27 : Fin k0_t27_loop.trips) : Fin 3 → Nat :=
  let c2_2364 : Index := 2#32
  let c8_i32_2363 : BitVec 32 := 8#32
  let c1_i32_2284 : BitVec 32 := 1#32
  let c1_i32_2286 : BitVec 32 := 1#32
  let arg5 : BitVec 32 := Scf.iv c1_i32_2284 c1_i32_2286 k0_t27
  let c1_i32_2362 : BitVec 32 := 1#32
  let v4860 : BitVec 32 := Scalar.subi arg5 c1_i32_2362
  let v4861 : BitVec 32 := Scalar.muli c8_i32_2363 v4860
  let v4862 : Index := Scalar.indexCast v4861
  let c0_2365 : Index := 0#32
  ![2, v4862.toNat, 0]
def k0_off96 (k0_t27 : Fin k0_t27_loop.trips) : Fin 3 → Nat :=
  let c5_2367 : Index := 5#32
  let c8_i32_2366 : BitVec 32 := 8#32
  let c1_i32_2284 : BitVec 32 := 1#32
  let c1_i32_2286 : BitVec 32 := 1#32
  let arg5 : BitVec 32 := Scf.iv c1_i32_2284 c1_i32_2286 k0_t27
  let v4865 : BitVec 32 := Scalar.muli c8_i32_2366 arg5
  let v4866 : Index := Scalar.indexCast v4865
  let c0_2368 : Index := 0#32
  ![5, v4866.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S6x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "sixth" => some ((1 / 6 : ℝ) : EReal)
  | _ => none
-- ==== ReferenceIdeal.lean ====
abbrev S1x96x224x224 : Shape := ⟨4, ![1, 96, 224, 224]⟩
abbrev S16x6x224x224 : Shape := ⟨4, ![16, 6, 224, 224]⟩
abbrev S16x6x222x222 : Shape := ⟨4, ![16, 6, 222, 222]⟩
abbrev S16x6x1x222x222 : Shape := ⟨5, ![16, 6, 1, 222, 222]⟩
abbrev S16x6x9x222x222 : Shape := ⟨5, ![16, 6, 9, 222, 222]⟩
abbrev S16x9x6x222x222 : Shape := ⟨5, ![16, 9, 6, 222, 222]⟩
abbrev S16x9x6x1x222x222 : Shape := ⟨6, ![16, 9, 6, 1, 222, 222]⟩
abbrev S16x9x1x6x222x222 : Shape := ⟨6, ![16, 9, 1, 6, 222, 222]⟩
abbrev S16x9x6x6x222x222 : Shape := ⟨6, ![16, 9, 6, 6, 222, 222]⟩
abbrev S_ : Shape := ⟨0, ![]⟩
abbrev S16x9x6x6 : Shape := ⟨4, ![16, 9, 6, 6]⟩
abbrev S6x6 : Shape := ⟨2, ![6, 6]⟩
abbrev S16x9x6 : Shape := ⟨3, ![16, 9, 6]⟩
abbrev S16x9 : Shape := ⟨2, ![16, 9]⟩
abbrev S16x9x1 : Shape := ⟨3, ![16, 9, 1]⟩
abbrev S16x9x1x1x1 : Shape := ⟨5, ![16, 9, 1, 1, 1]⟩
abbrev S16x9x1x1 : Shape := ⟨4, ![16, 9, 1, 1]⟩
abbrev S1 : Shape := ⟨1, ![1]⟩
abbrev S1x1x1x1 : Shape := ⟨4, ![1, 1, 1, 1]⟩
abbrev S16x9x1x222x222 : Shape := ⟨5, ![16, 9, 1, 222, 222]⟩
abbrev S16x6x3x3x222x222 : Shape := ⟨6, ![16, 6, 3, 3, 222, 222]⟩
abbrev S16x6x1x1x222x222 : Shape := ⟨6, ![16, 6, 1, 1, 222, 222]⟩

abbrev nBuf : Space → Nat
  | .hbm => 147
  | .vmem => 0
  | .smem => 0
  | _ => 0

abbrev hbmTy0_0 (i : Nat) : BufTy := match i % 128 with
  | 0 => ⟨S1x96x224x224, .f32⟩
  | 1 => ⟨S16x6x224x224, .f32⟩
  | 2 => ⟨S16x6x222x222, .f32⟩
  | 3 => ⟨S16x6x222x222, .f32⟩
  | 4 => ⟨S16x6x222x222, .f32⟩
  | 5 => ⟨S16x6x222x222, .f32⟩
  | 6 => ⟨S16x6x222x222, .f32⟩
  | 7 => ⟨S16x6x222x222, .f32⟩
  | 8 => ⟨S16x6x222x222, .f32⟩
  | 9 => ⟨S16x6x222x222, .f32⟩
  | 10 => ⟨S16x6x222x222, .f32⟩
  | 11 => ⟨S16x6x1x222x222, .f32⟩
  | 12 => ⟨S16x6x1x222x222, .f32⟩
  | 13 => ⟨S16x6x1x222x222, .f32⟩
  | 14 => ⟨S16x6x1x222x222, .f32⟩
  | 15 => ⟨S16x6x1x222x222, .f32⟩
  | 16 => ⟨S16x6x1x222x222, .f32⟩
  | 17 => ⟨S16x6x1x222x222, .f32⟩
  | 18 => ⟨S16x6x1x222x222, .f32⟩
  | 19 => ⟨S16x6x1x222x222, .f32⟩
  | 20 => ⟨S16x6x9x222x222, .f32⟩
  | 21 => ⟨S16x9x6x222x222, .f32⟩
  | 22 => ⟨S16x9x6x1x222x222, .f32⟩
  | 23 => ⟨S16x9x1x6x222x222, .f32⟩
  | 24 => ⟨S16x9x6x6x222x222, .f32⟩
  | 25 => ⟨S16x9x6x6x222x222, .f32⟩
  | 26 => ⟨S16x9x6x6x222x222, .f32⟩
  | 27 => ⟨S16x9x6x6x222x222, .f32⟩
  | 28 => ⟨S_, .f32⟩
  | 29 => ⟨S16x9x6x6, .f32⟩
  | 30 => ⟨S16x9x6x6, .f32⟩
  | 31 => ⟨S6x6, .i32⟩
  | 32 => ⟨S6x6, .i32⟩
  | 33 => ⟨S_, .i32⟩
  | 34 => ⟨S6x6, .i32⟩
  | 35 => ⟨S6x6, .i32⟩
  | 36 => ⟨S6x6, .i1⟩
  | 37 => ⟨S_, .f32⟩
  | 38 => ⟨S_, .f32⟩
  | 39 => ⟨S16x9x6x6, .i1⟩
  | 40 => ⟨S16x9x6x6, .f32⟩
  | 41 => ⟨S16x9x6x6, .f32⟩
  | 42 => ⟨S16x9x6x6, .i32⟩
  | 43 => ⟨S_, .f32⟩
  | 44 => ⟨S_, .i32⟩
  | 45 => ⟨S16x9x6, .f32⟩
  | 46 => ⟨S16x9x6, .i32⟩
  | 47 => ⟨S_, .i32⟩
  | 48 => ⟨S16x9, .i32⟩
  | 49 => ⟨S16x9x1, .i32⟩
  | 50 => ⟨S16x9x6, .i32⟩
  | 51 => ⟨S16x9x6, .i1⟩
  | 52 => ⟨S16x9x6, .i32⟩
  | 53 => ⟨S_, .i32⟩
  | 54 => ⟨S16x9, .i32⟩
  | 55 => ⟨S16x9x1x1x1, .i32⟩
  | 56 => ⟨S_, .i32⟩
  | 57 => ⟨S16x9x1x1x1, .i32⟩
  | 58 => ⟨S16x9x1x1x1, .i1⟩
  | 59 => ⟨S_, .i32⟩
  | 60 => ⟨S16x9x1x1x1, .i32⟩
  | 61 => ⟨S16x9x1x1x1, .i32⟩
  | 62 => ⟨S16x9x1x1x1, .i32⟩
  | 63 => ⟨S16x9x1x1, .i32⟩
  | 64 => ⟨S1, .i32⟩
  | 65 => ⟨S_, .i32⟩
  | 66 => ⟨S16x9x1x1, .i32⟩
  | 67 => ⟨S16x9x1x1, .i1⟩
  | 68 => ⟨S1x1x1x1, .i32⟩
  | 69 => ⟨S16x9x1x1, .i32⟩
  | 70 => ⟨S16x9x1x1, .i1⟩
  | 71 => ⟨S16x9x1x1, .i1⟩
  | 72 => ⟨S_, .i1⟩
  | 73 => ⟨S16x9x1, .i1⟩
  | 74 => ⟨S16x9x1x222x222, .f32⟩
  | 75 => ⟨S16x9x1x222x222, .i1⟩
  | 76 => ⟨S_, .f32⟩
  | 77 => ⟨S16x9x1x222x222, .f32⟩
  | 78 => ⟨S16x9x1x222x222, .f32⟩
  | 79 => ⟨S16x9x6x222x222, .f32⟩
  | 80 => ⟨S16x9x6x222x222, .f32⟩
  | 81 => ⟨S16x9x1x1x1, .i32⟩
  | 82 => ⟨S16x9x1x1x1, .f32⟩
  | 83 => ⟨S16x9x6x222x222, .f32⟩
  | 84 => ⟨S16x9x6x222x222, .f32⟩
  | 85 => ⟨S_, .f32⟩
  | 86 => ⟨S16x9x6x222x222, .f32⟩
  | 87 => ⟨S16x9x6x222x222, .f32⟩
  | 88 => ⟨S16x9x6x222x222, .f32⟩
  | 89 => ⟨S16x6x3x3x222x222, .f32⟩
  | 90 => ⟨S_, .f32⟩
  | 91 => ⟨S16x6x224x224, .f32⟩
  | 92 => ⟨S16x6x1x1x222x222, .f32⟩
  | 93 => ⟨S16x6x222x222, .f32⟩
  | 94 => ⟨S_, .i32⟩
  | 95 => ⟨S_, .f32⟩
  | 96 => ⟨S16x6x224x224, .f32⟩
  | 97 => ⟨S16x6x224x224, .f32⟩
  | 98 => ⟨S16x6x1x1x222x222, .f32⟩
  | 99 => ⟨S16x6x222x222, .f32⟩
  | 100 => ⟨S_, .i32⟩
  | 101 => ⟨S_, .f32⟩
  | 102 => ⟨S16x6x224x224, .f32⟩
  | 103 => ⟨S16x6x224x224, .f32⟩
  | 104 => ⟨S16x6x1x1x222x222, .f32⟩
  | 105 => ⟨S16x6x222x222, .f32⟩
  | 106 => ⟨S_, .i32⟩
  | 107 => ⟨S_, .f32⟩
  | 108 => ⟨S16x6x224x224, .f32⟩
  | 109 => ⟨S16x6x224x224, .f32⟩
  | 110 => ⟨S16x6x1x1x222x222, .f32⟩
  | 111 => ⟨S16x6x222x222, .f32⟩
  | 112 => ⟨S_, .i32⟩
  | 113 => ⟨S_, .f32⟩
  | 114 => ⟨S16x6x224x224, .f32⟩
  | 115 => ⟨S16x6x224x224, .f32⟩
  | 116 => ⟨S16x6x1x1x222x222, .f32⟩
  | 117 => ⟨S16x6x222x222, .f32⟩
  | 118 => ⟨S_, .i32⟩
  | 119 => ⟨S_, .f32⟩
  | 120 => ⟨S16x6x224x224, .f32⟩
  | 121 => ⟨S16x6x224x224, .f32⟩
  | 122 => ⟨S16x6x1x1x222x222, .f32⟩
  | 123 => ⟨S16x6x222x222, .f32⟩
  | 124 => ⟨S_, .i32⟩
  | 125 => ⟨S_, .f32⟩
  | 126 => ⟨S16x6x224x224, .f32⟩
  | 127 => ⟨S16x6x224x224, .f32⟩
  | _ => ⟨S1x96x224x224, .f32⟩

abbrev hbmTy0_1 (i : Nat) : BufTy := match i % 128 with
  | 0 => ⟨S16x6x1x1x222x222, .f32⟩
  | 1 => ⟨S16x6x222x222, .f32⟩
  | 2 => ⟨S_, .i32⟩
  | 3 => ⟨S_, .f32⟩
  | 4 => ⟨S16x6x224x224, .f32⟩
  | 5 => ⟨S16x6x224x224, .f32⟩
  | 6 => ⟨S16x6x1x1x222x222, .f32⟩
  | 7 => ⟨S16x6x222x222, .f32⟩
  | 8 => ⟨S_, .i32⟩
  | 9 => ⟨S_, .f32⟩
  | 10 => ⟨S16x6x224x224, .f32⟩
  | 11 => ⟨S16x6x224x224, .f32⟩
  | 12 => ⟨S16x6x1x1x222x222, .f32⟩
  | 13 => ⟨S16x6x222x222, .f32⟩
  | 14 => ⟨S_, .i32⟩
  | 15 => ⟨S_, .f32⟩
  | 16 => ⟨S16x6x224x224, .f32⟩
  | 17 => ⟨S16x6x224x224, .f32⟩
  | 18 => ⟨S1x96x224x224, .f32⟩
  | _ => ⟨S1x96x224x224, .f32⟩

abbrev hbmTy (i : Nat) : BufTy := match i / 128 with
  | 0 => hbmTy0_0 i
  | 1 => hbmTy0_1 i
  | _ => ⟨S1x96x224x224, .f32⟩

abbrev bufTy : (tb : Table) → Fin (tcTables nBuf tb) → BufTy
  | .hbm, ⟨i, _⟩ => hbmTy i
  | _, _ => ⟨S1x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_cst : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_c : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_cst_0 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v34 : Ref sig .tc := ⟨.hbm, 41, rfl⟩
abbrev main_call1_v0 : Ref sig .tc := ⟨.hbm, 42, rfl⟩
abbrev main_call1_cst : Ref sig .tc := ⟨.hbm, 43, rfl⟩
abbrev main_call1_c : Ref sig .tc := ⟨.hbm, 44, rfl⟩
abbrev main_call1_v1_0 : Ref sig .tc := ⟨.hbm, 45, rfl⟩
abbrev main_v35 : Ref sig .tc := ⟨.hbm, 46, rfl⟩
abbrev main_c_1 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_2 : Ref sig .tc := ⟨.hbm, 53, rfl⟩
abbrev main_v41 : Ref sig .tc := ⟨.hbm, 54, rfl⟩
abbrev main_v42 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_3 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_4 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_c_5 : Ref sig .tc := ⟨.hbm, 94, rfl⟩
abbrev main_call3_v0 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_c_6 : Ref sig .tc := ⟨.hbm, 100, rfl⟩
abbrev main_call4_v0 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_c_7 : Ref sig .tc := ⟨.hbm, 106, rfl⟩
abbrev main_call5_v0 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_c_8 : Ref sig .tc := ⟨.hbm, 112, rfl⟩
abbrev main_call6_v0 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_c_9 : Ref sig .tc := ⟨.hbm, 118, rfl⟩
abbrev main_call7_v0 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_c_10 : Ref sig .tc := ⟨.hbm, 124, rfl⟩
abbrev main_call8_v0 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_c_11 : Ref sig .tc := ⟨.hbm, 130, rfl⟩
abbrev main_call9_v0 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_c_12 : Ref sig .tc := ⟨.hbm, 136, rfl⟩
abbrev main_call10_v0 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_c_13 : Ref sig .tc := ⟨.hbm, 142, rfl⟩
abbrev main_call11_v0 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩

abbrev nD : Nat := 1
abbrev τ : Topo := Topo.v7x

variable {F : FTy → Type} [FloatOps F]
-- ==== Proof.Run.lean ====
/-
  A pure account of a kernel body's run over four buffers: an input that is only read, and three that are read and
  written. `Run` says what holds of the result and of the three buffers when a program returns; it is composed
  from one rule for each kind of statement.
-/
module

public import Idealize.ShloMosaic.Lib.Pipeline.Kit
public import Idealize.ShloMosaic.Lib.Pipeline.FrameBody
public import Idealize.ShloMosaic.Lib.Tactic

@[expose] public section

noncomputable section

namespace Cert.Motif

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {F : FTy → Type} {Λ : Labels}

/-- The four buffers' memrefs: the input block, the output block, the shifted copies, the selected windows. -/
structure Bufs (sig : RefSig) (S1 S2 S3 S4 : Shape) where
  /-- the input block -/
  m1 : Memref sig .tc .vmem S1 .f32
  /-- the output block -/
  m2 : Memref sig .tc .vmem S2 .f32
  /-- the shifted copies -/
  m3 : Memref sig .tc .vmem S3 .f32
  /-- the selected windows -/
  m4 : Memref sig .tc .vmem S4 .f32

/-- What the three written buffers read. -/
structure St (F : FTy → Type) (S2 S3 S4 : Shape) where
  /-- the output block -/
  o : Vec F S2 .f32
  /-- the shifted copies -/
  sh : Vec F S3 .f32
  /-- the selected windows -/
  sel : Vec F S4 .f32

variable {S1 S2 S3 S4 : Shape}

local notation "𝕄" => MT nD τ sig Unit (Elt F) ℕ (UR sig nD τ) ℕ

/-- The four buffers held, the input reading `x` and the others the state. -/
def Held (c : Dev nD) (B : Bufs sig S1 S2 S3 S4) (x : Vec F S1 .f32) (s : St F S2 S3 S4) : sProp 𝕄 :=
  iprop(owns (c : Thread nD τ) B.m1 fullShare x ∗ owns (c : Thread nD τ) B.m2 fullShare s.o
    ∗ owns (c : Thread nD τ) B.m3 fullShare s.sh ∗ owns (c : Thread nD τ) B.m4 fullShare s.sel)

/-- From the state `s` the program runs to its return, at a result and a state that meet `post`. -/
def Run (defs : Defs nD τ sig (Elt F) Λ) (c : Dev nD) (B : Bufs sig S1 S2 S3 S4) (x : Vec F S1 .f32) {α : Type}
    (p : Prog (TpuEff nD τ sig (Elt F) Λ .tc) α) (s : St F S2 S3 S4) (post : α → St F S2 S3 S4 → Prop) : Prop :=
  ∀ Q : α → sProp 𝕄, (∀ a s', post a s' → Held c B x s' ⊢ Q a) →
    Held c B x s ⊢ wp frame (wpE defs Variants.none (c : Thread nD τ) none) Set.univ p Q

variable {defs : Defs nD τ sig (Elt F) Λ} {c : Dev nD} {B : Bufs sig S1 S2 S3 S4} {x : Vec F S1 .f32} {α β : Type}
  {s : St F S2 S3 S4}

/-- A return. -/
theorem Run.ret {a : α} {post : α → St F S2 S3 S4 → Prop} (h : post a s) : Run defs c B x (.ret a) s post := fun Q hQ => by
  rw [wp_ret]
  refine (hQ a s h).trans ?_
  iintro H
  imodintro
  iexact H

/-- A return, as a body writes it. -/
theorem Run.pure {a : α} {post : α → St F S2 S3 S4 → Prop} (h : post a s) : Run defs c B x (Pure.pure a) s post :=
  Run.ret h

/-- One program after another. -/
theorem Run.bind {p : Prog (TpuEff nD τ sig (Elt F) Λ .tc) α} {k : α → Prog (TpuEff nD τ sig (Elt F) Λ .tc) β}
    {post : β → St F S2 S3 S4 → Prop} (h : Run defs c B x p s fun a s' => Run defs c B x (k a) s' post) :
    Run defs c B x (p >>= k) s post := fun Q hQ => by
  rw [wp_bind]
  exact h _ fun a s' h' => h' Q hQ

/-- A weaker conclusion. -/
theorem Run.mono {p : Prog (TpuEff nD τ sig (Elt F) Λ .tc) α} {post post' : α → St F S2 S3 S4 → Prop}
    (h : Run defs c B x p s post) (hp : ∀ a s', post a s' → post' a s') : Run defs c B x p s post' :=
  fun Q hQ => h Q fun a s' h' => hQ a s' (hp a s' h')

/-- A run beside what it does not touch. -/
theorem Run.framed {p : Prog (TpuEff nD τ sig (Elt F) Λ .tc) α} {post : α → St F S2 S3 S4 → Prop}
    (h : Run defs c B x p s post) {R : sProp 𝕄} {Q : α → sProp 𝕄}
    (hQ : ∀ a s', post a s' → iprop(Held c B x s' ∗ R) ⊢ Q a) :
    iprop(Held c B x s ∗ R) ⊢ wp frame (wpE defs Variants.none (c : Thread nD τ) none) Set.univ p Q := by
  refine BIBase.Entails.trans (BI.sep_mono_l (h (fun a => iprop(∃ s', ⌜post a s'⌝ ∗ Held c B x s')) ?_)) ?_
  · intro a s' h'
    iintro H
    iexists s'
    isplitr
    · ipureintro; exact h'
    · iexact H
  · refine BIBase.Entails.trans (wp_frame_r _ _ _) (wp_mono _ _ _ fun a => ?_)
    iintro ⟨⟨%s', %h', H⟩, HR⟩
    iapply (hQ a s' h')
    isplitl [H]
    · iexact H
    · iexact HR

section Owned

/-- A load through a memref that is held: it reads what the memref reads, at the coordinates loaded. -/
theorem lift_load {S : Shape} {m : Memref sig .tc .vmem S .f32} {X : Vec F S .f32} {r : LoadRect S} {hl : m.view.LoadsAt r}
    {Q : Vec F r.shape .f32 → sProp 𝕄} :
    owns (c : Thread nD τ) m fullShare X ⊢
      iprop((owns (c : Thread nD τ) m fullShare X -∗ Q (fun i => X (r.idx i)))
        -∗ wp frame (wpE defs Variants.none (c : Thread nD τ) none) Set.univ (Prog.lift (.load m r hl)) Q) := by
  unfold owns
  iintro ⟨%f, %hf, H⟩ HQ
  subst hf
  iapply (wp_load (m := m) Variants.none (c : Thread nD τ) none Set.univ (View.setOn_subset_set _ _)) $$ H
  iintro H
  rw [wp_ret, show m.view.readAt (Elt F) r f = fun i => m.view.read (Elt F) f (r.idx i) from rfl]
  imodintro
  iapply HQ
  iexists f
  isplitr
  · ipureintro; rfl
  · iexact H

/-- A load through one slab of a memref that is held, the slab's axes of one coordinate dropped. -/
theorem lift_load_slab {S s' : Shape} {m : Memref sig .tc .vmem S .f32} {X : Vec F S .f32} {R : Rect S}
    {hR : ∀ a, R.stride a = 1} {hs : R.shape.Squeezes s'} {r : LoadRect s'}
    {hl : ((m.slice R hR).squeeze s' hs).view.LoadsAt r} {Q : Vec F r.shape .f32 → sProp 𝕄} :
    owns (c : Thread nD τ) m fullShare X ⊢
      iprop((owns (c : Thread nD τ) m fullShare X -∗ Q (fun i => X (R.emb (Shape.reshapeEquiv hs.numel_eq (r.idx i)))))
        -∗ wp frame (wpE defs Variants.none (c : Thread nD τ) none) Set.univ
          (Prog.lift (.load ((m.slice R hR).squeeze s' hs) r hl)) Q) := by
  unfold owns
  iintro ⟨%f, %hf, H⟩ HQ
  subst hf
  have hsub : ((m.slice R hR).squeeze s' hs).view.setOn r.set ⊆ m.view.set := by
    refine (View.setOn_subset_set _ _).trans ?_
    intro i hi
    obtain ⟨y, -, rfl⟩ := Finset.mem_map.mp hi
    exact m.view.emb_mem_set _
  iapply (wp_load (m := (m.slice R hR).squeeze s' hs) Variants.none (c : Thread nD τ) none Set.univ hsub) $$ H
  iintro H
  rw [wp_ret, show ((m.slice R hR).squeeze s' hs).view.readAt (Elt F) r f
    = fun i => m.view.read (Elt F) f (R.emb (Shape.reshapeEquiv hs.numel_eq (r.idx i))) from rfl]
  imodintro
  iapply HQ
  iexists f
  isplitr
  · ipureintro; rfl
  · iexact H

/-- What an array reads once the elements of a rectangle are replaced. -/
def put {S : Shape} (X : Vec F S .f32) (r : Rect S) (w : Vec F r.shape .f32) : Vec F S .f32 :=
  fun y => match preimage? r.emb y with
    | some z => w z
    | none => X y

/-- Where the rectangle was replaced, the replacement. -/
theorem put_emb {S : Shape} (X : Vec F S .f32) (r : Rect S) (w : Vec F r.shape .f32) (z : r.shape.Idx) :
    put X r w (r.emb z) = w z := by
  unfold put
  rw [preimage?_emb]

/-- Elsewhere, what was there. -/
theorem put_other {S : Shape} (X : Vec F S .f32) (r : Rect S) (w : Vec F r.shape .f32) {y : S.Idx} (h : y ∉ r.set) :
    put X r w y = X y := by
  unfold put
  rw [preimage?_eq_none_of_not_mem (by rw [Rect.map_emb_univ]; exact h)]

/-- A store over a rectangle of a memref that is held. -/
theorem lift_store {S : Shape} {m : Memref sig .tc .vmem S .f32} {X : Vec F S .f32} {r : Rect S} {w : Vec F r.shape .f32}
    {hx : (m.access r).Stores Finset.univ} {hm : (Finset.univ : Finset r.shape.Idx) = Finset.univ ∨ ∀ a, r.stride a = 1}
    {Q : PUnit → sProp 𝕄} :
    owns (c : Thread nD τ) m fullShare X ⊢
      iprop((owns (c : Thread nD τ) m fullShare (put X r w) -∗ Q ⟨⟩)
        -∗ wp frame (wpE defs Variants.none (c : Thread nD τ) none) Set.univ (Prog.lift (.store m r w Finset.univ hx hm)) Q) := by
  unfold owns
  iintro ⟨%f, %hf, H⟩ HQ
  subst hf
  have hsub : (m.access r).setOn Finset.univ ⊆ m.view.set := by
    intro i hi
    obtain ⟨y, -, rfl⟩ := Finset.mem_map.mp hi
    exact m.view.emb_mem_set _
  iapply (wp_store (m := m) (hx := hx) (hm := hm) Variants.none (c : Thread nD τ) none Set.univ hsub) $$ H
  iintro H
  rw [wp_ret]
  imodintro
  iapply HQ
  iexists _
  isplitr
  swap
  · iexact H
  · ipureintro
    funext y
    by_cases hy : y ∈ r.set
    · obtain ⟨z, rfl⟩ := r.exists_idx_of_mem hy
      exact (View.read_slice_write_emb r f w (Finset.mem_univ z)).trans (put_emb _ r w z).symm
    · rw [put_other _ _ _ hy]
      exact View.read_slice_write_of_not_mem r f w _ (by rw [Rect.map_emb_univ]; exact hy)

end Owned

section Statements

variable {post : PUnit → St F S2 S3 S4 → Prop}

/-- A load of the input. -/
theorem Run.load1 {r : LoadRect S1} {hl : B.m1.view.LoadsAt r} {post : Vec F r.shape .f32 → St F S2 S3 S4 → Prop}
    (h : post (fun i => x (r.idx i)) s) : Run defs c B x (Prog.lift (.load B.m1 r hl)) s post := fun Q hQ => by
  have hq := hQ _ s h
  unfold Held at hq ⊢
  iintro ⟨H1, H2⟩
  iapply lift_load $$ H1
  iintro H1
  iapply hq
  isplitl [H1] <;> iassumption

/-- A load of one slab of the input. -/
theorem Run.load1s {s' : Shape} {R : Rect S1} {hR : ∀ a, R.stride a = 1} {hs : R.shape.Squeezes s'} {r : LoadRect s'}
    {hl : ((B.m1.slice R hR).squeeze s' hs).view.LoadsAt r} {post : Vec F r.shape .f32 → St F S2 S3 S4 → Prop}
    (h : post (fun i => x (R.emb (Shape.reshapeEquiv hs.numel_eq (r.idx i)))) s) :
    Run defs c B x (Prog.lift (.load ((B.m1.slice R hR).squeeze s' hs) r hl)) s post := fun Q hQ => by
  have hq := hQ _ s h
  unfold Held at hq ⊢
  iintro ⟨H1, H2⟩
  iapply lift_load_slab $$ H1
  iintro H1
  iapply hq
  isplitl [H1] <;> iassumption

/-- A load of the output block. -/
theorem Run.load2 {r : LoadRect S2} {hl : B.m2.view.LoadsAt r} {post : Vec F r.shape .f32 → St F S2 S3 S4 → Prop}
    (h : post (fun i => s.o (r.idx i)) s) : Run defs c B x (Prog.lift (.load B.m2 r hl)) s post := fun Q hQ => by
  have hq := hQ _ s h
  unfold Held at hq ⊢
  iintro ⟨H1, H2, H3⟩
  iapply lift_load $$ H2
  iintro H2
  iapply hq
  isplitl [H1]; · iexact H1
  isplitl [H2] <;> iassumption

/-- A load of the shifted copies. -/
theorem Run.load3 {r : LoadRect S3} {hl : B.m3.view.LoadsAt r} {post : Vec F r.shape .f32 → St F S2 S3 S4 → Prop}
    (h : post (fun i => s.sh (r.idx i)) s) : Run defs c B x (Prog.lift (.load B.m3 r hl)) s post := fun Q hQ => by
  have hq := hQ _ s h
  unfold Held at hq ⊢
  iintro ⟨H1, H2, H3, H4⟩
  iapply lift_load $$ H3
  iintro H3
  iapply hq
  isplitl [H1]; · iexact H1
  isplitl [H2]; · iexact H2
  isplitl [H3] <;> iassumption

/-- A load of one slab of the shifted copies. -/
theorem Run.load3s {s' : Shape} {R : Rect S3} {hR : ∀ a, R.stride a = 1} {hs : R.shape.Squeezes s'} {r : LoadRect s'}
    {hl : ((B.m3.slice R hR).squeeze s' hs).view.LoadsAt r} {post : Vec F r.shape .f32 → St F S2 S3 S4 → Prop}
    (h : post (fun i => s.sh (R.emb (Shape.reshapeEquiv hs.numel_eq (r.idx i)))) s) :
    Run defs c B x (Prog.lift (.load ((B.m3.slice R hR).squeeze s' hs) r hl)) s post := fun Q hQ => by
  have hq := hQ _ s h
  unfold Held at hq ⊢
  iintro ⟨H1, H2, H3, H4⟩
  iapply lift_load_slab $$ H3
  iintro H3
  iapply hq
  isplitl [H1]; · iexact H1
  isplitl [H2]; · iexact H2
  isplitl [H3] <;> iassumption

/-- A load of the selected windows. -/
theorem Run.load4 {r : LoadRect S4} {hl : B.m4.view.LoadsAt r} {post : Vec F r.shape .f32 → St F S2 S3 S4 → Prop}
    (h : post (fun i => s.sel (r.idx i)) s) : Run defs c B x (Prog.lift (.load B.m4 r hl)) s post := fun Q hQ => by
  have hq := hQ _ s h
  unfold Held at hq ⊢
  iintro ⟨H1, H2, H3, H4⟩
  iapply lift_load $$ H4
  iintro H4
  iapply hq
  isplitl [H1]; · iexact H1
  isplitl [H2]; · iexact H2
  isplitl [H3] <;> iassumption

/-- A store to the output block. -/
theorem Run.store2 {r : Rect S2} {w : Vec F r.shape .f32} {hx : (B.m2.access r).Stores Finset.univ}
    {hm : (Finset.univ : Finset r.shape.Idx) = Finset.univ ∨ ∀ a, r.stride a = 1}
    (h : post ⟨⟩ { s with o := put s.o r w }) :
    Run defs c B x (Prog.lift (.store B.m2 r w Finset.univ hx hm)) s post := fun Q hQ => by
  have hq := hQ _ _ h
  unfold Held at hq ⊢
  iintro ⟨H1, H2, H3⟩
  iapply lift_store $$ H2
  iintro H2
  iapply hq
  isplitl [H1]; · iexact H1
  isplitl [H2] <;> iassumption

/-- A store to the shifted copies. -/
theorem Run.store3 {r : Rect S3} {w : Vec F r.shape .f32} {hx : (B.m3.access r).Stores Finset.univ}
    {hm : (Finset.univ : Finset r.shape.Idx) = Finset.univ ∨ ∀ a, r.stride a = 1}
    (h : post ⟨⟩ { s with sh := put s.sh r w }) :
    Run defs c B x (Prog.lift (.store B.m3 r w Finset.univ hx hm)) s post := fun Q hQ => by
  have hq := hQ _ _ h
  unfold Held at hq ⊢
  iintro ⟨H1, H2, H3, H4⟩
  iapply lift_store $$ H3
  iintro H3
  iapply hq
  isplitl [H1]; · iexact H1
  isplitl [H2]; · iexact H2
  isplitl [H3] <;> iassumption

/-- A store to the selected windows. -/
theorem Run.store4 {r : Rect S4} {w : Vec F r.shape .f32} {hx : (B.m4.access r).Stores Finset.univ}
    {hm : (Finset.univ : Finset r.shape.Idx) = Finset.univ ∨ ∀ a, r.stride a = 1}
    (h : post ⟨⟩ { s with sel := put s.sel r w }) :
    Run defs c B x (Prog.lift (.store B.m4 r w Finset.univ hx hm)) s post := fun Q hQ => by
  have hq := hQ _ _ h
  unfold Held at hq ⊢
  iintro ⟨H1, H2, H3, H4⟩
  iapply lift_store $$ H4
  iintro H4
  iapply hq
  isplitl [H1]; · iexact H1
  isplitl [H2]; · iexact H2
  isplitl [H3] <;> iassumption

/-- A counted loop, by an invariant over the trip, the carried values and the state. -/
theorem Run.loop {σ : Type} {w : ℕ} (l : Scf.Loop w) (hok : Scf.OK l.lb l.ub l.st) (init : σ)
    (body : Fin l.trips → σ → Prog (TpuEff nD τ sig (Elt F) Λ .tc) σ) {post : σ → St F S2 S3 S4 → Prop}
    (I : ℕ → σ → St F S2 S3 S4 → Prop) (h0 : I 0 init s)
    (hstep : ∀ (k : Fin l.trips) (a : σ) (s' : St F S2 S3 S4), I k a s' → Run defs c B x (body k a) s' (I (k + 1)))
    (hend : ∀ a s', I l.trips a s' → post a s') :
    Run defs c B x (l.for hok init body) s post := fun Q hQ => by
  refine BIBase.Entails.trans ?_ (Scf.wp_for frame (wpE defs Variants.none (c : Thread nD τ) none) Set.univ l.lb l.ub l.st hok init body
    (fun k a => iprop(∃ s', ⌜I k a s'⌝ ∗ Held c B x s')) ?_)
  · iintro H
    isplitl [H]
    · iexists s
      isplitr
      · ipureintro; exact h0
      · iexact H
    · iintro %a ⟨%s', %hs, H⟩
      iapply (hQ a s' (hend a s' hs))
      iexact H
  · intro k a
    iintro ⟨%s', %hs, H⟩
    iapply (hstep k a s' hs (fun a => iprop(∃ s', ⌜I (k + 1) a s'⌝ ∗ Held c B x s')) ?_) $$ H
    intro a s'' h''
    iintro H
    iexists s''
    isplitr
    · ipureintro; exact h''
    · iexact H

end Statements

/-! ### Running at all, nothing said of the values -/

/-- The program runs to its return from every state. -/
structure Safe (defs : Defs nD τ sig (Elt F) Λ) (c : Dev nD) (B : Bufs sig S1 S2 S3 S4) (x : Vec F S1 .f32)
    {α : Type} (p : Prog (TpuEff nD τ sig (Elt F) Λ .tc) α) : Prop where
  /-- It runs from the state. -/
  run : ∀ s, Run defs c B x p s fun _ _ => True

section Safety

/-- A return. -/
theorem Safe.ret (a : α) : Safe defs c B x (.ret a) :=
  ⟨fun _ => Run.ret trivial⟩

/-- A return, as a body writes it. -/
theorem Safe.pure (a : α) : Safe defs c B x (Pure.pure a) :=
  ⟨fun _ => Run.ret trivial⟩

/-- One program after another. -/
theorem Safe.bind {p : Prog (TpuEff nD τ sig (Elt F) Λ .tc) α} {k : α → Prog (TpuEff nD τ sig (Elt F) Λ .tc) β}
    (h : Safe defs c B x p) (hk : ∀ a, Safe defs c B x (k a)) : Safe defs c B x (p >>= k) :=
  ⟨fun s =>
  Run.bind ((h.run s).mono fun a s' _ => (hk a).run s')⟩

/-- A load of the input. -/
theorem Safe.load1 {r : LoadRect S1} {hl : B.m1.view.LoadsAt r} : Safe defs c B x (Prog.lift (.load B.m1 r hl)) :=
  ⟨fun _ => Run.load1 trivial⟩

/-- A load of one slab of the input. -/
theorem Safe.load1s {s' : Shape} {R : Rect S1} {hR : ∀ a, R.stride a = 1} {hs : R.shape.Squeezes s'} {r : LoadRect s'}
    {hl : ((B.m1.slice R hR).squeeze s' hs).view.LoadsAt r} :
    Safe defs c B x (Prog.lift (.load ((B.m1.slice R hR).squeeze s' hs) r hl)) :=
  ⟨fun _ => Run.load1s trivial⟩

/-- A load of the output block. -/
theorem Safe.load2 {r : LoadRect S2} {hl : B.m2.view.LoadsAt r} : Safe defs c B x (Prog.lift (.load B.m2 r hl)) :=
  ⟨fun _ => Run.load2 trivial⟩

/-- A load of the shifted copies. -/
theorem Safe.load3 {r : LoadRect S3} {hl : B.m3.view.LoadsAt r} : Safe defs c B x (Prog.lift (.load B.m3 r hl)) :=
  ⟨fun _ => Run.load3 trivial⟩

/-- A load of one slab of the shifted copies. -/
theorem Safe.load3s {s' : Shape} {R : Rect S3} {hR : ∀ a, R.stride a = 1} {hs : R.shape.Squeezes s'} {r : LoadRect s'}
    {hl : ((B.m3.slice R hR).squeeze s' hs).view.LoadsAt r} :
    Safe defs c B x (Prog.lift (.load ((B.m3.slice R hR).squeeze s' hs) r hl)) :=
  ⟨fun _ => Run.load3s trivial⟩

/-- A load of the selected windows. -/
theorem Safe.load4 {r : LoadRect S4} {hl : B.m4.view.LoadsAt r} : Safe defs c B x (Prog.lift (.load B.m4 r hl)) :=
  ⟨fun _ => Run.load4 trivial⟩

/-- A store to the output block. -/
theorem Safe.store2 {r : Rect S2} {w : Vec F r.shape .f32} {hx : (B.m2.access r).Stores Finset.univ}
    {hm : (Finset.univ : Finset r.shape.Idx) = Finset.univ ∨ ∀ a, r.stride a = 1} :
    Safe defs c B x (Prog.lift (.store B.m2 r w Finset.univ hx hm)) :=
  ⟨fun _ => Run.store2 trivial⟩

/-- A store to the shifted copies. -/
theorem Safe.store3 {r : Rect S3} {w : Vec F r.shape .f32} {hx : (B.m3.access r).Stores Finset.univ}
    {hm : (Finset.univ : Finset r.shape.Idx) = Finset.univ ∨ ∀ a, r.stride a = 1} :
    Safe defs c B x (Prog.lift (.store B.m3 r w Finset.univ hx hm)) :=
  ⟨fun _ => Run.store3 trivial⟩

/-- A store to the selected windows. -/
theorem Safe.store4 {r : Rect S4} {w : Vec F r.shape .f32} {hx : (B.m4.access r).Stores Finset.univ}
    {hm : (Finset.univ : Finset r.shape.Idx) = Finset.univ ∨ ∀ a, r.stride a = 1} :
    Safe defs c B x (Prog.lift (.store B.m4 r w Finset.univ hx hm)) :=
  ⟨fun _ => Run.store4 trivial⟩

/-- A counted loop. -/
theorem Safe.loop {σ : Type} {w : ℕ} (l : Scf.Loop w) (hok : Scf.OK l.lb l.ub l.st) (init : σ)
    (body : Fin l.trips → σ → Prog (TpuEff nD τ sig (Elt F) Λ .tc) σ) (h : ∀ k a, Safe defs c B x (body k a)) :
    Safe defs c B x (l.for hok init body) :=
  ⟨fun _ =>
  Run.loop l hok init body (fun _ _ _ => True) trivial (fun k a s' _ => (h k a).run s') fun _ _ _ => trivial⟩

end Safety

end Cert.Motif

end
-- ==== Proof.SafeKernelIdeal.lean ====
module

public import proofs.«01_k».proof.Proof.Run
public import proofs.«01_k».proof.Proof.Gen.KernelIdeal.Skeleton

@[expose] public section

noncomputable section

namespace Cert.Motif.KernelIdeal

open Cert.KernelIdeal Cert.KernelIdeal.Gen
open Idealize.ShloMosaic Idealize.ShloMosaic.TcCoe
open Idealize.SL Idealize.SL.Sem

variable {F : FTy → Type} [FloatOps F] [Named F]

set_option maxRecDepth 100000 in
set_option maxHeartbeats 0 in
/-- The body runs to its return at every grid point, whatever its four buffers hold. -/
theorem safe_body (c : Dev nD) (B : Bufs sig S6x224x224 S6x224x224 S12x224x224 S3x224x224) (x : Vec F S6x224x224 .f32)
    (i : grid0.Coords) (h1 : B.m1.IsWhole) (h2 : B.m2.IsWhole) (h3 : B.m3.IsWhole) (h4 : B.m4.IsWhole) :
    Safe (defs₀ (F := F)) c B x (cc0__motif_group_kernel i B.m1 h1 B.m2 h2 B.m3 h3 B.m4 h4) := by
  repeat (first
    | exact Safe.load1
    | exact Safe.load1s
    | exact Safe.load3s
    | exact Safe.load2
    | exact Safe.load3
    | exact Safe.load4
    | exact Safe.store2
    | exact Safe.store3
    | exact Safe.store4
    | exact Safe.pure _
    | exact Safe.ret _
    | refine Safe.loop _ _ _ _ ?_
    | refine Safe.bind ?_ ?_
    | intro _)

end Cert.Motif.KernelIdeal

end
-- ==== Proof.FrameKernelIdeal.lean ====
module

public import proofs.«01_k».proof.Proof.SafeKernelIdeal
public import proofs.«01_k».proof.Proof.Gen.KernelIdeal.Frame
public import Idealize.ShloMosaic.Lib.Claim

@[expose] public section

noncomputable section

namespace Cert.Motif.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The window of which nothing is named: the output. -/
def forgets : Fin cfg0.W → Bool := fun w => w == 1

/-- The four buffers the body runs on at point `t`. -/
abbrev bufs (t : Fin cfg0.N) : Bufs sig S6x224x224 S6x224x224 S12x224x224 S3x224x224 :=
  ⟨st0_0 t, st0_1 t, Memref.whole cc0_scratch0, Memref.whole cc0_scratch1⟩

/-- The proof data: the input's block stays, the output's is not named. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => Pipeline.Dat.unnamed (cfg := cfg0) 1 t
  Φ _ := Pipeline.ΦA spec0 c
  q _ := fullShare
  owed _ := 0

/-- The arrays are what the region finds. -/
theorem A_eqF (c : Dev nD) (w : Fin cfg0.W) : (datsF m 0 c).A w = V m c (Pipeline.arrRef spec0 w) := by dsimp only [datsF]

/-- The body leaves the input's block in place. -/
theorem after0_0F (c : Dev nD) (t : Fin cfg0.N) : (datsF m 0 c).after 0 t = iblk m c 0 t := by dsimp only [datsF]

/-- The input's staging buffer holds the input's block. -/
theorem before0_0F (c : Dev nD) (t : Fin cfg0.N) (d) : (datsF m 0 c).before 0 t d = iblk m c 0 t :=
  before0_0_of m (datsF m 0 c) (A_eqF m c 0) (after0_0F m c) t d

/-- What the body is called with at point `t`. -/
def bodyPreF (c : Dev nD) (t : Fin cfg0.N) : sProp 𝕄 :=
  iprop((datsF m 0 c).Φ t.castSucc ∗ (datsF m 0 c).owesAt () t.castSucc
    ∗ (∃ d, owns (c : Thread nD τ) (st0_0 t) fullShare ((datsF m 0 c).before 0 t d))
    ∗ (∃ d, owns (c : Thread nD τ) (st0_1 t) fullShare d))

/-- What the body returns at point `t`. -/
def bodyPostF (c : Dev nD) (t : Fin cfg0.N) : sProp 𝕄 :=
  iprop((datsF m 0 c).Φ t.succ ∗ (datsF m 0 c).owesAt () t.succ
    ∗ owns (c : Thread nD τ) (st0_0 t) fullShare ((datsF m 0 c).after 0 t)
    ∗ (∃ d, owns (c : Thread nD τ) (st0_1 t) fullShare d))

/-- The body at any point, the two scratch buffers taken out of the invariant and put back. -/
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF
  simp only [before0_0F]
  rw [show (datsF m 0 c).Φ t.succ = (datsF m 0 c).Φ t.castSucc from rfl,
    show (datsF m 0 c).owesAt () t.succ = (datsF m 0 c).owesAt () t.castSucc from rfl,
    show (datsF m 0 c).Φ t.castSucc = Pipeline.ΦA spec0 c from rfl, after0_0F]
  unfold Pipeline.ΦA
  rw [scopedRest0_eq]
  simp only [← owns_whole]
  have key : ∀ d f3 f4, iprop(Held c (bufs t) (iblk m c 0 t) ⟨d, f3, f4⟩ ∗ (∃ r, prngReg c r)
      ∗ (datsF m 0 c).owesAt () t.castSucc) ⊢ wp frame (wpE (defs₀ (F := F)) Variants.none c none) Set.univ (bodyAt0 t)
        (fun _ => iprop((((∃ f3, owns (c : Thread nD τ) (Memref.whole cc0_scratch0) fullShare f3)
            ∗ (∃ f4, owns (c : Thread nD τ) (Memref.whole cc0_scratch1) fullShare f4)) ∗ (∃ r, prngReg c r))
          ∗ (datsF m 0 c).owesAt () t.castSucc ∗ owns (c : Thread nD τ) (st0_0 t) fullShare (iblk m c 0 t)
          ∗ (∃ d, owns (c : Thread nD τ) (st0_1 t) fullShare d))) := fun d f3 f4 => by
    refine ((safe_body c (bufs t) (iblk m c 0 t) (grid0.coords t) _ _ _ _).run ⟨d, f3, f4⟩).framed ?_
    intro a s' _
    unfold Held
    iintro ⟨⟨H0, H1, H3, H4⟩, Hg, Ho⟩
    isplitl [H3 H4 Hg]
    · isplitl [H3 H4]
      · isplitl [H3]
        · iexists _; iexact H3
        · iexists _; iexact H4
      iexact Hg
    isplitl [Ho]; · iexact Ho
    isplitl [H0]; · iexact H0
    iexists _; iexact H1
  iintro ⟨⟨⟨⟨%f3, H3⟩, ⟨%f4, H4⟩⟩, Hg⟩, Ho, ⟨%d0, H0⟩, ⟨%d1, H1⟩⟩
  iapply (key d1 f3 f4)
  isplitl [H0 H1 H3 H4]
  · unfold Held
    isplitl [H0]; · iexact H0
    isplitl [H1]; · iexact H1
    isplitl [H3]; · iexact H3
    iexact H4
  isplitl [Hg]; · iexact Hg
  iexact Ho

/-- The body table's row at the point is the body. -/
theorem defs₀_row (t : Fin cfg0.N) :
    defs₀ (F := F) .tc cfg0.body (cfg0.bodyArgs t (cfg0.slots t)) = bodyAt0 t := by
  unfold defs₀; rw [Defs.onTc_tc]

/-- The body obligation, the output forgotten. -/
theorem body_obligationF (c : Dev nD) :
    BodyObligation (datsF (F := F) m 0 c) (defs₀ (F := F)) Variants.none () Set.univ forgets := fun t => by
  rw [bigSep_W0, bigSep_W0, defs₀_row]
  exact triple_restated (sound_bodyF m c t) rfl .rfl fun _ => .rfl

/-- The one operation after the region writes the result only. -/
theorem sfx_writes : ∀ ops ∈ ([hostOps1] : List (List (HloOp τ sig (Elt F)))), ∀ op ∈ ops, ∀ b : Ref sig .tc,
    Proc.devRef .tc b ∈ op.writes → b ∈ ({main_v2} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.unary_writes, Finset.mem_singleton] at hb ⊢
  by_contra h
  exact StableHlo.devRef_ne_of_ne h hb

set_option backward.isDefEq.respectTransparency.types false in
/-- The launch: every execution of the program ends, the argument as the region found it and every counter at zero. -/
theorem run_mainF : θ_run defs (onTc (τ := τ) (main (F := F))) (s₀ m ρ)
    (fun r => Pipeline.RDat.FramePostR (cfgs 0) (fun c => (datsF m 0 c).toRForget forgets) {main_v2}
      (fun c b => V0 m c (Proc.devRef .tc b)) r ∧ r.2.sem = fun _ => 0) :=
  Pipeline.θ_run_frame_around_T_forget (Q' := _) cfgs (datsF m) (0 : Fin 1) launch0 defs₀ Variants.none forgets {main_v2} m ρ main
    (hbody := fun c => (body_obligationF m c).loose) (hshare := fun c => (datsF m 0 c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eqF m) (hΦ := fun _ _ => rfl)

/-- The argument ends as it began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => ((h.1 c).2 main_arg0 (Finset.mem_sdiff.mpr
    ⟨Pipeline.mem_restRefs_of main_arg0 (by decide) (by decide), by decide⟩)).trans (V_main_arg0 m c), h.2⟩) (run_mainF m ρ)

end Cert.Motif.KernelIdeal

end
-- ==== Proof.RefRun.lean ====
/- The reference program's host operations as a list, and its run read back window by window: the shape of the generated runs
   of host programs, written here for this program since its arg-min operation has no generated run. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.Motif.Ref

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v19`, named. It packs its operands into a list of dependent pairs
    whose shapes a later argument's type mentions, so `simp` cannot rewrite an operand where it stands; applied by
    name, the operands are plain arguments, which the window lemmas below rewrite before the name unfolds. -/
def fn_main_v19 : (main_v10 : Ref sig .tc).ty.Contents (Elt F) → (main_v11 : Ref sig .tc).ty.Contents (Elt F) → (main_v12 : Ref sig .tc).ty.Contents (Elt F) → (main_v13 : Ref sig .tc).ty.Contents (Elt F) → (main_v14 : Ref sig .tc).ty.Contents (Elt F) → (main_v15 : Ref sig .tc).ty.Contents (Elt F) → (main_v16 : Ref sig .tc).ty.Contents (Elt F) → (main_v17 : Ref sig .tc).ty.Contents (Elt F) → (main_v18 : Ref sig .tc).ty.Contents (Elt F) → (main_v19 : Ref sig .tc).ty.Contents (Elt F) :=
  (fun u0 u1 u2 u3 u4 u5 u6 u7 u8 => (concatenate S16x6x9x222x222 2 [⟨S16x6x1x222x222, (u0 : (⟨S16x6x1x222x222, .f32⟩ : BufTy).Contents (Elt F))⟩, ⟨S16x6x1x222x222, (u1 : (⟨S16x6x1x222x222, .f32⟩ : BufTy).Contents (Elt F))⟩, ⟨S16x6x1x222x222, (u2 : (⟨S16x6x1x222x222, .f32⟩ : BufTy).Contents (Elt F))⟩, ⟨S16x6x1x222x222, (u3 : (⟨S16x6x1x222x222, .f32⟩ : BufTy).Contents (Elt F))⟩, ⟨S16x6x1x222x222, (u4 : (⟨S16x6x1x222x222, .f32⟩ : BufTy).Contents (Elt F))⟩, ⟨S16x6x1x222x222, (u5 : (⟨S16x6x1x222x222, .f32⟩ : BufTy).Contents (Elt F))⟩, ⟨S16x6x1x222x222, (u6 : (⟨S16x6x1x222x222, .f32⟩ : BufTy).Contents (Elt F))⟩, ⟨S16x6x1x222x222, (u7 : (⟨S16x6x1x222x222, .f32⟩ : BufTy).Contents (Elt F))⟩, ⟨S16x6x1x222x222, (u8 : (⟨S16x6x1x222x222, .f32⟩ : BufTy).Contents (Elt F))⟩] concatenates_S16x6x1x222x222_S16x6x1x222x222_S16x6x1x222x222_S16x6x1x222x222_S16x6x1x222x222_S16x6x1x222x222_S16x6x1x222x222_S16x6x1x222x222_S16x6x1x222x222_S16x6x9x222x222_d2 : (⟨S16x6x9x222x222, .f32⟩ : BufTy).Contents (Elt F)))

/-- @main's operations 1 … 30 of 146 (window `main_part0`). -/
abbrev ops_part0_0 : List (HloOp τ sig (Elt F)) :=
  [ reshape main_arg0 main_v0 (rfl : (.f32 : EltTy) = .f32) shapeCasts_S1x96x224x224_S16x6x224x224,
    unary main_v0 main_v1 ((extractStridedSlice S16x6x222x222 ![0, 0, 0, 0] · slices_S16x6x224x224_S16x6x222x222_0_0_0_0) : (⟨S16x6x224x224, .f32⟩ : BufTy).Contents (Elt F) → (⟨S16x6x222x222, .f32⟩ : BufTy).Contents (Elt F)),
    unary main_v0 main_v2 ((extractStridedSlice S16x6x222x222 ![0, 0, 0, 1] · slices_S16x6x224x224_S16x6x222x222_0_0_0_1) : (⟨S16x6x224x224, .f32⟩ : BufTy).Contents (Elt F) → (⟨S16x6x222x222, .f32⟩ : BufTy).Contents (Elt F)),
    unary main_v0 main_v3 ((extractStridedSlice S16x6x222x222 ![0, 0, 0, 2] · slices_S16x6x224x224_S16x6x222x222_0_0_0_2) : (⟨S16x6x224x224, .f32⟩ : BufTy).Contents (Elt F) → (⟨S16x6x222x222, .f32⟩ : BufTy).Contents (Elt F)),
    unary main_v0 main_v4 ((extractStridedSlice S16x6x222x222 ![0, 0, 1, 0] · slices_S16x6x224x224_S16x6x222x222_0_0_1_0) : (⟨S16x6x224x224, .f32⟩ : BufTy).Contents (Elt F) → (⟨S16x6x222x222, .f32⟩ : BufTy).Contents (Elt F)),
    unary main_v0 main_v5 ((extractStridedSlice S16x6x222x222 ![0, 0, 1, 1] · slices_S16x6x224x224_S16x6x222x222_0_0_1_1) : (⟨S16x6x224x224, .f32⟩ : BufTy).Contents (Elt F) → (⟨S16x6x222x222, .f32⟩ : BufTy).Contents (Elt F)),
    unary main_v0 main_v6 ((extractStridedSlice S16x6x222x222 ![0, 0, 1, 2] · slices_S16x6x224x224_S16x6x222x222_0_0_1_2) : (⟨S16x6x224x224, .f32⟩ : BufTy).Contents (Elt F) → (⟨S16x6x222x222, .f32⟩ : BufTy).Contents (Elt F)),
    unary main_v0 main_v7 ((extractStridedSlice S16x6x222x222 ![0, 0, 2, 0] · slices_S16x6x224x224_S16x6x222x222_0_0_2_0) : (⟨S16x6x224x224, .f32⟩ : BufTy).Contents (Elt F) → (⟨S16x6x222x222, .f32⟩ : BufTy).Contents (Elt F)),
    unary main_v0 main_v8 ((extractStridedSlice S16x6x222x222 ![0, 0, 2, 1] · slices_S16x6x224x224_S16x6x222x222_0_0_2_1) : (⟨S16x6x224x224, .f32⟩ : BufTy).Contents (Elt F) → (⟨S16x6x222x222, .f32⟩ : BufTy).Contents (Elt F)),
    unary main_v0 main_v9 ((extractStridedSlice S16x6x222x222 ![0, 0, 2, 2] · slices_S16x6x224x224_S16x6x222x222_0_0_2_2) : (⟨S16x6x224x224, .f32⟩ : BufTy).Contents (Elt F) → (⟨S16x6x222x222, .f32⟩ : BufTy).Contents (Elt F)),
    unary main_v1 main_v10 (broadcastInDim S16x6x1x222x222 ![0, 1, 3, 4] bcast_S16x6x222x222_S16x6x1x222x222_0_1_3_4 : (⟨S16x6x222x222, .f32⟩ : BufTy).Contents (Elt F) → (⟨S16x6x1x222x222, .f32⟩ : BufTy).Contents (Elt F)),
    unary main_v2 main_v11 (broadcastInDim S16x6x1x222x222 ![0, 1, 3, 4] bcast_S16x6x222x222_S16x6x1x222x222_0_1_3_4 : (⟨S16x6x222x222, .f32⟩ : BufTy).Contents (Elt F) → (⟨S16x6x1x222x222, .f32⟩ : BufTy).Contents (Elt F)),
    unary main_v3 main_v12 (broadcastInDim S16x6x1x222x222 ![0, 1, 3, 4] bcast_S16x6x222x222_S16x6x1x222x222_0_1_3_4 : (⟨S16x6x222x222, .f32⟩ : BufTy).Contents (Elt F) → (⟨S16x6x1x222x222, .f32⟩ : BufTy).Contents (Elt F)),
    unary main_v4 main_v13 (broadcastInDim S16x6x1x222x222 ![0, 1, 3, 4] bcast_S16x6x222x222_S16x6x1x222x222_0_1_3_4 : (⟨S16x6x222x222, .f32⟩ : BufTy).Contents (Elt F) → (⟨S16x6x1x222x222, .f32⟩ : BufTy).Contents (Elt F)),
    unary main_v5 main_v14 (broadcastInDim S16x6x1x222x222 ![0, 1, 3, 4] bcast_S16x6x222x222_S16x6x1x222x222_0_1_3_4 : (⟨S16x6x222x222, .f32⟩ : BufTy).Contents (Elt F) → (⟨S16x6x1x222x222, .f32⟩ : BufTy).Contents (Elt F)),
    unary main_v6 main_v15 (broadcastInDim S16x6x1x222x222 ![0, 1, 3, 4] bcast_S16x6x222x222_S16x6x1x222x222_0_1_3_4 : (⟨S16x6x222x222, .f32⟩ : BufTy).Contents (Elt F) → (⟨S16x6x1x222x222, .f32⟩ : BufTy).Contents (Elt F)),
    unary main_v7 main_v16 (broadcastInDim S16x6x1x222x222 ![0, 1, 3, 4] bcast_S16x6x222x222_S16x6x1x222x222_0_1_3_4 : (⟨S16x6x222x222, .f32⟩ : BufTy).Contents (Elt F) → (⟨S16x6x1x222x222, .f32⟩ : BufTy).Contents (Elt F)),
    unary main_v8 main_v17 (broadcastInDim S16x6x1x222x222 ![0, 1, 3, 4] bcast_S16x6x222x222_S16x6x1x222x222_0_1_3_4 : (⟨S16x6x222x222, .f32⟩ : BufTy).Contents (Elt F) → (⟨S16x6x1x222x222, .f32⟩ : BufTy).Contents (Elt F)),
    unary main_v9 main_v18 (broadcastInDim S16x6x1x222x222 ![0, 1, 3, 4] bcast_S16x6x222x222_S16x6x1x222x222_0_1_3_4 : (⟨S16x6x222x222, .f32⟩ : BufTy).Contents (Elt F) → (⟨S16x6x1x222x222, .f32⟩ : BufTy).Contents (Elt F)),
    nary ![main_v10, main_v11, main_v12, main_v13, main_v14, main_v15, main_v16, main_v17, main_v18] main_v19 (fun u => fn_main_v19 (F := F) (u 0) (u 1) (u 2) (u 3) (u 4) (u 5) (u 6) (u 7) (u 8)),
    reshape main_v19 main_v20 (rfl : (.f32 : EltTy) = .f32) shapeCasts_S16x6x9x222x222_S16x9x6x222x222,
    unary main_v20 main_v21 (broadcastInDim S16x9x6x1x222x222 ![0, 1, 2, 4, 5] bcast_S16x9x6x222x222_S16x9x6x1x222x222_0_1_2_4_5 : (⟨S16x9x6x222x222, .f32⟩ : BufTy).Contents (Elt F) → (⟨S16x9x6x1x222x222, .f32⟩ : BufTy).Contents (Elt F)),
    unary main_v20 main_v22 (broadcastInDim S16x9x1x6x222x222 ![0, 1, 3, 4, 5] bcast_S16x9x6x222x222_S16x9x1x6x222x222_0_1_3_4_5 : (⟨S16x9x6x222x222, .f32⟩ : BufTy).Contents (Elt F) → (⟨S16x9x1x6x222x222, .f32⟩ : BufTy).Contents (Elt F)),
    unary main_v21 main_v23 (broadcastInDim S16x9x6x6x222x222 ![0, 1, 2, 3, 4, 5] bcast_S16x9x6x1x222x222_S16x9x6x6x222x222_0_1_2_3_4_5 : (⟨S16x9x6x1x222x222, .f32⟩ : BufTy).Contents (Elt F) → (⟨S16x9x6x6x222x222, .f32⟩ : BufTy).Contents (Elt F)),
    unary main_v22 main_v24 (broadcastInDim S16x9x6x6x222x222 ![0, 1, 2, 3, 4, 5] bcast_S16x9x1x6x222x222_S16x9x6x6x222x222_0_1_2_3_4_5 : (⟨S16x9x1x6x222x222, .f32⟩ : BufTy).Contents (Elt F) → (⟨S16x9x6x6x222x222, .f32⟩ : BufTy).Contents (Elt F)),
    binary main_v23 main_v24 main_v25 (subf : (⟨S16x9x6x6x222x222, .f32⟩ : BufTy).Contents (Elt F) → (⟨S16x9x6x6x222x222, .f32⟩ : BufTy).Contents (Elt F) → (⟨S16x9x6x6x222x222, .f32⟩ : BufTy).Contents (Elt F)),
    binary main_v25 main_v25 main_v26 (mulf : (⟨S16x9x6x6x222x222, .f32⟩ : BufTy).Contents (Elt F) → (⟨S16x9x6x6x222x222, .f32⟩ : BufTy).Contents (Elt F) → (⟨S16x9x6x6x222x222, .f32⟩ : BufTy).Contents (Elt F)),
    nullary main_cst (constant S_ .f32 0x00000000#32),
    binary main_v26 main_cst main_v27 ((fun x v => Host.reduceAdd x v reducesTo_S16x9x6x6x222x222_S16x9x6x6_d4_5 h_S_) : (⟨S16x9x6x6x222x222, .f32⟩ : BufTy).Contents (Elt F) → (⟨S_, .f32⟩ : BufTy).Contents (Elt F) → (⟨S16x9x6x6, .f32⟩ : BufTy).Contents (Elt F)),
    unary main_v27 main_v28 (Host.sqrt : (⟨S16x9x6x6, .f32⟩ : BufTy).Contents (Elt F) → (⟨S16x9x6x6, .f32⟩ : BufTy).Contents (Elt F)) ]

/-- @main's operations 31 … 60 of 146 (window `main_part0`). -/
abbrev ops_part0_1 : List (HloOp τ sig (Elt F)) :=
  [ nullary main_v29 (iotaInDim S6x6 32 0),
    nullary main_v30 (iotaInDim S6x6 32 1),
    nullary main_c (constantI S_ 32 0#32),
    unary main_c main_v31 (broadcastInDim S6x6 ![] bcast_S_S6x6 : (⟨S_, .i32⟩ : BufTy).Contents (Elt F) → (⟨S6x6, .i32⟩ : BufTy).Contents (Elt F)),
    binary main_v29 main_v31 main_v32 (addi : (⟨S6x6, .i32⟩ : BufTy).Contents (Elt F) → (⟨S6x6, .i32⟩ : BufTy).Contents (Elt F) → (⟨S6x6, .i32⟩ : BufTy).Contents (Elt F)),
    binary main_v32 main_v30 main_v33 (cmpi .eq : (⟨S6x6, .i32⟩ : BufTy).Contents (Elt F) → (⟨S6x6, .i32⟩ : BufTy).Contents (Elt F) → (⟨S6x6, .i1⟩ : BufTy).Contents (Elt F)),
    nullary main_cst_0 (constant S_ .f32 0x7F800000#32),
    TRef.unary (TRef.of (T := ⟨S_, .f32⟩) main_cst_0) (TRef.of (T := ⟨S_, .f32⟩) main_call0_v0) id,
    TRef.unary (TRef.of (T := ⟨S6x6, .i1⟩) main_v33) (TRef.of (T := ⟨S16x9x6x6, .i1⟩) main_call0_v1) (broadcastInDim S16x9x6x6 ![2, 3] bcast_S6x6_S16x9x6x6_2_3),
    TRef.unary (TRef.of (T := ⟨S_, .f32⟩) main_call0_v0) (TRef.of (T := ⟨S16x9x6x6, .f32⟩) main_call0_v2) (broadcastInDim S16x9x6x6 ![] bcast_S_S16x9x6x6),
    TRef.ternary (TRef.of (T := ⟨S16x9x6x6, .i1⟩) main_call0_v1) (TRef.of (T := ⟨S16x9x6x6, .f32⟩) main_call0_v2) (TRef.of (T := ⟨S16x9x6x6, .f32⟩) main_v28) (TRef.of (T := ⟨S16x9x6x6, .f32⟩) main_v34) select,
    TRef.nullary (TRef.of (T := ⟨S16x9x6x6, .i32⟩) main_call1_v0) (iotaInDim S16x9x6x6 32 3),
    TRef.nullary (TRef.of (T := ⟨S_, .f32⟩) main_call1_cst) (constant S_ .f32 0x7F800000#32),
    TRef.nullary (TRef.of (T := ⟨S_, .i32⟩) main_call1_c) (constantI S_ 32 0#32),
    TRef.quaternary (TRef.of (T := ⟨S16x9x6x6, .f32⟩) main_v34) (TRef.of (T := ⟨S16x9x6x6, .i32⟩) main_call1_v0) (TRef.of (T := ⟨S_, .f32⟩) main_call1_cst) (TRef.of (T := ⟨S_, .i32⟩) main_call1_c) (TRef.of (T := ⟨S16x9x6, .f32⟩) main_call1_v1_0) (fun x y u v => fun j => (Host.argReduce reducer_argmin_f32_i32 x y u v reducesTo_S16x9x6x6_S16x9x6_d3 h_S_ j).1),
    TRef.quaternary (TRef.of (T := ⟨S16x9x6x6, .f32⟩) main_v34) (TRef.of (T := ⟨S16x9x6x6, .i32⟩) main_call1_v0) (TRef.of (T := ⟨S_, .f32⟩) main_call1_cst) (TRef.of (T := ⟨S_, .i32⟩) main_call1_c) (TRef.of (T := ⟨S16x9x6, .i32⟩) main_v35) (fun x y u v => fun j => (Host.argReduce reducer_argmin_f32_i32 x y u v reducesTo_S16x9x6x6_S16x9x6_d3 h_S_ j).2),
    nullary main_c_1 (constantI S_ 32 2147483648#32),
    binary main_v35 main_c_1 main_v36 ((fun x v => Host.reduce IntOp.maxsi x v reducesTo_S16x9x6_S16x9_d2 h_S_) : (⟨S16x9x6, .i32⟩ : BufTy).Contents (Elt F) → (⟨S_, .i32⟩ : BufTy).Contents (Elt F) → (⟨S16x9, .i32⟩ : BufTy).Contents (Elt F)),
    unary main_v36 main_v37 (broadcastInDim S16x9x1 ![0, 1] bcast_S16x9_S16x9x1_0_1 : (⟨S16x9, .i32⟩ : BufTy).Contents (Elt F) → (⟨S16x9x1, .i32⟩ : BufTy).Contents (Elt F)),
    unary main_v37 main_v38 (broadcastInDim S16x9x6 ![0, 1, 2] bcast_S16x9x1_S16x9x6_0_1_2 : (⟨S16x9x1, .i32⟩ : BufTy).Contents (Elt F) → (⟨S16x9x6, .i32⟩ : BufTy).Contents (Elt F)),
    binary main_v35 main_v38 main_v39 (cmpi .eq : (⟨S16x9x6, .i32⟩ : BufTy).Contents (Elt F) → (⟨S16x9x6, .i32⟩ : BufTy).Contents (Elt F) → (⟨S16x9x6, .i1⟩ : BufTy).Contents (Elt F)),
    unary main_v39 main_v40 ((extui 32 · natLt_1_32) : (⟨S16x9x6, .i1⟩ : BufTy).Contents (Elt F) → (⟨S16x9x6, .i32⟩ : BufTy).Contents (Elt F)),
    nullary main_c_2 (constantI S_ 32 0#32),
    binary main_v40 main_c_2 main_v41 ((fun x v => Host.reduce IntOp.addi x v reducesTo_S16x9x6_S16x9_d2 h_S_) : (⟨S16x9x6, .i32⟩ : BufTy).Contents (Elt F) → (⟨S_, .i32⟩ : BufTy).Contents (Elt F) → (⟨S16x9, .i32⟩ : BufTy).Contents (Elt F)),
    unary main_v36 main_v42 (broadcastInDim S16x9x1x1x1 ![0, 1] bcast_S16x9_S16x9x1x1x1_0_1 : (⟨S16x9, .i32⟩ : BufTy).Contents (Elt F) → (⟨S16x9x1x1x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S16x9x1x1x1, .i32⟩) main_call2_v0) (broadcastInDim S16x9x1x1x1 ![] bcast_S_S16x9x1x1x1),
    TRef.binary (TRef.of (T := ⟨S16x9x1x1x1, .i32⟩) main_v42) (TRef.of (T := ⟨S16x9x1x1x1, .i32⟩) main_call2_v0) (TRef.of (T := ⟨S16x9x1x1x1, .i1⟩) main_call2_v1) (cmpi .slt),
    TRef.nullary (TRef.of (T := ⟨S_, .i32⟩) main_call2_c_0) (constantI S_ 32 6#32),
    TRef.unary (TRef.of (T := ⟨S_, .i32⟩) main_call2_c_0) (TRef.of (T := ⟨S16x9x1x1x1, .i32⟩) main_call2_v2) (broadcastInDim S16x9x1x1x1 ![] bcast_S_S16x9x1x1x1) ]

/-- @main's operations 61 … 89 of 146 (window `main_part0`). -/
abbrev ops_part0_2 : List (HloOp τ sig (Elt F)) :=
  [ TRef.binary (TRef.of (T := ⟨S16x9x1x1x1, .i32⟩) main_v42) (TRef.of (T := ⟨S16x9x1x1x1, .i32⟩) main_call2_v2) (TRef.of (T := ⟨S16x9x1x1x1, .i32⟩) main_call2_v3) addi,
    TRef.ternary (TRef.of (T := ⟨S16x9x1x1x1, .i1⟩) main_call2_v1) (TRef.of (T := ⟨S16x9x1x1x1, .i32⟩) main_call2_v3) (TRef.of (T := ⟨S16x9x1x1x1, .i32⟩) main_v42) (TRef.of (T := ⟨S16x9x1x1x1, .i32⟩) main_call2_v4) select,
    TRef.reshape (TRef.of (T := ⟨S16x9x1x1x1, .i32⟩) main_call2_v4) (TRef.of (T := ⟨S16x9x1x1, .i32⟩) main_call2_v5) (rfl : (.i32 : EltTy) = .i32) shapeCasts_S16x9x1x1x1_S16x9x1x1,
    TRef.nullary (TRef.of (T := ⟨S1, .i32⟩) main_call2_c_1) (constantI S1 32 5#32),
    TRef.nullary (TRef.of (T := ⟨S_, .i32⟩) main_call2_c_2) (constantI S_ 32 0#32),
    TRef.unary (TRef.of (T := ⟨S_, .i32⟩) main_call2_c_2) (TRef.of (T := ⟨S16x9x1x1, .i32⟩) main_call2_v6) (broadcastInDim S16x9x1x1 ![] bcast_S_S16x9x1x1),
    TRef.binary (TRef.of (T := ⟨S16x9x1x1, .i32⟩) main_call2_v5) (TRef.of (T := ⟨S16x9x1x1, .i32⟩) main_call2_v6) (TRef.of (T := ⟨S16x9x1x1, .i1⟩) main_call2_v7) (cmpi .sge),
    TRef.unary (TRef.of (T := ⟨S1, .i32⟩) main_call2_c_1) (TRef.of (T := ⟨S1x1x1x1, .i32⟩) main_call2_v8) (broadcastInDim S1x1x1x1 ![3] bcast_S1_S1x1x1x1_3),
    TRef.unary (TRef.of (T := ⟨S1x1x1x1, .i32⟩) main_call2_v8) (TRef.of (T := ⟨S16x9x1x1, .i32⟩) main_call2_v9) (broadcastInDim S16x9x1x1 ![0, 1, 2, 3] bcast_S1x1x1x1_S16x9x1x1_0_1_2_3),
    TRef.binary (TRef.of (T := ⟨S16x9x1x1, .i32⟩) main_call2_v5) (TRef.of (T := ⟨S16x9x1x1, .i32⟩) main_call2_v9) (TRef.of (T := ⟨S16x9x1x1, .i1⟩) main_call2_v10) (cmpi .sle),
    TRef.binary (TRef.of (T := ⟨S16x9x1x1, .i1⟩) main_call2_v7) (TRef.of (T := ⟨S16x9x1x1, .i1⟩) main_call2_v10) (TRef.of (T := ⟨S16x9x1x1, .i1⟩) main_call2_v11) andi,
    TRef.nullary (TRef.of (T := ⟨S_, .i1⟩) main_call2_c_3) (constantI S_ 1 1#1),
    TRef.binary (TRef.of (T := ⟨S16x9x1x1, .i1⟩) main_call2_v11) (TRef.of (T := ⟨S_, .i1⟩) main_call2_c_3) (TRef.of (T := ⟨S16x9x1, .i1⟩) main_call2_v12) (fun x v => Host.reduce IntOp.andi x v reducesTo_S16x9x1x1_S16x9x1_d3 h_S_),
    TRef.binary (TRef.of (T := ⟨S16x9x6x222x222, .f32⟩) main_v20) (TRef.of (T := ⟨S16x9x1x1, .i32⟩) main_call2_v5) (TRef.of (T := ⟨S16x9x1x222x222, .f32⟩) main_call2_v13) (fun x i => Host.gather gather_S16x9x6x222x222_S16x9x1x1_S16x9x1x222x222_34_2_01_01_2_3_111222222 x i),
    TRef.unary (TRef.of (T := ⟨S16x9x1, .i1⟩) main_call2_v12) (TRef.of (T := ⟨S16x9x1x222x222, .i1⟩) main_call2_v14) (broadcastInDim S16x9x1x222x222 ![0, 1, 2] bcast_S16x9x1_S16x9x1x222x222_0_1_2),
    TRef.nullary (TRef.of (T := ⟨S_, .f32⟩) main_call2_cst) (constant S_ .f32 0x7FC00000#32),
    TRef.unary (TRef.of (T := ⟨S_, .f32⟩) main_call2_cst) (TRef.of (T := ⟨S16x9x1x222x222, .f32⟩) main_call2_v15) (broadcastInDim S16x9x1x222x222 ![] bcast_S_S16x9x1x222x222),
    TRef.ternary (TRef.of (T := ⟨S16x9x1x222x222, .i1⟩) main_call2_v14) (TRef.of (T := ⟨S16x9x1x222x222, .f32⟩) main_call2_v13) (TRef.of (T := ⟨S16x9x1x222x222, .f32⟩) main_call2_v15) (TRef.of (T := ⟨S16x9x1x222x222, .f32⟩) main_v43) select,
    unary main_v43 main_v44 (broadcastInDim S16x9x6x222x222 ![0, 1, 2, 3, 4] bcast_S16x9x1x222x222_S16x9x6x222x222_0_1_2_3_4 : (⟨S16x9x1x222x222, .f32⟩ : BufTy).Contents (Elt F) → (⟨S16x9x6x222x222, .f32⟩ : BufTy).Contents (Elt F)),
    binary main_v20 main_v44 main_v45 (mulf : (⟨S16x9x6x222x222, .f32⟩ : BufTy).Contents (Elt F) → (⟨S16x9x6x222x222, .f32⟩ : BufTy).Contents (Elt F) → (⟨S16x9x6x222x222, .f32⟩ : BufTy).Contents (Elt F)),
    unary main_v41 main_v46 (broadcastInDim S16x9x1x1x1 ![0, 1] bcast_S16x9_S16x9x1x1x1_0_1 : (⟨S16x9, .i32⟩ : BufTy).Contents (Elt F) → (⟨S16x9x1x1x1, .i32⟩ : BufTy).Contents (Elt F)),
    unary main_v46 main_v47 (sitofp .f32 : (⟨S16x9x1x1x1, .i32⟩ : BufTy).Contents (Elt F) → (⟨S16x9x1x1x1, .f32⟩ : BufTy).Contents (Elt F)),
    unary main_v47 main_v48 (broadcastInDim S16x9x6x222x222 ![0, 1, 2, 3, 4] bcast_S16x9x1x1x1_S16x9x6x222x222_0_1_2_3_4 : (⟨S16x9x1x1x1, .f32⟩ : BufTy).Contents (Elt F) → (⟨S16x9x6x222x222, .f32⟩ : BufTy).Contents (Elt F)),
    binary main_v45 main_v48 main_v49 (mulf : (⟨S16x9x6x222x222, .f32⟩ : BufTy).Contents (Elt F) → (⟨S16x9x6x222x222, .f32⟩ : BufTy).Contents (Elt F) → (⟨S16x9x6x222x222, .f32⟩ : BufTy).Contents (Elt F)),
    nullary main_cst_3 (constant S_ .f32 0x40C00000#32),
    unary main_cst_3 main_v50 (broadcastInDim S16x9x6x222x222 ![] bcast_S_S16x9x6x222x222 : (⟨S_, .f32⟩ : BufTy).Contents (Elt F) → (⟨S16x9x6x222x222, .f32⟩ : BufTy).Contents (Elt F)),
    binary main_v49 main_v50 main_v51 (Host.divf : (⟨S16x9x6x222x222, .f32⟩ : BufTy).Contents (Elt F) → (⟨S16x9x6x222x222, .f32⟩ : BufTy).Contents (Elt F) → (⟨S16x9x6x222x222, .f32⟩ : BufTy).Contents (Elt F)),
    unary main_v51 main_v52 (Host.floor : (⟨S16x9x6x222x222, .f32⟩ : BufTy).Contents (Elt F) → (⟨S16x9x6x222x222, .f32⟩ : BufTy).Contents (Elt F)),
    reshape main_v52 main_v53 (rfl : (.f32 : EltTy) = .f32) shapeCasts_S16x9x6x222x222_S16x6x3x3x222x222 ]

/-- Window `main_part0`'s operations. Not an abbreviation: `main_eq` below splits `ops` into the windows and no further. -/
def ops_part0 : List (HloOp τ sig (Elt F)) :=
  ops_part0_0 ++ (ops_part0_1 ++ (ops_part0_2))

/-- @main's operations 90 … 146 of 146 (window `main_part1`). -/
abbrev ops_part1 : List (HloOp τ sig (Elt F)) :=
  [ nullary main_cst_4 (constant S_ .f32 0x00000000#32),
    unary main_cst_4 main_v54 (broadcastInDim S16x6x224x224 ![] bcast_S_S16x6x224x224 : (⟨S_, .f32⟩ : BufTy).Contents (Elt F) → (⟨S16x6x224x224, .f32⟩ : BufTy).Contents (Elt F)),
    unary main_v53 main_v55 ((extractStridedSlice S16x6x1x1x222x222 ![0, 0, 0, 0, 0, 0] · slices_S16x6x3x3x222x222_S16x6x1x1x222x222_0_0_0_0_0_0) : (⟨S16x6x3x3x222x222, .f32⟩ : BufTy).Contents (Elt F) → (⟨S16x6x1x1x222x222, .f32⟩ : BufTy).Contents (Elt F)),
    reshape main_v55 main_v56 (rfl : (.f32 : EltTy) = .f32) shapeCasts_S16x6x1x1x222x222_S16x6x222x222,
    nullary main_c_5 (constantI S_ 32 0#32),
    TRef.unary (TRef.of (T := ⟨S_, .i32⟩) main_c_5) (TRef.of (T := ⟨S_, .f32⟩) main_call3_v0) (sitofp .f32),
    TRef.binary (TRef.of (T := ⟨S16x6x222x222, .f32⟩) main_v56) (TRef.of (T := ⟨S_, .f32⟩) main_call3_v0) (TRef.of (T := ⟨S16x6x224x224, .f32⟩) main_v57) (fun x v => pad S16x6x224x224 ![0, 0, 0, 0] ![0, 0, 2, 2] ![0, 0, 0, 0] x v pads_S16x6x222x222_S16x6x224x224_000_000_020_020 h_S_),
    binary main_v54 main_v57 main_v58 (addf : (⟨S16x6x224x224, .f32⟩ : BufTy).Contents (Elt F) → (⟨S16x6x224x224, .f32⟩ : BufTy).Contents (Elt F) → (⟨S16x6x224x224, .f32⟩ : BufTy).Contents (Elt F)),
    unary main_v53 main_v59 ((extractStridedSlice S16x6x1x1x222x222 ![0, 0, 0, 1, 0, 0] · slices_S16x6x3x3x222x222_S16x6x1x1x222x222_0_0_0_1_0_0) : (⟨S16x6x3x3x222x222, .f32⟩ : BufTy).Contents (Elt F) → (⟨S16x6x1x1x222x222, .f32⟩ : BufTy).Contents (Elt F)),
    reshape main_v59 main_v60 (rfl : (.f32 : EltTy) = .f32) shapeCasts_S16x6x1x1x222x222_S16x6x222x222,
    nullary main_c_6 (constantI S_ 32 0#32),
    TRef.unary (TRef.of (T := ⟨S_, .i32⟩) main_c_6) (TRef.of (T := ⟨S_, .f32⟩) main_call4_v0) (sitofp .f32),
    TRef.binary (TRef.of (T := ⟨S16x6x222x222, .f32⟩) main_v60) (TRef.of (T := ⟨S_, .f32⟩) main_call4_v0) (TRef.of (T := ⟨S16x6x224x224, .f32⟩) main_v61) (fun x v => pad S16x6x224x224 ![0, 0, 0, 1] ![0, 0, 2, 1] ![0, 0, 0, 0] x v pads_S16x6x222x222_S16x6x224x224_000_000_020_110 h_S_),
    binary main_v58 main_v61 main_v62 (addf : (⟨S16x6x224x224, .f32⟩ : BufTy).Contents (Elt F) → (⟨S16x6x224x224, .f32⟩ : BufTy).Contents (Elt F) → (⟨S16x6x224x224, .f32⟩ : BufTy).Contents (Elt F)),
    unary main_v53 main_v63 ((extractStridedSlice S16x6x1x1x222x222 ![0, 0, 0, 2, 0, 0] · slices_S16x6x3x3x222x222_S16x6x1x1x222x222_0_0_0_2_0_0) : (⟨S16x6x3x3x222x222, .f32⟩ : BufTy).Contents (Elt F) → (⟨S16x6x1x1x222x222, .f32⟩ : BufTy).Contents (Elt F)),
    reshape main_v63 main_v64 (rfl : (.f32 : EltTy) = .f32) shapeCasts_S16x6x1x1x222x222_S16x6x222x222,
    nullary main_c_7 (constantI S_ 32 0#32),
    TRef.unary (TRef.of (T := ⟨S_, .i32⟩) main_c_7) (TRef.of (T := ⟨S_, .f32⟩) main_call5_v0) (sitofp .f32),
    TRef.binary (TRef.of (T := ⟨S16x6x222x222, .f32⟩) main_v64) (TRef.of (T := ⟨S_, .f32⟩) main_call5_v0) (TRef.of (T := ⟨S16x6x224x224, .f32⟩) main_v65) (fun x v => pad S16x6x224x224 ![0, 0, 0, 2] ![0, 0, 2, 0] ![0, 0, 0, 0] x v pads_S16x6x222x222_S16x6x224x224_000_000_020_200 h_S_),
    binary main_v62 main_v65 main_v66 (addf : (⟨S16x6x224x224, .f32⟩ : BufTy).Contents (Elt F) → (⟨S16x6x224x224, .f32⟩ : BufTy).Contents (Elt F) → (⟨S16x6x224x224, .f32⟩ : BufTy).Contents (Elt F)),
    unary main_v53 main_v67 ((extractStridedSlice S16x6x1x1x222x222 ![0, 0, 1, 0, 0, 0] · slices_S16x6x3x3x222x222_S16x6x1x1x222x222_0_0_1_0_0_0) : (⟨S16x6x3x3x222x222, .f32⟩ : BufTy).Contents (Elt F) → (⟨S16x6x1x1x222x222, .f32⟩ : BufTy).Contents (Elt F)),
    reshape main_v67 main_v68 (rfl : (.f32 : EltTy) = .f32) shapeCasts_S16x6x1x1x222x222_S16x6x222x222,
    nullary main_c_8 (constantI S_ 32 0#32),
    TRef.unary (TRef.of (T := ⟨S_, .i32⟩) main_c_8) (TRef.of (T := ⟨S_, .f32⟩) main_call6_v0) (sitofp .f32),
    TRef.binary (TRef.of (T := ⟨S16x6x222x222, .f32⟩) main_v68) (TRef.of (T := ⟨S_, .f32⟩) main_call6_v0) (TRef.of (T := ⟨S16x6x224x224, .f32⟩) main_v69) (fun x v => pad S16x6x224x224 ![0, 0, 1, 0] ![0, 0, 1, 2] ![0, 0, 0, 0] x v pads_S16x6x222x222_S16x6x224x224_000_000_110_020 h_S_),
    binary main_v66 main_v69 main_v70 (addf : (⟨S16x6x224x224, .f32⟩ : BufTy).Contents (Elt F) → (⟨S16x6x224x224, .f32⟩ : BufTy).Contents (Elt F) → (⟨S16x6x224x224, .f32⟩ : BufTy).Contents (Elt F)),
    unary main_v53 main_v71 ((extractStridedSlice S16x6x1x1x222x222 ![0, 0, 1, 1, 0, 0] · slices_S16x6x3x3x222x222_S16x6x1x1x222x222_0_0_1_1_0_0) : (⟨S16x6x3x3x222x222, .f32⟩ : BufTy).Contents (Elt F) → (⟨S16x6x1x1x222x222, .f32⟩ : BufTy).Contents (Elt F)),
    reshape main_v71 main_v72 (rfl : (.f32 : EltTy) = .f32) shapeCasts_S16x6x1x1x222x222_S16x6x222x222,
    nullary main_c_9 (constantI S_ 32 0#32),
    TRef.unary (TRef.of (T := ⟨S_, .i32⟩) main_c_9) (TRef.of (T := ⟨S_, .f32⟩) main_call7_v0) (sitofp .f32),
    TRef.binary (TRef.of (T := ⟨S16x6x222x222, .f32⟩) main_v72) (TRef.of (T := ⟨S_, .f32⟩) main_call7_v0) (TRef.of (T := ⟨S16x6x224x224, .f32⟩) main_v73) (fun x v => pad S16x6x224x224 ![0, 0, 1, 1] ![0, 0, 1, 1] ![0, 0, 0, 0] x v pads_S16x6x222x222_S16x6x224x224_000_000_110_110 h_S_),
    binary main_v70 main_v73 main_v74 (addf : (⟨S16x6x224x224, .f32⟩ : BufTy).Contents (Elt F) → (⟨S16x6x224x224, .f32⟩ : BufTy).Contents (Elt F) → (⟨S16x6x224x224, .f32⟩ : BufTy).Contents (Elt F)),
    unary main_v53 main_v75 ((extractStridedSlice S16x6x1x1x222x222 ![0, 0, 1, 2, 0, 0] · slices_S16x6x3x3x222x222_S16x6x1x1x222x222_0_0_1_2_0_0) : (⟨S16x6x3x3x222x222, .f32⟩ : BufTy).Contents (Elt F) → (⟨S16x6x1x1x222x222, .f32⟩ : BufTy).Contents (Elt F)),
    reshape main_v75 main_v76 (rfl : (.f32 : EltTy) = .f32) shapeCasts_S16x6x1x1x222x222_S16x6x222x222,
    nullary main_c_10 (constantI S_ 32 0#32),
    TRef.unary (TRef.of (T := ⟨S_, .i32⟩) main_c_10) (TRef.of (T := ⟨S_, .f32⟩) main_call8_v0) (sitofp .f32),
    TRef.binary (TRef.of (T := ⟨S16x6x222x222, .f32⟩) main_v76) (TRef.of (T := ⟨S_, .f32⟩) main_call8_v0) (TRef.of (T := ⟨S16x6x224x224, .f32⟩) main_v77) (fun x v => pad S16x6x224x224 ![0, 0, 1, 2] ![0, 0, 1, 0] ![0, 0, 0, 0] x v pads_S16x6x222x222_S16x6x224x224_000_000_110_200 h_S_),
    binary main_v74 main_v77 main_v78 (addf : (⟨S16x6x224x224, .f32⟩ : BufTy).Contents (Elt F) → (⟨S16x6x224x224, .f32⟩ : BufTy).Contents (Elt F) → (⟨S16x6x224x224, .f32⟩ : BufTy).Contents (Elt F)),
    unary main_v53 main_v79 ((extractStridedSlice S16x6x1x1x222x222 ![0, 0, 2, 0, 0, 0] · slices_S16x6x3x3x222x222_S16x6x1x1x222x222_0_0_2_0_0_0) : (⟨S16x6x3x3x222x222, .f32⟩ : BufTy).Contents (Elt F) → (⟨S16x6x1x1x222x222, .f32⟩ : BufTy).Contents (Elt F)),
    reshape main_v79 main_v80 (rfl : (.f32 : EltTy) = .f32) shapeCasts_S16x6x1x1x222x222_S16x6x222x222,
    nullary main_c_11 (constantI S_ 32 0#32),
    TRef.unary (TRef.of (T := ⟨S_, .i32⟩) main_c_11) (TRef.of (T := ⟨S_, .f32⟩) main_call9_v0) (sitofp .f32),
    TRef.binary (TRef.of (T := ⟨S16x6x222x222, .f32⟩) main_v80) (TRef.of (T := ⟨S_, .f32⟩) main_call9_v0) (TRef.of (T := ⟨S16x6x224x224, .f32⟩) main_v81) (fun x v => pad S16x6x224x224 ![0, 0, 2, 0] ![0, 0, 0, 2] ![0, 0, 0, 0] x v pads_S16x6x222x222_S16x6x224x224_000_000_200_020 h_S_),
    binary main_v78 main_v81 main_v82 (addf : (⟨S16x6x224x224, .f32⟩ : BufTy).Contents (Elt F) → (⟨S16x6x224x224, .f32⟩ : BufTy).Contents (Elt F) → (⟨S16x6x224x224, .f32⟩ : BufTy).Contents (Elt F)),
    unary main_v53 main_v83 ((extractStridedSlice S16x6x1x1x222x222 ![0, 0, 2, 1, 0, 0] · slices_S16x6x3x3x222x222_S16x6x1x1x222x222_0_0_2_1_0_0) : (⟨S16x6x3x3x222x222, .f32⟩ : BufTy).Contents (Elt F) → (⟨S16x6x1x1x222x222, .f32⟩ : BufTy).Contents (Elt F)),
    reshape main_v83 main_v84 (rfl : (.f32 : EltTy) = .f32) shapeCasts_S16x6x1x1x222x222_S16x6x222x222,
    nullary main_c_12 (constantI S_ 32 0#32),
    TRef.unary (TRef.of (T := ⟨S_, .i32⟩) main_c_12) (TRef.of (T := ⟨S_, .f32⟩) main_call10_v0) (sitofp .f32),
    TRef.binary (TRef.of (T := ⟨S16x6x222x222, .f32⟩) main_v84) (TRef.of (T := ⟨S_, .f32⟩) main_call10_v0) (TRef.of (T := ⟨S16x6x224x224, .f32⟩) main_v85) (fun x v => pad S16x6x224x224 ![0, 0, 2, 1] ![0, 0, 0, 1] ![0, 0, 0, 0] x v pads_S16x6x222x222_S16x6x224x224_000_000_200_110 h_S_),
    binary main_v82 main_v85 main_v86 (addf : (⟨S16x6x224x224, .f32⟩ : BufTy).Contents (Elt F) → (⟨S16x6x224x224, .f32⟩ : BufTy).Contents (Elt F) → (⟨S16x6x224x224, .f32⟩ : BufTy).Contents (Elt F)),
    unary main_v53 main_v87 ((extractStridedSlice S16x6x1x1x222x222 ![0, 0, 2, 2, 0, 0] · slices_S16x6x3x3x222x222_S16x6x1x1x222x222_0_0_2_2_0_0) : (⟨S16x6x3x3x222x222, .f32⟩ : BufTy).Contents (Elt F) → (⟨S16x6x1x1x222x222, .f32⟩ : BufTy).Contents (Elt F)),
    reshape main_v87 main_v88 (rfl : (.f32 : EltTy) = .f32) shapeCasts_S16x6x1x1x222x222_S16x6x222x222,
    nullary main_c_13 (constantI S_ 32 0#32),
    TRef.unary (TRef.of (T := ⟨S_, .i32⟩) main_c_13) (TRef.of (T := ⟨S_, .f32⟩) main_call11_v0) (sitofp .f32),
    TRef.binary (TRef.of (T := ⟨S16x6x222x222, .f32⟩) main_v88) (TRef.of (T := ⟨S_, .f32⟩) main_call11_v0) (TRef.of (T := ⟨S16x6x224x224, .f32⟩) main_v89) (fun x v => pad S16x6x224x224 ![0, 0, 2, 2] ![0, 0, 0, 0] ![0, 0, 0, 0] x v pads_S16x6x222x222_S16x6x224x224_000_000_200_200 h_S_),
    binary main_v86 main_v89 main_v90 (addf : (⟨S16x6x224x224, .f32⟩ : BufTy).Contents (Elt F) → (⟨S16x6x224x224, .f32⟩ : BufTy).Contents (Elt F) → (⟨S16x6x224x224, .f32⟩ : BufTy).Contents (Elt F)),
    reshape main_v90 main_v91 (rfl : (.f32 : EltTy) = .f32) shapeCasts_S16x6x224x224_S1x96x224x224 ]

/-- @main's 146 operations, in order (a called function's operations stand in its call's place, spelt `TRef.…`). -/
abbrev ops : List (HloOp τ sig (Elt F)) :=
  ops_part0 ++ (ops_part1)

set_option maxRecDepth 8192 in
set_option maxHeartbeats 4000000 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨reshape_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., unary_bufs_sub .., unary_bufs_sub .., unary_bufs_sub .., unary_bufs_sub .., binary_bufs_sub .., binary_bufs_sub .., nullary_bufs_sub .., binary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨nullary_bufs_sub .., nullary_bufs_sub .., nullary_bufs_sub .., unary_bufs_sub .., binary_bufs_sub .., binary_bufs_sub .., nullary_bufs_sub .., unary_bufs_sub .., unary_bufs_sub .., unary_bufs_sub .., ternary_bufs_sub .., nullary_bufs_sub .., nullary_bufs_sub .., nullary_bufs_sub .., quaternary_bufs_sub .., quaternary_bufs_sub .., nullary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., nullary_bufs_sub .., unary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., unary_bufs_sub .., unary_bufs_sub .., unary_bufs_sub .., binary_bufs_sub .., nullary_bufs_sub .., unary_bufs_sub .., binary_bufs_sub .., unary_bufs_sub .., reshape_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_sub : (ops_part1 : List (HloOp τ sig (Elt F))).Forall fun op => op.bufs ⊆ tcRefs τ sig :=
  ⟨nullary_bufs_sub .., unary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., reshape_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h
    exacts [List.forall_iff_forall_mem.mp ops_part0_0_sub op h, List.forall_iff_forall_mem.mp ops_part0_1_sub op h, List.forall_iff_forall_mem.mp ops_part0_2_sub op h, List.forall_iff_forall_mem.mp ops_part1_sub op h]
theorem ops_fresh : ∀ op ∈ (ops : List (HloOp τ sig (Elt F))), op.fresh = ∅ := fun op h => by
    simp only [ops, ops_part0, List.mem_append, or_assoc] at h
    rcases h with h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_fresh op h]

set_option maxRecDepth 8192 in
/-- `main_v0`'s composed term of the arguments (named: it is used 9 times). -/
def res_main_v0 (V0 : Valuation τ sig (Elt F)) : (Proc.devRef .tc main_v0 : DevRef τ sig).ty.Contents (Elt F) :=
  shapeCast _ (V0 (Proc.devRef .tc main_arg0)) shapeCasts_S1x96x224x224_S16x6x224x224

set_option maxRecDepth 8192 in
/-- `main_v20`'s composed term of the arguments (named: it is used 4 times). -/
def res_main_v20 (V0 : Valuation τ sig (Elt F)) : (Proc.devRef .tc main_v20 : DevRef τ sig).ty.Contents (Elt F) :=
  shapeCast _ ((concatenate S16x6x9x222x222 2 [⟨S16x6x1x222x222, ((broadcastInDim S16x6x1x222x222 ![0, 1, 3, 4] bcast_S16x6x222x222_S16x6x1x222x222_0_1_3_4 (extractStridedSlice S16x6x222x222 ![0, 0, 0, 0] (res_main_v0 V0) slices_S16x6x224x224_S16x6x222x222_0_0_0_0)) : (⟨S16x6x1x222x222, .f32⟩ : BufTy).Contents (Elt F))⟩, ⟨S16x6x1x222x222, ((broadcastInDim S16x6x1x222x222 ![0, 1, 3, 4] bcast_S16x6x222x222_S16x6x1x222x222_0_1_3_4 (extractStridedSlice S16x6x222x222 ![0, 0, 0, 1] (res_main_v0 V0) slices_S16x6x224x224_S16x6x222x222_0_0_0_1)) : (⟨S16x6x1x222x222, .f32⟩ : BufTy).Contents (Elt F))⟩, ⟨S16x6x1x222x222, ((broadcastInDim S16x6x1x222x222 ![0, 1, 3, 4] bcast_S16x6x222x222_S16x6x1x222x222_0_1_3_4 (extractStridedSlice S16x6x222x222 ![0, 0, 0, 2] (res_main_v0 V0) slices_S16x6x224x224_S16x6x222x222_0_0_0_2)) : (⟨S16x6x1x222x222, .f32⟩ : BufTy).Contents (Elt F))⟩, ⟨S16x6x1x222x222, ((broadcastInDim S16x6x1x222x222 ![0, 1, 3, 4] bcast_S16x6x222x222_S16x6x1x222x222_0_1_3_4 (extractStridedSlice S16x6x222x222 ![0, 0, 1, 0] (res_main_v0 V0) slices_S16x6x224x224_S16x6x222x222_0_0_1_0)) : (⟨S16x6x1x222x222, .f32⟩ : BufTy).Contents (Elt F))⟩, ⟨S16x6x1x222x222, ((broadcastInDim S16x6x1x222x222 ![0, 1, 3, 4] bcast_S16x6x222x222_S16x6x1x222x222_0_1_3_4 (extractStridedSlice S16x6x222x222 ![0, 0, 1, 1] (res_main_v0 V0) slices_S16x6x224x224_S16x6x222x222_0_0_1_1)) : (⟨S16x6x1x222x222, .f32⟩ : BufTy).Contents (Elt F))⟩, ⟨S16x6x1x222x222, ((broadcastInDim S16x6x1x222x222 ![0, 1, 3, 4] bcast_S16x6x222x222_S16x6x1x222x222_0_1_3_4 (extractStridedSlice S16x6x222x222 ![0, 0, 1, 2] (res_main_v0 V0) slices_S16x6x224x224_S16x6x222x222_0_0_1_2)) : (⟨S16x6x1x222x222, .f32⟩ : BufTy).Contents (Elt F))⟩, ⟨S16x6x1x222x222, ((broadcastInDim S16x6x1x222x222 ![0, 1, 3, 4] bcast_S16x6x222x222_S16x6x1x222x222_0_1_3_4 (extractStridedSlice S16x6x222x222 ![0, 0, 2, 0] (res_main_v0 V0) slices_S16x6x224x224_S16x6x222x222_0_0_2_0)) : (⟨S16x6x1x222x222, .f32⟩ : BufTy).Contents (Elt F))⟩, ⟨S16x6x1x222x222, ((broadcastInDim S16x6x1x222x222 ![0, 1, 3, 4] bcast_S16x6x222x222_S16x6x1x222x222_0_1_3_4 (extractStridedSlice S16x6x222x222 ![0, 0, 2, 1] (res_main_v0 V0) slices_S16x6x224x224_S16x6x222x222_0_0_2_1)) : (⟨S16x6x1x222x222, .f32⟩ : BufTy).Contents (Elt F))⟩, ⟨S16x6x1x222x222, ((broadcastInDim S16x6x1x222x222 ![0, 1, 3, 4] bcast_S16x6x222x222_S16x6x1x222x222_0_1_3_4 (extractStridedSlice S16x6x222x222 ![0, 0, 2, 2] (res_main_v0 V0) slices_S16x6x224x224_S16x6x222x222_0_0_2_2)) : (⟨S16x6x1x222x222, .f32⟩ : BufTy).Contents (Elt F))⟩] concatenates_S16x6x1x222x222_S16x6x1x222x222_S16x6x1x222x222_S16x6x1x222x222_S16x6x1x222x222_S16x6x1x222x222_S16x6x1x222x222_S16x6x1x222x222_S16x6x1x222x222_S16x6x9x222x222_d2 : (⟨S16x6x9x222x222, .f32⟩ : BufTy).Contents (Elt F))) shapeCasts_S16x6x9x222x222_S16x9x6x222x222

set_option maxRecDepth 8192 in
/-- `main_v25`'s composed term of the arguments (named: it is used 2 times). -/
def res_main_v25 (V0 : Valuation τ sig (Elt F)) : (Proc.devRef .tc main_v25 : DevRef τ sig).ty.Contents (Elt F) :=
  subf (broadcastInDim S16x9x6x6x222x222 ![0, 1, 2, 3, 4, 5] bcast_S16x9x6x1x222x222_S16x9x6x6x222x222_0_1_2_3_4_5 (broadcastInDim S16x9x6x1x222x222 ![0, 1, 2, 4, 5] bcast_S16x9x6x222x222_S16x9x6x1x222x222_0_1_2_4_5 (res_main_v20 V0))) (broadcastInDim S16x9x6x6x222x222 ![0, 1, 2, 3, 4, 5] bcast_S16x9x1x6x222x222_S16x9x6x6x222x222_0_1_2_3_4_5 (broadcastInDim S16x9x1x6x222x222 ![0, 1, 3, 4, 5] bcast_S16x9x6x222x222_S16x9x1x6x222x222_0_1_3_4_5 (res_main_v20 V0)))

set_option maxRecDepth 8192 in
/-- `main_v34`'s composed term of the arguments (named: it is used 2 times). -/
def res_main_v34 (V0 : Valuation τ sig (Elt F)) : (Proc.devRef .tc main_v34 : DevRef τ sig).ty.Contents (Elt F) :=
  select (broadcastInDim S16x9x6x6 ![2, 3] bcast_S6x6_S16x9x6x6_2_3 (cmpi .eq (addi (iotaInDim S6x6 32 0) (broadcastInDim S6x6 ![] bcast_S_S6x6 (constantI S_ 32 0#32))) (iotaInDim S6x6 32 1))) (broadcastInDim S16x9x6x6 ![] bcast_S_S16x9x6x6 (id (constant S_ .f32 0x7F800000#32))) (Host.sqrt (Host.reduceAdd (mulf (res_main_v25 V0) (res_main_v25 V0)) (constant S_ .f32 0x00000000#32) reducesTo_S16x9x6x6x222x222_S16x9x6x6_d4_5 h_S_))

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S16x9x6x6 32 3

set_option maxRecDepth 8192 in
/-- `main_call1_cst`'s composed term of the arguments (named: it is used 2 times). -/
def res_main_call1_cst (V0 : Valuation τ sig (Elt F)) : (Proc.devRef .tc main_call1_cst : DevRef τ sig).ty.Contents (Elt F) :=
  constant S_ .f32 0x7F800000#32

set_option maxRecDepth 8192 in
/-- `main_call1_c`'s composed term of the arguments (named: it is used 2 times). -/
def res_main_call1_c (V0 : Valuation τ sig (Elt F)) : (Proc.devRef .tc main_call1_c : DevRef τ sig).ty.Contents (Elt F) :=
  constantI S_ 32 0#32

set_option maxRecDepth 8192 in
/-- `main_v35`'s composed term of the arguments (named: it is used 2 times). -/
def res_main_v35 (V0 : Valuation τ sig (Elt F)) : (Proc.devRef .tc main_v35 : DevRef τ sig).ty.Contents (Elt F) :=
  fun j => (Host.argReduce reducer_argmin_f32_i32 (res_main_v34 V0) (res_main_call1_v0 V0) (res_main_call1_cst V0) (res_main_call1_c V0) reducesTo_S16x9x6x6_S16x9x6_d3 h_S_ j).2

set_option maxRecDepth 8192 in
/-- `main_v36`'s composed term of the arguments (named: it is used 2 times). -/
def res_main_v36 (V0 : Valuation τ sig (Elt F)) : (Proc.devRef .tc main_v36 : DevRef τ sig).ty.Contents (Elt F) :=
  Host.reduce IntOp.maxsi (res_main_v35 V0) (constantI S_ 32 2147483648#32) reducesTo_S16x9x6_S16x9_d2 h_S_

set_option maxRecDepth 8192 in
/-- `main_v42`'s composed term of the arguments (named: it is used 3 times). -/
def res_main_v42 (V0 : Valuation τ sig (Elt F)) : (Proc.devRef .tc main_v42 : DevRef τ sig).ty.Contents (Elt F) :=
  broadcastInDim S16x9x1x1x1 ![0, 1] bcast_S16x9_S16x9x1x1x1_0_1 (res_main_v36 V0)

set_option maxRecDepth 8192 in
/-- `main_call2_v5`'s composed term of the arguments (named: it is used 3 times). -/
def res_main_call2_v5 (V0 : Valuation τ sig (Elt F)) : (Proc.devRef .tc main_call2_v5 : DevRef τ sig).ty.Contents (Elt F) :=
  shapeCast _ (select (cmpi .slt (res_main_v42 V0) (broadcastInDim S16x9x1x1x1 ![] bcast_S_S16x9x1x1x1 (constantI S_ 32 0#32))) (addi (res_main_v42 V0) (broadcastInDim S16x9x1x1x1 ![] bcast_S_S16x9x1x1x1 (constantI S_ 32 6#32))) (res_main_v42 V0)) shapeCasts_S16x9x1x1x1_S16x9x1x1

set_option maxRecDepth 8192 in
/-- `main_v53`'s composed term of the arguments (named: it is used 9 times). -/
def res_main_v53 (V0 : Valuation τ sig (Elt F)) : (Proc.devRef .tc main_v53 : DevRef τ sig).ty.Contents (Elt F) :=
  shapeCast _ (Host.floor (Host.divf (mulf (mulf (res_main_v20 V0) (broadcastInDim S16x9x6x222x222 ![0, 1, 2, 3, 4] bcast_S16x9x1x222x222_S16x9x6x222x222_0_1_2_3_4 (select (broadcastInDim S16x9x1x222x222 ![0, 1, 2] bcast_S16x9x1_S16x9x1x222x222_0_1_2 (Host.reduce IntOp.andi (andi (cmpi .sge (res_main_call2_v5 V0) (broadcastInDim S16x9x1x1 ![] bcast_S_S16x9x1x1 (constantI S_ 32 0#32))) (cmpi .sle (res_main_call2_v5 V0) (broadcastInDim S16x9x1x1 ![0, 1, 2, 3] bcast_S1x1x1x1_S16x9x1x1_0_1_2_3 (broadcastInDim S1x1x1x1 ![3] bcast_S1_S1x1x1x1_3 (constantI S1 32 5#32))))) (constantI S_ 1 1#1) reducesTo_S16x9x1x1_S16x9x1_d3 h_S_)) (Host.gather gather_S16x9x6x222x222_S16x9x1x1_S16x9x1x222x222_34_2_01_01_2_3_111222222 (res_main_v20 V0) (res_main_call2_v5 V0)) (broadcastInDim S16x9x1x222x222 ![] bcast_S_S16x9x1x222x222 (constant S_ .f32 0x7FC00000#32))))) (broadcastInDim S16x9x6x222x222 ![0, 1, 2, 3, 4] bcast_S16x9x1x1x1_S16x9x6x222x222_0_1_2_3_4 (sitofp .f32 (broadcastInDim S16x9x1x1x1 ![0, 1] bcast_S16x9_S16x9x1x1x1_0_1 (Host.reduce IntOp.addi (extui 32 (cmpi .eq (res_main_v35 V0) (broadcastInDim S16x9x6 ![0, 1, 2] bcast_S16x9x1_S16x9x6_0_1_2 (broadcastInDim S16x9x1 ![0, 1] bcast_S16x9_S16x9x1_0_1 (res_main_v36 V0)))) natLt_1_32) (constantI S_ 32 0#32) reducesTo_S16x9x6_S16x9_d2 h_S_))))) (broadcastInDim S16x9x6x222x222 ![] bcast_S_S16x9x6x222x222 (constant S_ .f32 0x40C00000#32)))) shapeCasts_S16x9x6x222x222_S16x6x3x3x222x222

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_cst, main_v27, main_v28]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
set_option maxRecDepth 8192 in
set_option maxHeartbeats 2000000 in
theorem val0_1_main_v20 (V0 : Valuation τ sig (Elt F)) : val0_1 V0 (no_index (Proc.devRef .tc main_v20)) = res_main_v20 V0 := by
  unfold val0_1
  simp only [ops_part0_0]
  after_results_simp
  try dsimp only [Matrix.cons_val]
  try after_results_simp
  simp only [val0_main_arg0] <;> rfl
set_option maxRecDepth 8192 in
set_option maxHeartbeats 2000000 in
theorem val0_1_main_v28 (V0 : Valuation τ sig (Elt F)) : val0_1 V0 (no_index (Proc.devRef .tc main_v28)) = Host.sqrt (Host.reduceAdd (mulf (res_main_v25 V0) (res_main_v25 V0)) (constant S_ .f32 0x00000000#32) reducesTo_S16x9x6x6x222x222_S16x9x6x6_d4_5 h_S_) := by
  unfold val0_1
  simp only [ops_part0_0]
  after_results_simp
  try dsimp only [Matrix.cons_val]
  try after_results_simp
  simp only [val0_main_arg0] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v29, main_v30, main_c, main_v31, main_v32, main_v33, main_cst_0, main_call0_v0, main_call0_v1, main_call0_v2, main_v34, main_call1_v0, main_call1_cst, main_call1_c, main_call1_v1_0, main_v35, main_c_1, main_v36, main_v37, main_v38, main_v39, main_v40, main_c_2, main_v41, main_v42, main_call2_c, main_call2_v0, main_call2_v1, main_call2_c_0, main_call2_v2]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_v20 (V0 : Valuation τ sig (Elt F)) : val0_2 V0 (no_index (Proc.devRef .tc main_v20)) = res_main_v20 V0 :=
  (val0_2_keep V0 main_v20 (by decide)).trans (val0_1_main_v20 V0)
set_option maxRecDepth 8192 in
set_option maxHeartbeats 2000000 in
theorem val0_2_main_v41 (V0 : Valuation τ sig (Elt F)) : val0_2 V0 (no_index (Proc.devRef .tc main_v41)) = Host.reduce IntOp.addi (extui 32 (cmpi .eq (res_main_v35 V0) (broadcastInDim S16x9x6 ![0, 1, 2] bcast_S16x9x1_S16x9x6_0_1_2 (broadcastInDim S16x9x1 ![0, 1] bcast_S16x9_S16x9x1_0_1 (res_main_v36 V0)))) natLt_1_32) (constantI S_ 32 0#32) reducesTo_S16x9x6_S16x9_d2 h_S_ := by
  unfold val0_2
  simp only [ops_part0_1, TRef.binary, TRef.nullary, TRef.quaternary, TRef.ternary, TRef.unary, TRef.toBuf, TRef.ofBuf, cast_eq]
  after_results_simp
  simp only [val0_1_main_v28] <;> rfl
set_option maxRecDepth 8192 in
set_option maxHeartbeats 2000000 in
theorem val0_2_main_v42 (V0 : Valuation τ sig (Elt F)) : val0_2 V0 (no_index (Proc.devRef .tc main_v42)) = res_main_v42 V0 := by
  unfold val0_2
  simp only [ops_part0_1, TRef.binary, TRef.nullary, TRef.quaternary, TRef.ternary, TRef.unary, TRef.toBuf, TRef.ofBuf, cast_eq]
  after_results_simp
  simp only [val0_1_main_v28] <;> rfl
set_option maxRecDepth 8192 in
set_option maxHeartbeats 2000000 in
theorem val0_2_main_call2_v1 (V0 : Valuation τ sig (Elt F)) : val0_2 V0 (no_index (Proc.devRef .tc main_call2_v1)) = cmpi .slt (res_main_v42 V0) (broadcastInDim S16x9x1x1x1 ![] bcast_S_S16x9x1x1x1 (constantI S_ 32 0#32)) := by
  unfold val0_2
  simp only [ops_part0_1, TRef.binary, TRef.nullary, TRef.quaternary, TRef.ternary, TRef.unary, TRef.toBuf, TRef.ofBuf, cast_eq]
  after_results_simp
  simp only [val0_1_main_v28] <;> rfl
set_option maxRecDepth 8192 in
set_option maxHeartbeats 2000000 in
theorem val0_2_main_call2_v2 (V0 : Valuation τ sig (Elt F)) : val0_2 V0 (no_index (Proc.devRef .tc main_call2_v2)) = broadcastInDim S16x9x1x1x1 ![] bcast_S_S16x9x1x1x1 (constantI S_ 32 6#32) := by
  unfold val0_2
  simp only [ops_part0_1, TRef.binary, TRef.nullary, TRef.quaternary, TRef.ternary, TRef.unary, TRef.toBuf, TRef.ofBuf, cast_eq]
  after_results_simp
  all_goals rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v43, main_v44, main_v45, main_v46, main_v47, main_v48, main_v49, main_cst_3, main_v50, main_v51, main_v52, main_v53]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
set_option maxRecDepth 8192 in
set_option maxHeartbeats 2000000 in
theorem val1_main_v53 (V0 : Valuation τ sig (Elt F)) : val1 V0 (no_index (Proc.devRef .tc main_v53)) = res_main_v53 V0 := by
  unfold val1
  simp only [ops_part0_2, TRef.binary, TRef.nullary, TRef.reshape, TRef.ternary, TRef.unary, TRef.toBuf, TRef.ofBuf, cast_eq]
  after_results_simp
  simp only [val0_2_main_v41, val0_2_main_v42, val0_2_main_call2_v2, val0_2_main_call2_v1, val0_2_main_v20] <;> rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_cst_4, main_v54, main_v55, main_v56, main_c_5, main_call3_v0, main_v57, main_v58, main_v59, main_v60, main_c_6, main_call4_v0, main_v61, main_v62, main_v63, main_v64, main_c_7, main_call5_v0, main_v65, main_v66, main_v67, main_v68, main_c_8, main_call6_v0, main_v69, main_v70, main_v71, main_v72, main_c_9, main_call7_v0, main_v73, main_v74, main_v75, main_v76, main_c_10, main_call8_v0, main_v77, main_v78, main_v79, main_v80, main_c_11, main_call9_v0, main_v81, main_v82, main_v83, main_v84, main_c_12, main_call10_v0, main_v85, main_v86, main_v87, main_v88, main_c_13, main_call11_v0, main_v89, main_v90, main_v91]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
set_option maxRecDepth 8192 in
set_option maxHeartbeats 2000000 in
theorem val2_main_v91 (V0 : Valuation τ sig (Elt F)) : val2 V0 (no_index (Proc.devRef .tc main_v91)) = shapeCast _ (addf (addf (addf (addf (addf (addf (addf (addf (addf (broadcastInDim S16x6x224x224 ![] bcast_S_S16x6x224x224 (constant S_ .f32 0x00000000#32)) (pad S16x6x224x224 ![0, 0, 0, 0] ![0, 0, 2, 2] ![0, 0, 0, 0] (shapeCast _ (extractStridedSlice S16x6x1x1x222x222 ![0, 0, 0, 0, 0, 0] (res_main_v53 V0) slices_S16x6x3x3x222x222_S16x6x1x1x222x222_0_0_0_0_0_0) shapeCasts_S16x6x1x1x222x222_S16x6x222x222) (sitofp .f32 (constantI S_ 32 0#32)) pads_S16x6x222x222_S16x6x224x224_000_000_020_020 h_S_)) (pad S16x6x224x224 ![0, 0, 0, 1] ![0, 0, 2, 1] ![0, 0, 0, 0] (shapeCast _ (extractStridedSlice S16x6x1x1x222x222 ![0, 0, 0, 1, 0, 0] (res_main_v53 V0) slices_S16x6x3x3x222x222_S16x6x1x1x222x222_0_0_0_1_0_0) shapeCasts_S16x6x1x1x222x222_S16x6x222x222) (sitofp .f32 (constantI S_ 32 0#32)) pads_S16x6x222x222_S16x6x224x224_000_000_020_110 h_S_)) (pad S16x6x224x224 ![0, 0, 0, 2] ![0, 0, 2, 0] ![0, 0, 0, 0] (shapeCast _ (extractStridedSlice S16x6x1x1x222x222 ![0, 0, 0, 2, 0, 0] (res_main_v53 V0) slices_S16x6x3x3x222x222_S16x6x1x1x222x222_0_0_0_2_0_0) shapeCasts_S16x6x1x1x222x222_S16x6x222x222) (sitofp .f32 (constantI S_ 32 0#32)) pads_S16x6x222x222_S16x6x224x224_000_000_020_200 h_S_)) (pad S16x6x224x224 ![0, 0, 1, 0] ![0, 0, 1, 2] ![0, 0, 0, 0] (shapeCast _ (extractStridedSlice S16x6x1x1x222x222 ![0, 0, 1, 0, 0, 0] (res_main_v53 V0) slices_S16x6x3x3x222x222_S16x6x1x1x222x222_0_0_1_0_0_0) shapeCasts_S16x6x1x1x222x222_S16x6x222x222) (sitofp .f32 (constantI S_ 32 0#32)) pads_S16x6x222x222_S16x6x224x224_000_000_110_020 h_S_)) (pad S16x6x224x224 ![0, 0, 1, 1] ![0, 0, 1, 1] ![0, 0, 0, 0] (shapeCast _ (extractStridedSlice S16x6x1x1x222x222 ![0, 0, 1, 1, 0, 0] (res_main_v53 V0) slices_S16x6x3x3x222x222_S16x6x1x1x222x222_0_0_1_1_0_0) shapeCasts_S16x6x1x1x222x222_S16x6x222x222) (sitofp .f32 (constantI S_ 32 0#32)) pads_S16x6x222x222_S16x6x224x224_000_000_110_110 h_S_)) (pad S16x6x224x224 ![0, 0, 1, 2] ![0, 0, 1, 0] ![0, 0, 0, 0] (shapeCast _ (extractStridedSlice S16x6x1x1x222x222 ![0, 0, 1, 2, 0, 0] (res_main_v53 V0) slices_S16x6x3x3x222x222_S16x6x1x1x222x222_0_0_1_2_0_0) shapeCasts_S16x6x1x1x222x222_S16x6x222x222) (sitofp .f32 (constantI S_ 32 0#32)) pads_S16x6x222x222_S16x6x224x224_000_000_110_200 h_S_)) (pad S16x6x224x224 ![0, 0, 2, 0] ![0, 0, 0, 2] ![0, 0, 0, 0] (shapeCast _ (extractStridedSlice S16x6x1x1x222x222 ![0, 0, 2, 0, 0, 0] (res_main_v53 V0) slices_S16x6x3x3x222x222_S16x6x1x1x222x222_0_0_2_0_0_0) shapeCasts_S16x6x1x1x222x222_S16x6x222x222) (sitofp .f32 (constantI S_ 32 0#32)) pads_S16x6x222x222_S16x6x224x224_000_000_200_020 h_S_)) (pad S16x6x224x224 ![0, 0, 2, 1] ![0, 0, 0, 1] ![0, 0, 0, 0] (shapeCast _ (extractStridedSlice S16x6x1x1x222x222 ![0, 0, 2, 1, 0, 0] (res_main_v53 V0) slices_S16x6x3x3x222x222_S16x6x1x1x222x222_0_0_2_1_0_0) shapeCasts_S16x6x1x1x222x222_S16x6x222x222) (sitofp .f32 (constantI S_ 32 0#32)) pads_S16x6x222x222_S16x6x224x224_000_000_200_110 h_S_)) (pad S16x6x224x224 ![0, 0, 2, 2] ![0, 0, 0, 0] ![0, 0, 0, 0] (shapeCast _ (extractStridedSlice S16x6x1x1x222x222 ![0, 0, 2, 2, 0, 0] (res_main_v53 V0) slices_S16x6x3x3x222x222_S16x6x1x1x222x222_0_0_2_2_0_0) shapeCasts_S16x6x1x1x222x222_S16x6x222x222) (sitofp .f32 (constantI S_ 32 0#32)) pads_S16x6x222x222_S16x6x224x224_000_000_200_200 h_S_)) shapeCasts_S16x6x224x224_S1x96x224x224 := by
  unfold val2
  simp only [ops_part1, TRef.binary, TRef.unary, TRef.toBuf, TRef.ofBuf, cast_eq]
  after_results_simp
  simp only [val1_main_v53] <;> rfl

theorem after_ops (V0 : Valuation τ sig (Elt F)) : after ops V0 = val2 V0 := by
  simp only [ops, ops_part0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = shapeCast _ (addf (addf (addf (addf (addf (addf (addf (addf (addf (broadcastInDim S16x6x224x224 ![] bcast_S_S16x6x224x224 (constant S_ .f32 0x00000000#32)) (pad S16x6x224x224 ![0, 0, 0, 0] ![0, 0, 2, 2] ![0, 0, 0, 0] (shapeCast _ (extractStridedSlice S16x6x1x1x222x222 ![0, 0, 0, 0, 0, 0] (res_main_v53 (launchContents m c)) slices_S16x6x3x3x222x222_S16x6x1x1x222x222_0_0_0_0_0_0) shapeCasts_S16x6x1x1x222x222_S16x6x222x222) (sitofp .f32 (constantI S_ 32 0#32)) pads_S16x6x222x222_S16x6x224x224_000_000_020_020 h_S_)) (pad S16x6x224x224 ![0, 0, 0, 1] ![0, 0, 2, 1] ![0, 0, 0, 0] (shapeCast _ (extractStridedSlice S16x6x1x1x222x222 ![0, 0, 0, 1, 0, 0] (res_main_v53 (launchContents m c)) slices_S16x6x3x3x222x222_S16x6x1x1x222x222_0_0_0_1_0_0) shapeCasts_S16x6x1x1x222x222_S16x6x222x222) (sitofp .f32 (constantI S_ 32 0#32)) pads_S16x6x222x222_S16x6x224x224_000_000_020_110 h_S_)) (pad S16x6x224x224 ![0, 0, 0, 2] ![0, 0, 2, 0] ![0, 0, 0, 0] (shapeCast _ (extractStridedSlice S16x6x1x1x222x222 ![0, 0, 0, 2, 0, 0] (res_main_v53 (launchContents m c)) slices_S16x6x3x3x222x222_S16x6x1x1x222x222_0_0_0_2_0_0) shapeCasts_S16x6x1x1x222x222_S16x6x222x222) (sitofp .f32 (constantI S_ 32 0#32)) pads_S16x6x222x222_S16x6x224x224_000_000_020_200 h_S_)) (pad S16x6x224x224 ![0, 0, 1, 0] ![0, 0, 1, 2] ![0, 0, 0, 0] (shapeCast _ (extractStridedSlice S16x6x1x1x222x222 ![0, 0, 1, 0, 0, 0] (res_main_v53 (launchContents m c)) slices_S16x6x3x3x222x222_S16x6x1x1x222x222_0_0_1_0_0_0) shapeCasts_S16x6x1x1x222x222_S16x6x222x222) (sitofp .f32 (constantI S_ 32 0#32)) pads_S16x6x222x222_S16x6x224x224_000_000_110_020 h_S_)) (pad S16x6x224x224 ![0, 0, 1, 1] ![0, 0, 1, 1] ![0, 0, 0, 0] (shapeCast _ (extractStridedSlice S16x6x1x1x222x222 ![0, 0, 1, 1, 0, 0] (res_main_v53 (launchContents m c)) slices_S16x6x3x3x222x222_S16x6x1x1x222x222_0_0_1_1_0_0) shapeCasts_S16x6x1x1x222x222_S16x6x222x222) (sitofp .f32 (constantI S_ 32 0#32)) pads_S16x6x222x222_S16x6x224x224_000_000_110_110 h_S_)) (pad S16x6x224x224 ![0, 0, 1, 2] ![0, 0, 1, 0] ![0, 0, 0, 0] (shapeCast _ (extractStridedSlice S16x6x1x1x222x222 ![0, 0, 1, 2, 0, 0] (res_main_v53 (launchContents m c)) slices_S16x6x3x3x222x222_S16x6x1x1x222x222_0_0_1_2_0_0) shapeCasts_S16x6x1x1x222x222_S16x6x222x222) (sitofp .f32 (constantI S_ 32 0#32)) pads_S16x6x222x222_S16x6x224x224_000_000_110_200 h_S_)) (pad S16x6x224x224 ![0, 0, 2, 0] ![0, 0, 0, 2] ![0, 0, 0, 0] (shapeCast _ (extractStridedSlice S16x6x1x1x222x222 ![0, 0, 2, 0, 0, 0] (res_main_v53 (launchContents m c)) slices_S16x6x3x3x222x222_S16x6x1x1x222x222_0_0_2_0_0_0) shapeCasts_S16x6x1x1x222x222_S16x6x222x222) (sitofp .f32 (constantI S_ 32 0#32)) pads_S16x6x222x222_S16x6x224x224_000_000_200_020 h_S_)) (pad S16x6x224x224 ![0, 0, 2, 1] ![0, 0, 0, 1] ![0, 0, 0, 0] (shapeCast _ (extractStridedSlice S16x6x1x1x222x222 ![0, 0, 2, 1, 0, 0] (res_main_v53 (launchContents m c)) slices_S16x6x3x3x222x222_S16x6x1x1x222x222_0_0_2_1_0_0) shapeCasts_S16x6x1x1x222x222_S16x6x222x222) (sitofp .f32 (constantI S_ 32 0#32)) pads_S16x6x222x222_S16x6x224x224_000_000_200_110 h_S_)) (pad S16x6x224x224 ![0, 0, 2, 2] ![0, 0, 0, 0] ![0, 0, 0, 0] (shapeCast _ (extractStridedSlice S16x6x1x1x222x222 ![0, 0, 2, 2, 0, 0] (res_main_v53 (launchContents m c)) slices_S16x6x3x3x222x222_S16x6x1x1x222x222_0_0_2_2_0_0) shapeCasts_S16x6x1x1x222x222_S16x6x222x222) (sitofp .f32 (constantI S_ 32 0#32)) pads_S16x6x222x222_S16x6x224x224_000_000_200_200 h_S_)) shapeCasts_S16x6x224x224_S1x96x224x224
      ∧ r.2.mem ((c.tc : Thread nD τ).loc main_arg0) = m ((c.tc : Thread nD τ).loc main_arg0) :=
  (θ_run defs _ _).mono (fun _ h c => ⟨(h c main_v91).trans ((congrFun (after_ops (launchContents m c)) (Proc.devRef .tc main_v91)).trans (val2_main_v91 (launchContents m c))),
      (h c main_arg0).trans ((congrFun (after_ops (launchContents m c)) (Proc.devRef .tc main_arg0)).trans (val2_main_arg0 (launchContents m c)))⟩)
    (run_seq scopedRefs_eq scopedSems_eq defs main (fun _ => ops) main_eq (fun _ => ops_sub) m ρ fun _ => ops_fresh)

end Cert.Motif.Ref

end
-- ==== Proof.Claims.lean ====
module

public import proofs.«01_k».proof.Defs
public import proofs.«01_k».proof.Proof.FrameKernel
public import proofs.«01_k».proof.Proof.FrameKernelIdeal
public import proofs.«01_k».proof.Proof.RefRun
public import proofs.«01_k».proof.Proof.Gen.Kernel
public import proofs.«01_k».proof.Proof.Gen.KernelIdeal
public import proofs.«01_k».proof.Proof.Gen.ReferenceIdeal

@[expose] public section

noncomputable section

namespace Cert.Motif

open Idealize.ShloMosaic Idealize.SL.Sem

/-- The kernel's frame. -/
theorem frame_p : Cert.quiescent_Kernel := fun m ρ _ => Cert.Motif.Kernel.frame m ρ

/-- The idealized kernel's frame. -/
theorem frame_pi : Cert.quiescent_KernelIdeal := fun m ρ _ => Cert.Motif.KernelIdeal.frame m ρ

/-- The reference's frame: it has no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Ref.run (F := Ideal) m ρ)

/-- The one named constant is the sixth it was computed from. -/
theorem preserves : Cert.preserves_Kernel_KernelIdeal :=
  IdealRules.named_const.statement Cert.KernelIdeal.κ "sixth" .f32 0x3E2AAAAB#32 ((1 / 6 : ℝ) : EReal) rfl

end Cert.Motif

end
-- ==== Proof.Prog.lean ====
/-
  The kernel's body written once for a slice number: the fill of the shifted copies, then nine times the same slice.
  `slice j` follows the kernel's text with the six windows of slice `j` computed from `j`, so that what is proved of
  it is proved once.
-/
module

public import proofs.«01_k».proof.Proof.Run
public import proofs.«01_k».proof.Proof.Gen.KernelIdeal.Skeleton

@[expose] public section

noncomputable section

namespace Cert.Motif.Body

open Cert.KernelIdeal Cert.KernelIdeal.Gen
open Idealize.ShloMosaic Idealize.ShloMosaic.TcCoe
open Idealize.SL Idealize.SL.Sem

variable {F : FTy → Type} [FloatOps F] [Named F]

/-- A program of the body. -/
abbrev P (F : FTy → Type) (α : Type) := Prog (TpuEff nD τ sig (Elt F) Λ₀ .tc) α

/-- The four buffers of the body. -/
abbrev Bf := Bufs sig S6x224x224 S6x224x224 S12x224x224 S3x224x224

/-- The channel of a flat window. -/
def chan (f : ℕ) : ℕ := f / 9 % 6
/-- The row offset of a flat window. -/
def ki (f : ℕ) : ℕ := f % 9 / 3
/-- The column offset of a flat window. -/
def kj (f : ℕ) : ℕ := f % 3

theorem chan_lt (f : ℕ) : chan f < 6 := by unfold chan; omega
theorem ki_le (f : ℕ) : ki f ≤ 2 := by unfold ki; omega
theorem kj_le (f : ℕ) : kj f ≤ 2 := by unfold kj; omega

/-- A channel of the block lies in it. -/
theorem inb1 {c : ℕ} (h : c < 6) : ∀ a, (![c, 0, 0] : Fin 3 → Nat) a + S1x224x224.size a ≤ S6x224x224.size a := by
  intro a; fin_cases a
  · show c + 1 ≤ 6; omega
  · show 0 + 224 ≤ 224; omega
  · show 0 + 224 ≤ 224; omega

/-- A plane of the shifted copies lies in them. -/
theorem inb3 {c : ℕ} (h : c < 12) : ∀ a, (![c, 0, 0] : Fin 3 → Nat) a + S1x224x224.size a ≤ S12x224x224.size a := by
  intro a; fin_cases a
  · show c + 1 ≤ 12; omega
  · show 0 + 224 ≤ 224; omega
  · show 0 + 224 ≤ 224; omega

/-- Eight rows of a channel lie in the block. -/
theorem inbRows {c r : ℕ} (h : c < 6) (hr : r ≤ 216) : ∀ a, (![c, r, 0] : Fin 3 → Nat) a + S1x8x224.size a ≤ S6x224x224.size a := by
  intro a; fin_cases a
  · show c + 1 ≤ 6; omega
  · show r + 8 ≤ 224; omega
  · show 0 + 224 ≤ 224; omega

/-- Windows' rows, `n` of them. -/
abbrev Sw (n : ℕ) : Shape := ⟨2, ![n, 222]⟩

/-- A row range of the windows lies in a plane. -/
theorem inbWin {r n : ℕ} (hr : r + n ≤ 224) : ∀ a, (![r, 0] : Fin 2 → Nat) a + (Sw n).size a ≤ S224x224.size a := by
  intro a; fin_cases a
  · show r + n ≤ 224; omega
  · show 0 + 222 ≤ 224; omega

/-- Eight rows of sixteen. -/
theorem slices16 {o : ℕ} (h : o ≤ 8) : S16x222.Slices ![o, 0] S8x222 := by
  interval_cases o <;> decide

/-- Eight full rows of sixteen. -/
theorem slices16f {o : ℕ} (h : o ≤ 8) : S16x224.Slices ![o, 0] S8x224 := by
  interval_cases o <;> decide

variable (B : Bf)

/-- One channel of the input block. -/
def slab1 {c : ℕ} (h : c < 6) : Memref sig .tc .vmem S224x224 .f32 :=
  (B.m1.slice (Rect.unit (s := S6x224x224) ![c, 0, 0] S1x224x224.size (inb1 h)) (fun _ => rfl)).squeeze S224x224
    squeezes_S1x224x224_S224x224

/-- One plane of the shifted copies. -/
def slab3 {c : ℕ} (h : c < 12) : Memref sig .tc .vmem S224x224 .f32 :=
  (B.m3.slice (Rect.unit (s := S12x224x224) ![c, 0, 0] S1x224x224.size (inb3 h)) (fun _ => rfl)).squeeze S224x224
    squeezes_S1x224x224_S224x224

/-- The plane a window of column offset one or two is read from. -/
theorem plane_lt (f n : ℕ) : n % 2 * 6 + chan f < 12 := by have := chan_lt f; omega

/-- Rows of the window `f`: of the input block when its column offset is zero, of a shifted copy otherwise. -/
def win {n : ℕ} (hn : 0 < (Sw n).numel) (f : ℕ) (off : Fin 2 → ℕ) (inb : ∀ a, off a + (Sw n).size a ≤ S224x224.size a) :
    P F (Vec F (Sw n) .f32) :=
  match kj f with
  | 0 => do
    let v ← Prog.lift (.load (slab1 B (chan_lt f)) (Rect.unit (s := S224x224) off (Sw n).size inb).toLoadRect (View.loadsAt_vmem hn))
    pure (shapeCast (Sw n) v rfl)
  | k + 1 =>
    Prog.lift (.load (slab3 B (plane_lt f k)) (Rect.unit (s := S224x224) off (Sw n).size inb).toLoadRect (View.loadsAt_vmem hn))

/-- Eight rows of the window `f` at a loop's row offset: read plainly when the window's row offset is zero, cut from
sixteen rows otherwise. -/
def winDyn (f : ℕ) (off : Fin 2 → ℕ) (inb : ∀ a, off a + S8x222.size a ≤ S224x224.size a) (off' : Fin 2 → ℕ)
    (inb' : ∀ a, off' a + S16x222.size a ≤ S224x224.size a) : P F (Vec F S8x222 .f32) :=
  match ki f with
  | 0 => win B (n := 8) h_S8x222 f off inb
  | _ + 1 => do
    let v ← win B (n := 16) h_S16x222 f off' inb'
    pure (extractStridedSlice S8x222 ![ki f, 0] v (slices16 ((ki_le f).trans (by omega))))

/-- Rows of the window `f` at a fixed row. -/
def winAt {n : ℕ} (hn : 0 < (Sw n).numel) (f r : ℕ) (hr : r + n ≤ 222) : P F (Vec F (Sw n) .f32) :=
  win B hn f ![ki f + r, 0] (inbWin (by have := ki_le f; omega))

/-- Fifteen arrays. -/
abbrev A15 (V : Type) := V × V × V × V × V × V × V × V × V × V × V × V × V × V × V

/-- The squared difference added. -/
def sq {S : Shape} (a p q : FVec F S .f32) : FVec F S .f32 := addf a (mulf (subf p q) (subf p q))

/-- Eight rows' part of the squared distances of the six windows. -/
def paBody (j : ℕ) (k : Fin k0_t1_loop.trips) : A15 (FVec F S8x222 .f32) → P F (A15 (FVec F S8x222 .f32))
  | (a01, a02, a03, a04, a05, a12, a13, a14, a15, a23, a24, a25, a34, a35, a45) => do
    let x0 ← winDyn B (6 * j + 0) (k0_off1 k) (k0_off1_inb k) (k0_off2 k) (k0_off2_inb k)
    let x1 ← winDyn B (6 * j + 1) (k0_off1 k) (k0_off1_inb k) (k0_off2 k) (k0_off2_inb k)
    let x2 ← winDyn B (6 * j + 2) (k0_off1 k) (k0_off1_inb k) (k0_off2 k) (k0_off2_inb k)
    let x3 ← winDyn B (6 * j + 3) (k0_off1 k) (k0_off1_inb k) (k0_off2 k) (k0_off2_inb k)
    let x4 ← winDyn B (6 * j + 4) (k0_off1 k) (k0_off1_inb k) (k0_off2 k) (k0_off2_inb k)
    let x5 ← winDyn B (6 * j + 5) (k0_off1 k) (k0_off1_inb k) (k0_off2 k) (k0_off2_inb k)
    pure (sq a01 x0 x1, sq a02 x0 x2, sq a03 x0 x3, sq a04 x0 x4, sq a05 x0 x5, sq a12 x1 x2, sq a13 x1 x3, sq a14 x1 x4, sq a15 x1 x5, sq a23 x2 x3, sq a24 x2 x4, sq a25 x2 x5, sq a34 x3 x4, sq a35 x3 x5, sq a45 x4 x5)

/-- A number everywhere zero. -/
abbrev zero : F .f32 := Scalar.ofBits .f32 0x00000000#32

/-- The rows of the last eight that the loop has not had. -/
def tailMask : IVec S8x222 1 :=
  cmpi .sge (iota .tc S8x222 32 [0] iota_S8x222_d0_w32) (broadcast S8x222 2#32)

/-- A distance: the square root of everything added up. -/
def dist (a p q : FVec F S8x222 .f32) : F .f32 :=
  Scalar.sqrt (extractAt ![0, 0, 0] (shapeCast S1x1x1 (multiReduction .add [1, 2] S1 (shapeCast S1x8x222
    (addf a (select tailMask (mulf (subf p q) (subf p q)) (broadcast S8x222 zero))) shapeCasts_S8x222_S1x8x222) 0x00000000#32
    reduces_S1x8x222_S1 (.inl rfl) rfl) shapeCasts_S1_S1x1x1) inpos_S1x1x1_p0_0_0)

/-- The first of five candidates at the least distance. -/
def nn5 (d1 d2 d3 d4 d5 : F .f32) (q1 q2 q3 q4 q5 : BitVec 32) : BitVec 32 :=
  let b1 := Scalar.cmpf .olt d1 (Scalar.ofBits .f32 0x7F800000#32)
  let m1 := Scalar.select b1 d1 (Scalar.ofBits .f32 0x7F800000#32)
  let i1 := Scalar.select b1 q1 0#32
  let b2 := Scalar.cmpf .olt d2 m1
  let m2 := Scalar.select b2 d2 m1
  let i2 := Scalar.select b2 q2 i1
  let b3 := Scalar.cmpf .olt d3 m2
  let m3 := Scalar.select b3 d3 m2
  let i3 := Scalar.select b3 q3 i2
  let b4 := Scalar.cmpf .olt d4 m3
  let m4 := Scalar.select b4 d4 m3
  let i4 := Scalar.select b4 q4 i3
  let b5 := Scalar.cmpf .olt d5 m4
  Scalar.select b5 q5 i4

/-- Whether two numbers agree, as a number. -/
def hot (a b : BitVec 32) : F .f32 := Scalar.sitofp .f32 (Scalar.extui (Scalar.cmpi .eq a b) : BitVec 32)

/-- The largest of six. -/
def max6 (n0 n1 n2 n3 n4 n5 : BitVec 32) : BitVec 32 :=
  Scalar.maxsi (Scalar.maxsi (Scalar.maxsi (Scalar.maxsi (Scalar.maxsi n0 n1) n2) n3) n4) n5

/-- How many of six are the number, over six. -/
def fac (n0 n1 n2 n3 n4 n5 u : BitVec 32) : F .f32 :=
  Scalar.mulf (Scalar.addf (Scalar.addf (Scalar.addf (Scalar.addf (Scalar.addf (hot n0 u) (hot n1 u)) (hot n2 u)) (hot n3 u))
    (hot n4 u)) (hot n5 u)) (Named.named κ "sixth" 0x3E2AAAAB#32)

/-- The weighted windows added, times the factor. -/
def selc {S : Shape} (u : BitVec 32) (g : F .f32) (x0 x1 x2 x3 x4 x5 : FVec F S .f32) : FVec F S .f32 :=
  mulf (addf (addf (addf (addf (addf (mulf (broadcast S (hot u 0#32)) x0) (mulf (broadcast S (hot u 1#32)) x1))
    (mulf (broadcast S (hot u 2#32)) x2)) (mulf (broadcast S (hot u 3#32)) x3)) (mulf (broadcast S (hot u 4#32)) x4))
    (mulf (broadcast S (hot u 5#32)) x5)) (broadcast S g)

/-- A store of eight rows of a plane of the selected windows, after the load the kernel's text makes of them. -/
def putSel (off : Fin 3 → ℕ) (inb : ∀ a, off a + S1x8x222.size a ≤ S3x224x224.size a) (w : FVec F S8x222 .f32) : P F PUnit := do
  let _ ← Prog.lift (.load B.m4 (Rect.unit (s := S3x224x224) off S1x8x222.size inb).toLoadRect (View.loadsAt_vmem h_S1x8x222))
  Prog.lift (.store B.m4 (Rect.unit (s := S3x224x224) off S1x8x222.size inb) (shapeCast S1x8x222 w shapeCasts_S8x222_S1x8x222)
    Finset.univ (View.stores_vmem_bits_univ h_S1x8x222 rfl) (.inl rfl))

/-- A store of the last six rows. -/
def putSel6 (off : Fin 3 → ℕ) (inb : ∀ a, off a + S1x6x222.size a ≤ S3x224x224.size a) (w : FVec F S6x222 .f32) : P F PUnit := do
  let _ ← Prog.lift (.load B.m4 (Rect.unit (s := S3x224x224) off S1x6x222.size inb).toLoadRect (View.loadsAt_vmem h_S1x6x222))
  Prog.lift (.store B.m4 (Rect.unit (s := S3x224x224) off S1x6x222.size inb) (shapeCast S1x6x222 w shapeCasts_S6x222_S1x6x222)
    Finset.univ (View.stores_vmem_bits_univ h_S1x6x222 rfl) (.inl rfl))

/-- Eight rows of the selected window, into the three planes. -/
def selBody (j : ℕ) (u : BitVec 32) (g : F .f32) (k : Fin k0_t2_loop.trips) : P F PUnit := do
  let x0 ← winDyn B (6 * j + 0) (k0_off3 k) (k0_off3_inb k) (k0_off4 k) (k0_off4_inb k)
  let x1 ← winDyn B (6 * j + 1) (k0_off3 k) (k0_off3_inb k) (k0_off4 k) (k0_off4_inb k)
  let x2 ← winDyn B (6 * j + 2) (k0_off3 k) (k0_off3_inb k) (k0_off4 k) (k0_off4_inb k)
  let x3 ← winDyn B (6 * j + 3) (k0_off3 k) (k0_off3_inb k) (k0_off4 k) (k0_off4_inb k)
  let x4 ← winDyn B (6 * j + 4) (k0_off3 k) (k0_off3_inb k) (k0_off4 k) (k0_off4_inb k)
  let x5 ← winDyn B (6 * j + 5) (k0_off3 k) (k0_off3_inb k) (k0_off4 k) (k0_off4_inb k)
  let w := selc u g x0 x1 x2 x3 x4 x5
  putSel B (k0_off5 k) (k0_off5_inb k) w
  putSel B (k0_off6 k) (k0_off6_inb k) w
  putSel B (k0_off7 k) (k0_off7_inb k) w
  pure ⟨⟩

/-- Sixteen rows of a plane of the selected windows. -/
def getSel (off : Fin 3 → ℕ) (inb : ∀ a, off a + S1x16x224.size a ≤ S3x224x224.size a) : P F (FVec F S16x224 .f32) := do
  let v ← Prog.lift (.load B.m4 (Rect.unit (s := S3x224x224) off S1x16x224.size inb).toLoadRect (View.loadsAt_vmem h_S1x16x224))
  pure (shapeCast S16x224 v shapeCasts_S1x16x224_S16x224)

/-- Eight rows of a channel of the input block. -/
def getX (off : Fin 3 → ℕ) (inb : ∀ a, off a + S1x8x224.size a ≤ S6x224x224.size a) : P F (FVec F S8x224 .f32) := do
  let v ← Prog.lift (.load B.m1 (Rect.unit (s := S6x224x224) off S1x8x224.size inb).toLoadRect (View.loadsAt_vmem h_S1x8x224))
  pure (shapeCast S8x224 v shapeCasts_S1x8x224_S8x224)

/-- Eight rows added into a channel of the output block. -/
def addO (off : Fin 3 → ℕ) (inb : ∀ a, off a + S1x8x224.size a ≤ S6x224x224.size a) (w : FVec F S8x224 .f32) : P F PUnit := do
  let v ← Prog.lift (.load B.m2 (Rect.unit (s := S6x224x224) off S1x8x224.size inb).toLoadRect (View.loadsAt_vmem h_S1x8x224))
  let _ ← Prog.lift (.load B.m2 (Rect.unit (s := S6x224x224) off S1x8x224.size inb).toLoadRect (View.loadsAt_vmem h_S1x8x224))
  Prog.lift (.store B.m2 (Rect.unit (s := S6x224x224) off S1x8x224.size inb)
    (shapeCast S1x8x224 (addf (shapeCast S8x224 v shapeCasts_S1x8x224_S8x224) w) shapeCasts_S8x224_S1x8x224)
    Finset.univ (View.stores_vmem_bits_univ h_S1x8x224 rfl) (.inl rfl))

/-- The columns a window of a column offset covers. -/
def colMask (o : ℕ) : IVec S8x224 1 :=
  andi (cmpi .sge (iota .tc S8x224 32 [1] iota_S8x224_d1_w32) (broadcast S8x224 (BitVec.ofNat 32 o)))
    (cmpi .slt (iota .tc S8x224 32 [1] iota_S8x224_d1_w32) (broadcast S8x224 (BitVec.ofNat 32 (o + 222))))

/-- The first eight rows a window of a row offset covers. -/
def topMask (o p : ℕ) : IVec S8x224 1 :=
  andi (colMask p) (cmpi .sge (iota .tc S8x224 32 [0] iota_S8x224_d0_w32) (broadcast S8x224 (BitVec.ofNat 32 o)))

/-- The last eight rows a window of a row offset covers. -/
def botMask (o p : ℕ) : IVec S8x224 1 :=
  andi (colMask p) (cmpi .slt (iota .tc S8x224 32 [0] iota_S8x224_d0_w32) (broadcast S8x224 (BitVec.ofNat 32 (6 + o))))

/-- The product rounded down where the mask holds, zero elsewhere. -/
def term (m : IVec S8x224 1) (x s : FVec F S8x224 .f32) : FVec F S8x224 .f32 :=
  select m (floor (mulf x s)) (broadcast S8x224 zero)

/-- The plane of a column offset. -/
def pick {α : Type} (n : ℕ) (a b c : α) : α :=
  match n with
  | 0 => a
  | 1 => b
  | _ => c

/-- Eight of sixteen rows, the window's row offset up from the end. -/
def shiftDn (f : ℕ) (s : FVec F S16x224 .f32) : FVec F S8x224 .f32 :=
  extractStridedSlice S8x224 ![8 - ki f, 0] s (slices16f (Nat.sub_le _ _))

/-- The first rows, the window's row offset down from the start, zeros above. -/
def shiftUp (f : ℕ) (s : FVec F S16x224 .f32) : FVec F S8x224 .f32 :=
  match ki f with
  | 0 => extractStridedSlice S8x224 ![0, 0] s slices_S16x224_o0_0_S8x224
  | 1 => concatenate S8x224 0 [⟨S1x224, broadcast S1x224 zero⟩, ⟨S7x224, extractStridedSlice S7x224 ![0, 0] s slices_S16x224_o0_0_S7x224⟩]
      concatenates_S1x224_S7x224_S8x224_d0
  | _ => concatenate S8x224 0 [⟨S2x224, broadcast S2x224 zero⟩, ⟨S6x224, extractStridedSlice S6x224 ![0, 0] s slices_S16x224_o0_0_S6x224⟩]
      concatenates_S2x224_S6x224_S8x224_d0

/-- A term added to a sum that may not have begun. -/
def push (b : Bool) (acc : Option (FVec F S8x224 .f32)) (t : FVec F S8x224 .f32) : Option (FVec F S8x224 .f32) :=
  match b with
  | false => acc
  | true => match acc with
    | none => some t
    | some a => some (addf a t)

/-- The terms of one channel, added in order. -/
def sumChan (j c : ℕ) (t : ℕ → FVec F S8x224 .f32) : FVec F S8x224 .f32 :=
  match push (Nat.beq (chan (6 * j + 5)) c) (push (Nat.beq (chan (6 * j + 4)) c) (push (Nat.beq (chan (6 * j + 3)) c)
      (push (Nat.beq (chan (6 * j + 2)) c) (push (Nat.beq (chan (6 * j + 1)) c) (push (Nat.beq (chan (6 * j)) c) none (t (6 * j)))
      (t (6 * j + 1))) (t (6 * j + 2))) (t (6 * j + 3))) (t (6 * j + 4))) (t (6 * j + 5)) with
  | none => broadcast S8x224 zero
  | some a => a

/-- Whether the slice's windows lie in two channels. -/
def two (j : ℕ) : Bool := !(Nat.beq (chan (6 * j)) (chan (6 * j + 5)))

/-- One row range of what the slice adds to the output: of each channel, the terms of the channel's windows. -/
def addTerms (j : ℕ) (offs : (c : ℕ) → Fin 3 → ℕ) (inbs : ∀ c, c < 6 → ∀ a, offs c a + S1x8x224.size a ≤ S6x224x224.size a)
    (sh : ℕ → FVec F S16x224 .f32 → FVec F S8x224 .f32) (mk : ℕ → IVec S8x224 1) (s0 s1 s2 : FVec F S16x224 .f32) : P F PUnit := do
  let x0 ← getX B (offs (chan (6 * j))) (inbs _ (chan_lt _))
  let x1 ← match two j with
    | true => getX B (offs (chan (6 * j + 5))) (inbs _ (chan_lt _))
    | false => pure x0
  let t : FVec F S8x224 .f32 → ℕ → FVec F S8x224 .f32 := fun x f => term (mk f) x (sh f (pick (kj f) s0 s1 s2))
  addO B (offs (chan (6 * j))) (inbs _ (chan_lt _)) (sumChan j (chan (6 * j)) (t x0))
  match two j with
    | true => addO B (offs (chan (6 * j + 5))) (inbs _ (chan_lt _)) (sumChan j (chan (6 * j + 5)) (t x1))
    | false => pure ⟨⟩

/-- The rows of a trip of the third loop, in a channel. -/
def pbOff (k : Fin k0_t3_loop.trips) (c : ℕ) : Fin 3 → ℕ := ![c, k0_off11 k 1, 0]

theorem pbOff_inb (k : Fin k0_t3_loop.trips) (c : ℕ) (h : c < 6) : ∀ a, pbOff k c a + S1x8x224.size a ≤ S6x224x224.size a := by
  have h1 := k0_off11_inb k
  intro a; fin_cases a
  · show c + 1 ≤ 6; omega
  · exact h1 1
  · show 0 + 224 ≤ 224; omega

/-- The middle rows: eight at a time. -/
def pbBody (j : ℕ) (k : Fin k0_t3_loop.trips) : P F PUnit := do
  let s0 ← getSel B (k0_off8 k) (k0_off8_inb k)
  let s1 ← getSel B (k0_off9 k) (k0_off9_inb k)
  let s2 ← getSel B (k0_off10 k) (k0_off10_inb k)
  addTerms B j (pbOff k) (pbOff_inb k) shiftDn (fun f => colMask (kj f)) s0 s1 s2
  pure ⟨⟩

/-- The first eight rows. -/
def pbTop (j : ℕ) : P F PUnit := do
  let s0 ← getSel B ![0, 0, 0] inb_S3x224x224_S1x16x224_0_0_0
  let s1 ← getSel B ![1, 0, 0] inb_S3x224x224_S1x16x224_1_0_0
  let s2 ← getSel B ![2, 0, 0] inb_S3x224x224_S1x16x224_2_0_0
  addTerms B j (fun c => ![c, 0, 0]) (fun _ h => inbRows h (by omega)) shiftUp (fun f => topMask (ki f) (kj f)) s0 s1 s2

/-- The last eight rows. -/
def pbBot (j : ℕ) : P F PUnit := do
  let s0 ← getSel B ![0, 208, 0] inb_S3x224x224_S1x16x224_0_208_0
  let s1 ← getSel B ![1, 208, 0] inb_S3x224x224_S1x16x224_1_208_0
  let s2 ← getSel B ![2, 208, 0] inb_S3x224x224_S1x16x224_2_208_0
  addTerms B j (fun c => ![c, 216, 0]) (fun _ h => inbRows h (by omega)) shiftDn (fun f => botMask (ki f) (kj f)) s0 s1 s2

/-- The selected windows stored: the loop, then the last six rows. -/
def selPart (j : ℕ) (u : BitVec 32) (g : F .f32) : P F PUnit := do
  k0_t2_loop.for k0_t2_ok ⟨⟩ fun k _ => selBody B j u g k
  let y0 ← winAt B (n := 6) h_S6x222 (6 * j + 0) 216 (by omega)
  let y1 ← winAt B (n := 6) h_S6x222 (6 * j + 1) 216 (by omega)
  let y2 ← winAt B (n := 6) h_S6x222 (6 * j + 2) 216 (by omega)
  let y3 ← winAt B (n := 6) h_S6x222 (6 * j + 3) 216 (by omega)
  let y4 ← winAt B (n := 6) h_S6x222 (6 * j + 4) 216 (by omega)
  let y5 ← winAt B (n := 6) h_S6x222 (6 * j + 5) 216 (by omega)
  let w := selc u g y0 y1 y2 y3 y4 y5
  putSel6 B ![0, 216, 0] inb_S3x224x224_S1x6x222_0_216_0 w
  putSel6 B ![1, 216, 1] inb_S3x224x224_S1x6x222_1_216_1 w
  putSel6 B ![2, 216, 2] inb_S3x224x224_S1x6x222_2_216_2 w

/-- What the slice adds to the output, from the selected windows. -/
def outPart (j : ℕ) : P F PUnit := do
  k0_t3_loop.for k0_t3_ok ⟨⟩ fun k _ => pbBody B j k
  pbTop B j
  pbBot B j

/-- The largest nearest neighbour and the factor, from the distances. -/
def pickOf {α : Type 1} (d01 d02 d03 d04 d05 d12 d13 d14 d15 d23 d24 d25 d34 d35 d45 : F .f32) (k : BitVec 32 → F .f32 → α) : α :=
  let n0 := nn5 d01 d02 d03 d04 d05 1#32 2#32 3#32 4#32 5#32
  let n1 := nn5 d01 d12 d13 d14 d15 0#32 2#32 3#32 4#32 5#32
  let n2 := nn5 d02 d12 d23 d24 d25 0#32 1#32 3#32 4#32 5#32
  let n3 := nn5 d03 d13 d23 d34 d35 0#32 1#32 2#32 4#32 5#32
  let n4 := nn5 d04 d14 d24 d34 d45 0#32 1#32 2#32 3#32 5#32
  let n5 := nn5 d05 d15 d25 d35 d45 0#32 1#32 2#32 3#32 4#32
  let u := max6 n0 n1 n2 n3 n4 n5
  k u (fac n0 n1 n2 n3 n4 n5 u)

/-- What follows the distances' loop. -/
def afterPa (j : ℕ) : A15 (FVec F S8x222 .f32) → P F PUnit
  | (a01, a02, a03, a04, a05, a12, a13, a14, a15, a23, a24, a25, a34, a35, a45) => do
    let x0 ← winAt B (n := 8) h_S8x222 (6 * j + 0) 214 (by omega)
    let x1 ← winAt B (n := 8) h_S8x222 (6 * j + 1) 214 (by omega)
    let x2 ← winAt B (n := 8) h_S8x222 (6 * j + 2) 214 (by omega)
    let x3 ← winAt B (n := 8) h_S8x222 (6 * j + 3) 214 (by omega)
    let x4 ← winAt B (n := 8) h_S8x222 (6 * j + 4) 214 (by omega)
    let x5 ← winAt B (n := 8) h_S8x222 (6 * j + 5) 214 (by omega)
    pickOf (dist a01 x0 x1) (dist a02 x0 x2) (dist a03 x0 x3) (dist a04 x0 x4) (dist a05 x0 x5) (dist a12 x1 x2) (dist a13 x1 x3) (dist a14 x1 x4) (dist a15 x1 x5) (dist a23 x2 x3) (dist a24 x2 x4) (dist a25 x2 x5) (dist a34 x3 x4) (dist a35 x3 x5) (dist a45 x4 x5) fun u g => do
      selPart B j u g
      outPart B j

/-- One slice. -/
def slice (j : ℕ) : P F PUnit := do
  let z : FVec F S8x222 .f32 := broadcast S8x222 zero
  let a ← k0_t1_loop.for k0_t1_ok (z, z, z, z, z, z, z, z, z, z, z, z, z, z, z) (paBody B j)
  afterPa B j a

/-- A channel's columns from the first on lie in the block, and in a plane of the copies. -/
theorem inbF {c o m N : ℕ} {S T : Shape} (hS : S = ⟨3, ![1, 224, m]⟩) (hT : T = ⟨3, ![N, 224, 224]⟩) (hc : c < N) (ho : o + m ≤ 224) :
    ∀ a, (![c, 0, o] : Fin 3 → Nat) a + (⟨3, ![1, 224, m]⟩ : Shape).size a ≤ (⟨3, ![N, 224, 224]⟩ : Shape).size a := by
  intro a; fin_cases a
  · show c + 1 ≤ N; omega
  · show 0 + 224 ≤ 224; omega
  · show o + m ≤ 224; omega

/-- One plane of the shifted copies filled: channel `c`, moved left by the column offset `o`. -/
def fill1 (c o m : ℕ) (hc : c < 6) (ho : o ≤ 2) (hm : o + m = 224) (hn : 0 < (⟨3, ![1, 224, m]⟩ : Shape).numel)
    (h1 : (⟨3, ![1, 224, m]⟩ : Shape).ShapeCasts ⟨2, ![224, m]⟩) (h2 : (⟨2, ![224, m]⟩ : Shape).ShapeCasts ⟨3, ![1, 224, m]⟩) : P F PUnit := do
  let v ← Prog.lift (.load B.m1 (Rect.unit (s := S6x224x224) ![c, 0, o] (⟨3, ![1, 224, m]⟩ : Shape).size
    (inbF rfl rfl hc hm.le)).toLoadRect (View.loadsAt_vmem hn))
  let _ ← Prog.lift (.load B.m3 (Rect.unit (s := S12x224x224) ![(o - 1) * 6 + c, 0, 0] (⟨3, ![1, 224, m]⟩ : Shape).size
    (inbF rfl rfl (by omega) (by omega))).toLoadRect (View.loadsAt_vmem hn))
  Prog.lift (.store B.m3 (Rect.unit (s := S12x224x224) ![(o - 1) * 6 + c, 0, 0] (⟨3, ![1, 224, m]⟩ : Shape).size
    (inbF rfl rfl (by omega) (by omega))) (shapeCast _ (shapeCast (⟨2, ![224, m]⟩ : Shape) v h1) h2)
    Finset.univ (View.stores_vmem_bits_univ hn rfl) (.inl rfl))

/-- The two shifted copies of a channel. -/
def fill (c : ℕ) (hc : c < 6) : P F PUnit := do
  fill1 B c 1 223 hc (by omega) rfl h_S1x224x223 shapeCasts_S1x224x223_S224x223 shapeCasts_S224x223_S1x224x223
  fill1 B c 2 222 hc (by omega) rfl h_S1x224x222 shapeCasts_S1x224x222_S224x222 shapeCasts_S224x222_S1x224x222

/-- The start: the output block zero, the shifted copies filled. -/
def start : P F PUnit := do
  let _ ← Prog.lift (.load B.m2 (Rect.unit (s := S6x224x224) ![0, 0, 0] S6x224x224.size inb_S6x224x224_S6x224x224_0_0_0).toLoadRect
    (View.loadsAt_vmem h_S6x224x224))
  Prog.lift (.store B.m2 (Rect.unit (s := S6x224x224) ![0, 0, 0] S6x224x224.size inb_S6x224x224_S6x224x224_0_0_0)
    (broadcast S6x224x224 zero) Finset.univ (View.stores_vmem_bits_univ h_S6x224x224 rfl) (.inl rfl))
  fill B 0 (by omega)
  fill B 1 (by omega)
  fill B 2 (by omega)
  fill B 3 (by omega)
  fill B 4 (by omega)
  fill B 5 (by omega)

/-- The whole body. -/
def prog : P F PUnit := do
  start B
  slice B 0
  slice B 1
  slice B 2
  slice B 3
  slice B 4
  slice B 5
  slice B 6
  slice B 7
  slice B 8
  pure ⟨⟩

end Cert.Motif.Body
-- ==== Proof.ProgEq.lean ====
/-
  The kernel's body is the program written once for a slice number, nine times: statement by statement.
-/
module

public import proofs.«01_k».proof.Proof.Prog

@[expose] public section

noncomputable section

namespace Cert.Motif.Body

open Cert.KernelIdeal Cert.KernelIdeal.Gen
open Idealize.ShloMosaic Idealize.ShloMosaic.TcCoe
open Idealize.SL Idealize.SL.Sem

variable {F : FTy → Type} {α β γ : Type}

/-- Two programs that begin with the same statement. -/
theorem eq_lift {e : TpuEff nD τ sig (Elt F) Λ₀ .tc α} {k k' : α → P F β} (h : ∀ a, k a = k' a) :
    (Prog.lift e >>= k) = (Prog.lift e >>= k') := by rw [funext h]

/-- Two programs that begin with loops of the same trips and nothing carried. -/
theorem eq_loop {w : ℕ} {l : Scf.Loop w} {hok hok' : Scf.OK l.lb l.ub l.st} {body body' : Fin l.trips → PUnit → P F PUnit} {k k' : PUnit → P F β}
    (hb : ∀ i, body i ⟨⟩ = body' i ⟨⟩) (h : k ⟨⟩ = k' ⟨⟩) :
    (l.for hok ⟨⟩ body >>= k) = (l.for hok' ⟨⟩ body' >>= k') := by
  have e : body = body' := by funext i a; exact hb i
  have e' : k = k' := by funext a; exact h
  rw [e, e']

/-- Two programs that begin with loops of the same trips, carrying fifteen arrays. -/
theorem eq_loop15 {w : ℕ} {l : Scf.Loop w} {hok hok' : Scf.OK l.lb l.ub l.st} {V : Type} {init init' : A15 V}
    {body body' : Fin l.trips → A15 V → P F (A15 V)} {k k' : A15 V → P F β} (hi : init = init')
    (hb : ∀ i a0 a1 a2 a3 a4 a5 a6 a7 a8 a9 a10 a11 a12 a13 a14,
      body i (a0, a1, a2, a3, a4, a5, a6, a7, a8, a9, a10, a11, a12, a13, a14)
        = body' i (a0, a1, a2, a3, a4, a5, a6, a7, a8, a9, a10, a11, a12, a13, a14))
    (h : ∀ a0 a1 a2 a3 a4 a5 a6 a7 a8 a9 a10 a11 a12 a13 a14,
      k (a0, a1, a2, a3, a4, a5, a6, a7, a8, a9, a10, a11, a12, a13, a14)
        = k' (a0, a1, a2, a3, a4, a5, a6, a7, a8, a9, a10, a11, a12, a13, a14)) :
    (l.for hok init body >>= k) = (l.for hok' init' body' >>= k') := by
  have e : body = body' := by funext i ⟨a0, a1, a2, a3, a4, a5, a6, a7, a8, a9, a10, a11, a12, a13, a14⟩; exact hb _ _ _ _ _ _ _ _ _ _ _ _ _ _ _ _
  have e' : k = k' := by funext ⟨a0, a1, a2, a3, a4, a5, a6, a7, a8, a9, a10, a11, a12, a13, a14⟩; exact h _ _ _ _ _ _ _ _ _ _ _ _ _ _ _
  rw [e, e', hi]

/-- Statements regrouped, on the left. -/
theorem eq_assocL {p : P F α} {k : α → P F β} {k' : β → P F γ} {q : P F γ} (h : (p >>= fun a => k a >>= k') = q) :
    ((p >>= k) >>= k') = q := by rw [← h]; exact bind_assoc _ _ _

/-- Statements regrouped, on the right. -/
theorem eq_assocR {p : P F α} {k : α → P F β} {k' : β → P F γ} {q : P F γ} (h : q = (p >>= fun a => k a >>= k')) :
    q = ((p >>= k) >>= k') := (eq_assocL h.symm).symm

/-- A value passed on, on the left. -/
theorem eq_pureL {a : α} {k : α → P F β} {q : P F β} (h : k a = q) : (pure a >>= k) = q := h

/-- A value passed on, on the right. -/
theorem eq_pureR {a : α} {k : α → P F β} {q : P F β} (h : q = k a) : q = (pure a >>= k) := h

/-- Two returns of the same value. -/
theorem eq_pure {a b : α} (h : a = b) : (pure a : P F α) = pure b := by rw [h]

attribute [local irreducible] Prog.lift Prog.bind

set_option maxRecDepth 100000 in
set_option maxHeartbeats 0 in
/-- The kernel's body is the program: both are taken apart statement by statement, and agree in each. -/
theorem body_eq [FloatOps F] [Named F] (i : grid0.Coords) (B : Bf) (h1 : B.m1.IsWhole) (h2 : B.m2.IsWhole) (h3 : B.m3.IsWhole) (h4 : B.m4.IsWhole) :
    cc0__motif_group_kernel (F := F) i B.m1 h1 B.m2 h2 B.m3 h3 B.m4 h4 = prog B := by
  repeat (first
    | refine eq_loop15 rfl (fun _ _ _ _ _ _ _ _ _ _ _ _ _ _ _ _ => ?_) (fun _ _ _ _ _ _ _ _ _ _ _ _ _ _ _ => ?_)
    | refine eq_lift fun _ => ?_
    | refine eq_pureL ?_
    | refine eq_pureR ?_
    | refine eq_assocL ?_
    | refine eq_assocR ?_
    | exact eq_pure rfl
    | refine eq_loop (fun _ => ?_) ?_)

end Cert.Motif.Body

end
-- ==== Proof.Spec.lean ====
/-
  What the body computes, by natural coordinates: the windows, their distances, the selected window, what each window
  adds to the output.
-/
module

public import proofs.«01_k».proof.Proof.Prog
public import Idealize.ShloMosaic.Lib.Pointwise

@[expose] public section

noncomputable section

namespace Cert.Motif.Body

open Cert.KernelIdeal Cert.KernelIdeal.Gen
open Idealize.ShloMosaic Idealize.ShloMosaic.TcCoe

/-- An array of rank three read at natural coordinates, zero outside. -/
def at3 {a b c : ℕ} (x : Vec Ideal ⟨3, ![a, b, c]⟩ .f32) (i j k : ℕ) : EReal :=
  if h : i < a ∧ j < b ∧ k < c then x (ix3 ⟨i, h.1⟩ ⟨j, h.2.1⟩ ⟨k, h.2.2⟩) else 0

/-- An array of rank three at an index, by the index's coordinates. -/
theorem at3_idx {a b c : ℕ} (x : Vec Ideal ⟨3, ![a, b, c]⟩ .f32) (y : (⟨3, ![a, b, c]⟩ : Shape).Idx) :
    x y = at3 x (y 0) (y 1) (y 2) := by
  have h : (y 0).val < a ∧ (y 1).val < b ∧ (y 2).val < c := ⟨(y 0).2, (y 1).2, (y 2).2⟩
  unfold at3
  rw [dif_pos h]
  exact congrArg x (eq_ix3 y)

/-- An array of rank three at an index whose coordinates are known. -/
theorem at3_of {a b c i j k : ℕ} (x : Vec Ideal ⟨3, ![a, b, c]⟩ .f32) (y : (⟨3, ![a, b, c]⟩ : Shape).Idx)
    (hi : (y 0).val = i) (hj : (y 1).val = j) (hk : (y 2).val = k) : x y = at3 x i j k := by
  subst hi hj hk; exact at3_idx x y

/-- A block by natural coordinates. -/
abbrev Blk := ℕ → ℕ → ℕ → EReal

/-- The window `f`. -/
def win_ (X : Blk) (f r c : ℕ) : EReal := X (chan f) (ki f + r) (kj f + c)

/-- The squared difference of two windows. -/
def sqd (X : Blk) (p q r c : ℕ) : EReal := (win_ X p r c - win_ X q r c) * (win_ X p r c - win_ X q r c)

/-- The distance of two windows. -/
def dst (X : Blk) (p q : ℕ) : EReal := Ideal.sqrt (∑ r ∈ Finset.range 222, ∑ c ∈ Finset.range 222, sqd X p q r c)

/-- The largest nearest neighbour of a slice. -/
def uOf (d : ℕ → ℕ → Ideal .f32) : BitVec 32 :=
  max6 (nn5 (d 0 1) (d 0 2) (d 0 3) (d 0 4) (d 0 5) 1#32 2#32 3#32 4#32 5#32)
    (nn5 (d 0 1) (d 1 2) (d 1 3) (d 1 4) (d 1 5) 0#32 2#32 3#32 4#32 5#32)
    (nn5 (d 0 2) (d 1 2) (d 2 3) (d 2 4) (d 2 5) 0#32 1#32 3#32 4#32 5#32)
    (nn5 (d 0 3) (d 1 3) (d 2 3) (d 3 4) (d 3 5) 0#32 1#32 2#32 4#32 5#32)
    (nn5 (d 0 4) (d 1 4) (d 2 4) (d 3 4) (d 4 5) 0#32 1#32 2#32 3#32 5#32)
    (nn5 (d 0 5) (d 1 5) (d 2 5) (d 3 5) (d 4 5) 0#32 1#32 2#32 3#32 4#32)

/-- The factor of a slice. -/
def gOf (d : ℕ → ℕ → Ideal .f32) : Ideal .f32 :=
  fac (nn5 (d 0 1) (d 0 2) (d 0 3) (d 0 4) (d 0 5) 1#32 2#32 3#32 4#32 5#32)
    (nn5 (d 0 1) (d 1 2) (d 1 3) (d 1 4) (d 1 5) 0#32 2#32 3#32 4#32 5#32)
    (nn5 (d 0 2) (d 1 2) (d 2 3) (d 2 4) (d 2 5) 0#32 1#32 3#32 4#32 5#32)
    (nn5 (d 0 3) (d 1 3) (d 2 3) (d 3 4) (d 3 5) 0#32 1#32 2#32 4#32 5#32)
    (nn5 (d 0 4) (d 1 4) (d 2 4) (d 3 4) (d 4 5) 0#32 1#32 2#32 3#32 5#32)
    (nn5 (d 0 5) (d 1 5) (d 2 5) (d 3 5) (d 4 5) 0#32 1#32 2#32 3#32 4#32) (uOf d)

/-- The distances of a slice's windows. -/
def dsl (X : Blk) (j p q : ℕ) : Ideal .f32 := dst X (6 * j + p) (6 * j + q)

/-- The weighted windows added, times the factor. -/
def selOf (X : Blk) (j : ℕ) (u : BitVec 32) (g : Ideal .f32) (r c : ℕ) : EReal :=
  ((hot (F := Ideal) u 0#32 : EReal) * win_ X (6 * j + 0) r c + (hot (F := Ideal) u 1#32 : EReal) * win_ X (6 * j + 1) r c
    + (hot (F := Ideal) u 2#32 : EReal) * win_ X (6 * j + 2) r c + (hot (F := Ideal) u 3#32 : EReal) * win_ X (6 * j + 3) r c
    + (hot (F := Ideal) u 4#32 : EReal) * win_ X (6 * j + 4) r c + (hot (F := Ideal) u 5#32 : EReal) * win_ X (6 * j + 5) r c) * g

/-- The selected window of a slice. -/
def sel_ (X : Blk) (j r c : ℕ) : EReal := selOf X j (uOf (dsl X j)) (gOf (dsl X j)) r c

/-- Rounding down. -/
def flr (x : EReal) : EReal := Ideal.liftRound Int.floor x

/-- What the window `f` adds at a row and a column of its channel. -/
def add_ (X : Blk) (f y w : ℕ) : EReal :=
  if (ki f ≤ y ∧ y < ki f + 222) ∧ kj f ≤ w ∧ w < kj f + 222 then flr (X (chan f) y w * sel_ X (f / 6) (y - ki f) (w - kj f)) else 0

/-- What the slice `j` adds to a channel. -/
def slc (X : Blk) (j c y w : ℕ) : EReal := ∑ t ∈ Finset.range 6, if chan (6 * j + t) = c then add_ X (6 * j + t) y w else 0

/-- What the first `n` slices add to a channel. -/
def out_ (X : Blk) (n c y w : ℕ) : EReal := ∑ j ∈ Finset.range n, slc X j c y w

end Cert.Motif.Body

end
-- ==== Proof.Load.lean ====
/-
  What the body's loads and stores do, by natural coordinates.
-/
module

public import proofs.«01_k».proof.Proof.Spec

@[expose] public section

noncomputable section

namespace Cert.Motif.Body

open Cert.KernelIdeal Cert.KernelIdeal.Gen
open Idealize.ShloMosaic Idealize.ShloMosaic.TcCoe
open Idealize.SL Idealize.SL.Sem

variable {defs : Defs nD τ sig (Elt Ideal) Λ₀} {c : Dev nD} {B : Bf} {x : Vec Ideal S6x224x224 .f32}

/-- The state of the three written buffers. -/
abbrev Stt := St Ideal S6x224x224 S12x224x224 S3x224x224

/-- The shifted copies are filled. -/
def Sh (x : Vec Ideal S6x224x224 .f32) (s : Stt) : Prop :=
  ∀ c o h w : ℕ, c < 6 → 1 ≤ o → o ≤ 2 → h < 224 → w + o < 224 → at3 s.sh ((o - 1) * 6 + c) h w = at3 x c h (w + o)

/-- One program after another, what holds between given. -/
theorem Run.seq {α β : Type} {p : P Ideal α} {k : α → P Ideal β} {s : Stt} {mid : α → Stt → Prop} {post : β → Stt → Prop}
    (h : Run defs c B x p s mid) (hk : ∀ a s', mid a s' → Run defs c B x (k a) s' post) : Run defs c B x (p >>= k) s post :=
  Run.bind (h.mono hk)

/-- A plane's index in a slab of one. -/
theorem resh (h : S224x224.numel = S1x224x224.numel) (i : S224x224.Idx) : Shape.reshapeEquiv h i = ix3 0 (i 0) (i 1) := by
  pointwise

/-- The rows of a window, read. -/
theorem win_run {n f R : ℕ} (hn : 0 < (Sw n).numel) {off : Fin 2 → ℕ} {inb : ∀ a, off a + (Sw n).size a ≤ S224x224.size a} {s : Stt}
    (hoff : off = ![R, 0]) (hs : Sh x s) :
    Run defs c B x (win B hn f off inb) s fun v s' => s' = s ∧ ∀ i, v i = at3 x (chan f) (R + (i 0).val) (kj f + (i 1).val) := by
  subst hoff
  have hR : ∀ i : (Sw n).Idx, R + (i 0).val < 224 := fun i => by
    have h1 : R + n ≤ 224 := inb 0
    have h2 : (i 0).val < n := (i 0).2
    omega
  have hC : ∀ i : (Sw n).Idx, (i 1).val < 222 := fun i => (i 1).2
  have hc := chan_lt f
  have hk := kj_le f
  unfold win
  rcases hkj : kj f with _ | k
  · refine Run.bind (Run.load1s (hs := squeezes_S1x224x224_S224x224) (Run.pure ⟨rfl, fun i => ?_⟩))
    refine (congrFun (shapeCast_self _ _) i).trans ((congrArg x (congrArg _ (resh _ _))).trans (at3_of x _ ?_ ?_ ?_))
    · show chan f + 1 * 0 = _; omega
    · show 0 + 1 * (R + 1 * (i 0).val) = _; omega
    · show 0 + 1 * (0 + 1 * (i 1).val) = _; omega
  · refine Run.load3s (hs := squeezes_S1x224x224_S224x224) ⟨rfl, fun i => ?_⟩
    refine (congrArg s.sh (congrArg _ (resh _ _))).trans ?_
    have hs' := hs (chan f) (k + 1) (R + (i 0).val) (i 1).val hc (by omega) (by omega) (hR i) (by have := hC i; omega)
    rw [Nat.add_comm (k + 1), ← hs']
    refine at3_of s.sh _ ?_ ?_ ?_
    · show (k % 2 * 6 + chan f) + 1 * 0 = _; omega
    · show 0 + 1 * (R + 1 * (i 0).val) = _; omega
    · show 0 + 1 * (0 + 1 * (i 1).val) = _; omega

/-- Eight rows of a window at a loop's row, read. -/
theorem winDyn_run {f R : ℕ} {off off' : Fin 2 → ℕ} {inb inb'} {s : Stt}
    (hoff : off = ![R, 0]) (hoff' : off' = ![R, 0]) (hs : Sh x s) :
    Run defs c B x (winDyn B f off inb off' inb') s fun v s' => s' = s ∧ ∀ i, v i = win_ (at3 x) f (R + (i 0).val) (i 1).val := by
  unfold winDyn
  split
  · rename_i hki
    refine (win_run h_S8x222 hoff hs).mono fun v s' h => ⟨h.1, fun i => ?_⟩
    unfold win_
    rw [h.2 i, hki, Nat.zero_add]
  · rename_i k hki
    refine Run.seq (win_run h_S16x222 hoff' hs) fun v s' h => Run.pure ⟨h.1, fun i => ?_⟩
    have hk := ki_le f
    have e : extractStridedSlice S8x222 ![ki f, 0] v (slices16 (by omega)) i
        = v (ix2 ⟨ki f + (i 0).val, by have h : (i 0).val < 8 := (i 0).2; show _ < 16; omega⟩ (i 1)) := by pointwise
    refine e.trans ?_
    rw [h.2]
    show at3 x _ (R + (ki f + (i 0).val)) _ = at3 x _ (ki f + (R + (i 0).val)) _
    congr 1; omega

/-- Rows of a window at a fixed row, read. -/
theorem winAt_run {n f r : ℕ} {hn : 0 < (Sw n).numel} {hr : r + n ≤ 222} {s : Stt} (hs : Sh x s) :
    Run defs c B x (winAt B hn f r hr) s fun v s' => s' = s ∧ ∀ i, v i = win_ (at3 x) f (r + (i 0).val) (i 1).val := by
  refine (win_run hn rfl hs).mono fun v s' h => ⟨h.1, fun i => ?_⟩
  rw [h.2 i, Nat.add_assoc]; rfl

end Cert.Motif.Body

end
-- ==== Proof.Dist.lean ====
/-
  The distances of a slice's windows: the loop's fifteen sums, and the last rows.
-/
module

public import proofs.«01_k».proof.Proof.Load

@[expose] public section

noncomputable section

namespace Cert.Motif.Body

open Cert.KernelIdeal Cert.KernelIdeal.Gen
open Idealize.ShloMosaic Idealize.ShloMosaic.TcCoe
open Idealize.SL Idealize.SL.Sem

variable {defs : Defs nD τ sig (Elt Ideal) Λ₀} {c : Dev nD} {B : Bf} {x : Vec Ideal S6x224x224 .f32}

/-- A sum over eight times as many, eight at a time. -/
theorem sum_eights (g : ℕ → EReal) (n : ℕ) :
    ∑ r ∈ Finset.range (8 * n), g r = ∑ k ∈ Finset.range n, ∑ i ∈ Finset.range 8, g (8 * k + i) := by
  induction n with
  | zero => rfl
  | succ n ih => rw [Nat.mul_succ, Finset.sum_range_add, ih, Finset.sum_range_succ (n := n)]

/-- The rows of a window are the loop's, and the last six of the last eight. -/
theorem sum_rows (S : ℕ → ℕ → EReal) :
    ∑ i : Fin 8, ∑ c : Fin 222, (∑ k ∈ Finset.range 27, S (8 * k + i.val) c.val + if 2 ≤ i.val then S (214 + i.val) c.val else 0)
      = ∑ r ∈ Finset.range 222, ∑ c ∈ Finset.range 222, S r c := by
  have h1 : ∀ i : Fin 8, ∑ c : Fin 222, (∑ k ∈ Finset.range 27, S (8 * k + i.val) c.val + if 2 ≤ i.val then S (214 + i.val) c.val else 0)
      = ∑ k ∈ Finset.range 27, (∑ c ∈ Finset.range 222, S (8 * k + i.val) c) + if 2 ≤ i.val then ∑ c ∈ Finset.range 222, S (214 + i.val) c else 0 := fun i => by
    rw [Finset.sum_add_distrib]
    refine congrArg₂ (· + ·) ?_ ?_
    · rw [Finset.sum_comm]
      exact Finset.sum_congr rfl fun k _ => (Finset.sum_range (fun c => S (8 * k + i.val) c)).symm
    · split
      · exact (Finset.sum_range (fun c => S (214 + i.val) c)).symm
      · exact Finset.sum_const_zero
  rw [Finset.sum_congr rfl fun i _ => h1 i]
  have h2 : ∀ g : ℕ → EReal, ∑ i : Fin 8, (∑ k ∈ Finset.range 27, g (8 * k + i.val) + if 2 ≤ i.val then g (214 + i.val) else 0)
      = ∑ r ∈ Finset.range 222, g r := fun g => by
    rw [Finset.sum_add_distrib, Finset.sum_comm, show (222 : ℕ) = 8 * 27 + 6 from rfl, Finset.sum_range_add, sum_eights]
    refine congrArg₂ (· + ·) ?_ ?_
    · exact Finset.sum_congr rfl fun k _ => (Finset.sum_range (fun i => g (8 * k + i))).symm
    · rw [← Finset.sum_range (fun i => if 2 ≤ i then g (214 + i) else 0)]
      simp [Finset.sum_range_succ]
  exact h2 fun r => ∑ c ∈ Finset.range 222, S r c

/-- A running sum of squared differences, `k` times eight rows of it. -/
def G (X : Blk) (p q k : ℕ) (a : FVec Ideal S8x222 .f32) : Prop :=
  ∀ i, a i = ∑ k' ∈ Finset.range k, sqd X p q (8 * k' + (i 0).val) (i 1).val

/-- It begins at zero. -/
theorem G_zero (X : Blk) (p q : ℕ) : G X p q 0 (broadcast S8x222 zero) := fun i => by
  rw [Finset.sum_range_zero]; exact Ideal.ofBits_zero_f32

/-- Eight rows more. -/
theorem G_step {X : Blk} {p q k : ℕ} {a xp xq : FVec Ideal S8x222 .f32} (h : G X p q k a)
    (hp : ∀ i, xp i = win_ X p (8 * k + (i 0).val) (i 1).val) (hq : ∀ i, xq i = win_ X q (8 * k + (i 0).val) (i 1).val) :
    G X p q (k + 1) (sq a xp xq) := fun i => by
  rw [Finset.sum_range_succ, ← h i]
  show a i + (xp i - xq i) * (xp i - xq i) = _
  rw [hp, hq]; rfl

/-- The fifteen running sums of a slice. -/
def G15 (X : Blk) (j k : ℕ) : A15 (FVec Ideal S8x222 .f32) → Prop
  | (a01, a02, a03, a04, a05, a12, a13, a14, a15, a23, a24, a25, a34, a35, a45) =>
    G X (6 * j + 0) (6 * j + 1) k a01 ∧ G X (6 * j + 0) (6 * j + 2) k a02 ∧ G X (6 * j + 0) (6 * j + 3) k a03
    ∧ G X (6 * j + 0) (6 * j + 4) k a04 ∧ G X (6 * j + 0) (6 * j + 5) k a05 ∧ G X (6 * j + 1) (6 * j + 2) k a12
    ∧ G X (6 * j + 1) (6 * j + 3) k a13 ∧ G X (6 * j + 1) (6 * j + 4) k a14 ∧ G X (6 * j + 1) (6 * j + 5) k a15
    ∧ G X (6 * j + 2) (6 * j + 3) k a23 ∧ G X (6 * j + 2) (6 * j + 4) k a24 ∧ G X (6 * j + 2) (6 * j + 5) k a25
    ∧ G X (6 * j + 3) (6 * j + 4) k a34 ∧ G X (6 * j + 3) (6 * j + 5) k a35 ∧ G X (6 * j + 4) (6 * j + 5) k a45

/-- One trip of the distances' loop. -/
theorem paBody_run {j : ℕ} (k : Fin k0_t1_loop.trips) (a : A15 (FVec Ideal S8x222 .f32)) {s : Stt} (hs : Sh x s)
    (h : G15 (at3 x) j k.val a) :
    Run defs c B x (paBody B j k a) s fun a' s' => s' = s ∧ G15 (at3 x) j (k.val + 1) a' := by
  obtain ⟨a01, a02, a03, a04, a05, a12, a13, a14, a15, a23, a24, a25, a34, a35, a45⟩ := a
  obtain ⟨h01, h02, h03, h04, h05, h12, h13, h14, h15, h23, h24, h25, h34, h35, h45⟩ := h
  unfold paBody
  refine Run.seq (winDyn_run (k0_off1_eq k) (k0_off2_eq k) hs) fun x0 _ ⟨e, h0⟩ => ?_; subst e
  refine Run.seq (winDyn_run (k0_off1_eq k) (k0_off2_eq k) hs) fun x1 _ ⟨e, h1⟩ => ?_; subst e
  refine Run.seq (winDyn_run (k0_off1_eq k) (k0_off2_eq k) hs) fun x2 _ ⟨e, h2⟩ => ?_; subst e
  refine Run.seq (winDyn_run (k0_off1_eq k) (k0_off2_eq k) hs) fun x3 _ ⟨e, h3⟩ => ?_; subst e
  refine Run.seq (winDyn_run (k0_off1_eq k) (k0_off2_eq k) hs) fun x4 _ ⟨e, h4⟩ => ?_; subst e
  refine Run.seq (winDyn_run (k0_off1_eq k) (k0_off2_eq k) hs) fun x5 _ ⟨e, h5⟩ => ?_; subst e
  exact Run.pure ⟨rfl, G_step h01 h0 h1, G_step h02 h0 h2, G_step h03 h0 h3, G_step h04 h0 h4, G_step h05 h0 h5,
    G_step h12 h1 h2, G_step h13 h1 h3, G_step h14 h1 h4, G_step h15 h1 h5, G_step h23 h2 h3, G_step h24 h2 h4,
    G_step h25 h2 h5, G_step h34 h3 h4, G_step h35 h3 h5, G_step h45 h4 h5⟩

/-- The mask of the last rows at an index. -/
theorem tailMask_apply (i : S8x222.Idx) : tailMask i = BitVec.ofBool (decide (2 ≤ (i 0).val)) := by
  have h : (i 0).val < 8 := (i 0).2
  unfold tailMask
  pointwise
  generalize (i 0).val = k at h ⊢
  interval_cases k <;> rfl

/-- A distance is the distance of the windows. -/
theorem dist_eq {X : Blk} {p q : ℕ} {a xp xq : FVec Ideal S8x222 .f32} (h : G X p q 27 a)
    (hp : ∀ i, xp i = win_ X p (214 + (i 0).val) (i 1).val) (hq : ∀ i, xq i = win_ X q (214 + (i 0).val) (i 1).val) :
    dist a xp xq = dst X p q := by
  have e : dist a xp xq = Ideal.sqrt (∑ i : Fin 8, ∑ c : Fin 222, (a (ix2 i c) + Scalar.select (tailMask (ix2 i c))
      ((xp (ix2 i c) - xq (ix2 i c)) * (xp (ix2 i c) - xq (ix2 i c))) 0)) := by
    unfold dist
    pointwise
    rfl
  rw [e, dst, ← sum_rows]
  refine congrArg Ideal.sqrt (Finset.sum_congr rfl fun i _ => Finset.sum_congr rfl fun c _ => ?_)
  rw [h (ix2 i c), hp, hq, tailMask_apply]
  refine congrArg₂ (· + ·) rfl ?_
  by_cases h2 : 2 ≤ i.val
  · rw [if_pos h2]
    show Scalar.select (BitVec.ofBool (decide (2 ≤ i.val))) _ _ = _
    rw [decide_eq_true h2]; rfl
  · rw [if_neg h2]
    show Scalar.select (BitVec.ofBool (decide (2 ≤ i.val))) _ _ = _
    rw [decide_eq_false h2]; rfl

/-- The distances, the nearest neighbours, and what follows. -/
theorem afterPa_run {j : ℕ} {a : A15 (FVec Ideal S8x222 .f32)} {s : Stt} {post : PUnit → Stt → Prop} (hs : Sh x s)
    (h : G15 (at3 x) j 27 a)
    (hk : Run defs c B x (do selPart B j (uOf (dsl (at3 x) j)) (gOf (dsl (at3 x) j)); outPart B j) s post) :
    Run defs c B x (afterPa B j a) s post := by
  obtain ⟨a01, a02, a03, a04, a05, a12, a13, a14, a15, a23, a24, a25, a34, a35, a45⟩ := a
  obtain ⟨h01, h02, h03, h04, h05, h12, h13, h14, h15, h23, h24, h25, h34, h35, h45⟩ := h
  unfold afterPa
  refine Run.seq (winAt_run hs) fun x0 _ ⟨e, h0⟩ => ?_; subst e
  refine Run.seq (winAt_run hs) fun x1 _ ⟨e, h1⟩ => ?_; subst e
  refine Run.seq (winAt_run hs) fun x2 _ ⟨e, h2⟩ => ?_; subst e
  refine Run.seq (winAt_run hs) fun x3 _ ⟨e, h3⟩ => ?_; subst e
  refine Run.seq (winAt_run hs) fun x4 _ ⟨e, h4⟩ => ?_; subst e
  refine Run.seq (winAt_run hs) fun x5 _ ⟨e, h5⟩ => ?_; subst e
  rw [dist_eq h01 h0 h1, dist_eq h02 h0 h2, dist_eq h03 h0 h3, dist_eq h04 h0 h4, dist_eq h05 h0 h5, dist_eq h12 h1 h2,
    dist_eq h13 h1 h3, dist_eq h14 h1 h4, dist_eq h15 h1 h5, dist_eq h23 h2 h3, dist_eq h24 h2 h4, dist_eq h25 h2 h5,
    dist_eq h34 h3 h4, dist_eq h35 h3 h5, dist_eq h45 h4 h5]
  exact hk

end Cert.Motif.Body

end
-- ==== Proof.Sel.lean ====
/-
  The selected window of a slice, stored into its three planes.
-/
module

public import proofs.«01_k».proof.Proof.Dist

@[expose] public section

noncomputable section

namespace Cert.Motif.Body

open Cert.KernelIdeal Cert.KernelIdeal.Gen
open Idealize.ShloMosaic Idealize.ShloMosaic.TcCoe
open Idealize.SL Idealize.SL.Sem

variable {defs : Defs nD τ sig (Elt Ideal) Λ₀} {c : Dev nD} {B : Bf} {x : Vec Ideal S6x224x224 .f32}

/-- A replaced rectangle, read at natural coordinates. -/
theorem at3_put {a b d p q r : ℕ} (X : Vec Ideal ⟨3, ![a, b, d]⟩ .f32) {off : Fin 3 → ℕ} {C R Q : ℕ} (hoff : off = ![C, R, Q])
    (inb : ∀ t, off t + (⟨3, ![p, q, r]⟩ : Shape).size t ≤ (⟨3, ![a, b, d]⟩ : Shape).size t) (w : Vec Ideal ⟨3, ![p, q, r]⟩ .f32)
    {i j k : ℕ} (hi : i < a) (hj : j < b) (hk : k < d) :
    at3 (put X (Rect.unit (s := ⟨3, ![a, b, d]⟩) off (⟨3, ![p, q, r]⟩ : Shape).size inb) w) i j k
      = if (C ≤ i ∧ i < C + p) ∧ (R ≤ j ∧ j < R + q) ∧ Q ≤ k ∧ k < Q + r then at3 w (i - C) (j - R) (k - Q) else at3 X i j k := by
  subst hoff
  have e : ∀ Y : Vec Ideal ⟨3, ![a, b, d]⟩ .f32, at3 Y i j k = Y (ix3 ⟨i, hi⟩ ⟨j, hj⟩ ⟨k, hk⟩) := fun Y => (at3_of Y (ix3 ⟨i, hi⟩ ⟨j, hj⟩ ⟨k, hk⟩) rfl rfl rfl).symm
  rw [e, e]
  by_cases h : (C ≤ i ∧ i < C + p) ∧ (R ≤ j ∧ j < R + q) ∧ Q ≤ k ∧ k < Q + r
  · rw [if_pos h]
    have ez : (ix3 ⟨i, hi⟩ ⟨j, hj⟩ ⟨k, hk⟩ : (⟨3, ![a, b, d]⟩ : Shape).Idx)
        = (Rect.unit (s := ⟨3, ![a, b, d]⟩) ![C, R, Q] (⟨3, ![p, q, r]⟩ : Shape).size inb).emb
          (ix3 ⟨i - C, by omega⟩ ⟨j - R, by omega⟩ ⟨k - Q, by omega⟩ : (⟨3, ![p, q, r]⟩ : Shape).Idx) := by
      funext t; apply Fin.ext; fin_cases t
      · show i = C + 1 * (i - C); omega
      · show j = R + 1 * (j - R); omega
      · show k = Q + 1 * (k - Q); omega
    rw [ez]
    refine (put_emb X (Rect.unit (s := ⟨3, ![a, b, d]⟩) ![C, R, Q] (⟨3, ![p, q, r]⟩ : Shape).size inb) w _).trans ?_
    exact at3_of w (ix3 ⟨i - C, by omega⟩ ⟨j - R, by omega⟩ ⟨k - Q, by omega⟩ : (⟨3, ![p, q, r]⟩ : Shape).Idx) rfl rfl rfl
  · rw [if_neg h]
    refine put_other X (Rect.unit (s := ⟨3, ![a, b, d]⟩) ![C, R, Q] (⟨3, ![p, q, r]⟩ : Shape).size inb) w fun hm => h ?_
    obtain ⟨z, hz⟩ := LoadRect.exists_idx_of_mem _ hm
    have h0 : C + 1 * (z 0).val = i := congrArg (fun y : (⟨3, ![a, b, d]⟩ : Shape).Idx => (y 0).val) hz
    have h1 : R + 1 * (z 1).val = j := congrArg (fun y : (⟨3, ![a, b, d]⟩ : Shape).Idx => (y 1).val) hz
    have h2 : Q + 1 * (z 2).val = k := congrArg (fun y : (⟨3, ![a, b, d]⟩ : Shape).Idx => (y 2).val) hz
    have l0 : (z 0).val < p := (z 0).2
    have l1 : (z 1).val < q := (z 1).2
    have l2 : (z 2).val < r := (z 2).2
    omega

/-- A plane of the selected windows with rows of it replaced. -/
def Put (W : ℕ → ℕ → EReal) (C R n Q : ℕ) (s s' : Stt) : Prop :=
  s'.o = s.o ∧ s'.sh = s.sh ∧ ∀ P r k, P < 3 → r < 224 → k < 224 →
    at3 s'.sel P r k = if P = C ∧ (R ≤ r ∧ r < R + n) ∧ Q ≤ k ∧ k < Q + 222 then W (r - R) (k - Q) else at3 s.sel P r k

/-- A store of eight rows of the selected windows. -/
theorem putSel_run {off : Fin 3 → ℕ} {inb} {w : FVec Ideal S8x222 .f32} {C R Q : ℕ} {W : ℕ → ℕ → EReal} {s : Stt}
    (hoff : off = ![C, R, Q]) (hw : ∀ i, w i = W (i 0).val (i 1).val) :
    Run defs c B x (putSel B off inb w) s fun _ s' => Put W C R 8 Q s s' := by
  unfold putSel
  refine Run.bind (Run.load4 (Run.store4 ⟨rfl, rfl, fun P r k hP hr hk => ?_⟩))
  have key := (at3_put (a := 3) (b := 224) (d := 224) (p := 1) (q := 8) (r := 222) s.sel hoff inb
    (shapeCast S1x8x222 w shapeCasts_S8x222_S1x8x222) hP hr hk)
  dsimp only
  rw [key]
  by_cases hin : P = C ∧ (R ≤ r ∧ r < R + 8) ∧ Q ≤ k ∧ k < Q + 222
  · rw [if_pos hin, if_pos (by omega)]
    refine (at3_of (a := 1) (b := 8) (c := 222) _ (ix3 ⟨P - C, by omega⟩ ⟨r - R, by omega⟩ ⟨k - Q, by omega⟩) rfl rfl rfl).symm.trans ?_
    have e : ∀ i : Fin 1, ∀ j : Fin 8, ∀ k : Fin 222, shapeCast S1x8x222 w shapeCasts_S8x222_S1x8x222 (ix3 i j k) = w (ix2 j k) := by
      intro i j k; pointwise
    exact (e _ _ _).trans (hw _)
  · rw [if_neg hin, if_neg (by omega)]

/-- A store of the last six rows of the selected windows. -/
theorem putSel6_run {off : Fin 3 → ℕ} {inb} {w : FVec Ideal S6x222 .f32} {C R Q : ℕ} {W : ℕ → ℕ → EReal} {s : Stt}
    (hoff : off = ![C, R, Q]) (hw : ∀ i, w i = W (i 0).val (i 1).val) :
    Run defs c B x (putSel6 B off inb w) s fun _ s' => Put W C R 6 Q s s' := by
  unfold putSel6
  refine Run.bind (Run.load4 (Run.store4 ⟨rfl, rfl, fun P r k hP hr hk => ?_⟩))
  have key := (at3_put (a := 3) (b := 224) (d := 224) (p := 1) (q := 6) (r := 222) s.sel hoff inb
    (shapeCast S1x6x222 w shapeCasts_S6x222_S1x6x222) hP hr hk)
  dsimp only
  rw [key]
  by_cases hin : P = C ∧ (R ≤ r ∧ r < R + 6) ∧ Q ≤ k ∧ k < Q + 222
  · rw [if_pos hin, if_pos (by omega)]
    refine (at3_of (a := 1) (b := 6) (c := 222) _ (ix3 ⟨P - C, by omega⟩ ⟨r - R, by omega⟩ ⟨k - Q, by omega⟩) rfl rfl rfl).symm.trans ?_
    have e : ∀ i : Fin 1, ∀ j : Fin 6, ∀ k : Fin 222, shapeCast S1x6x222 w shapeCasts_S6x222_S1x6x222 (ix3 i j k) = w (ix2 j k) := by
      intro i j k; pointwise
    exact (e _ _ _).trans (hw _)
  · rw [if_neg hin, if_neg (by omega)]

/-- The selected window stored in its first rows. -/
def Sl (V : ℕ → ℕ → EReal) (R : ℕ) (s : Stt) : Prop :=
  ∀ P r k, P < 3 → r < R → k < 222 → at3 s.sel P r (P + k) = V r k

/-- Further rows stored in the three planes. -/
theorem Sl.puts {V : ℕ → ℕ → EReal} {R n : ℕ} {s s1 s2 s3 : Stt} (hn : R + n ≤ 222) (h : Sl V R s)
    (h1 : Put (fun r k => V (R + r) k) 0 R n 0 s s1) (h2 : Put (fun r k => V (R + r) k) 1 R n 1 s1 s2)
    (h3 : Put (fun r k => V (R + r) k) 2 R n 2 s2 s3) : s3.o = s.o ∧ s3.sh = s.sh ∧ Sl V (R + n) s3 := by
  obtain ⟨o1, q1, e1⟩ := h1
  obtain ⟨o2, q2, e2⟩ := h2
  obtain ⟨o3, q3, e3⟩ := h3
  refine ⟨o3.trans (o2.trans o1), q3.trans (q2.trans q1), fun P r k hP hr hk => ?_⟩
  rw [e3 P r (P + k) hP (by omega) (by omega), e2 P r (P + k) hP (by omega) (by omega), e1 P r (P + k) hP (by omega) (by omega)]
  have hv : ∀ t, P = t → R ≤ r → V (R + (r - R)) (P + k - t) = V r k := fun t ht hr => by
    rw [show R + (r - R) = r by omega, show P + k - t = k by omega]
  split_ifs with a b d
  · exact hv 2 (by omega) (by omega)
  · exact hv 1 (by omega) (by omega)
  · exact hv 0 (by omega) (by omega)
  · exact h P r k hP (by omega) hk

/-- The weighted windows of rows of the slice's windows. -/
theorem selc_eq {n j R : ℕ} {u : BitVec 32} {g : Ideal .f32} {X : Blk} {x0 x1 x2 x3 x4 x5 : FVec Ideal (Sw n) .f32}
    (h0 : ∀ i, x0 i = win_ X (6 * j + 0) (R + (i 0).val) (i 1).val) (h1 : ∀ i, x1 i = win_ X (6 * j + 1) (R + (i 0).val) (i 1).val)
    (h2 : ∀ i, x2 i = win_ X (6 * j + 2) (R + (i 0).val) (i 1).val) (h3 : ∀ i, x3 i = win_ X (6 * j + 3) (R + (i 0).val) (i 1).val)
    (h4 : ∀ i, x4 i = win_ X (6 * j + 4) (R + (i 0).val) (i 1).val) (h5 : ∀ i, x5 i = win_ X (6 * j + 5) (R + (i 0).val) (i 1).val)
    (i : (Sw n).Idx) : selc u g x0 x1 x2 x3 x4 x5 i = selOf X j u g (R + (i 0).val) (i 1).val := by
  unfold selOf
  rw [← h0, ← h1, ← h2, ← h3, ← h4, ← h5]
  rfl

/-- One trip of the selected windows' loop. -/
theorem selBody_run {j : ℕ} {u : BitVec 32} {g : Ideal .f32} (k : Fin k0_t2_loop.trips) {s : Stt} (hs : Sh x s)
    (h : Sl (selOf (at3 x) j u g) (8 * k.val) s) :
    Run defs c B x (selBody B j u g k) s fun _ s' => s'.o = s.o ∧ s'.sh = s.sh ∧ Sl (selOf (at3 x) j u g) (8 * (k.val + 1)) s' := by
  unfold selBody
  have hk : k.val < 27 := k.2
  refine Run.seq (winDyn_run (k0_off3_eq k) (k0_off4_eq k) hs) fun x0 _ ⟨e, h0⟩ => ?_; subst e
  refine Run.seq (winDyn_run (k0_off3_eq k) (k0_off4_eq k) hs) fun x1 _ ⟨e, h1⟩ => ?_; subst e
  refine Run.seq (winDyn_run (k0_off3_eq k) (k0_off4_eq k) hs) fun x2 _ ⟨e, h2⟩ => ?_; subst e
  refine Run.seq (winDyn_run (k0_off3_eq k) (k0_off4_eq k) hs) fun x3 _ ⟨e, h3⟩ => ?_; subst e
  refine Run.seq (winDyn_run (k0_off3_eq k) (k0_off4_eq k) hs) fun x4 _ ⟨e, h4⟩ => ?_; subst e
  refine Run.seq (winDyn_run (k0_off3_eq k) (k0_off4_eq k) hs) fun x5 _ ⟨e, h5⟩ => ?_; subst e
  have hw := selc_eq (u := u) (g := g) h0 h1 h2 h3 h4 h5
  refine Run.seq (putSel_run (W := fun r k' => selOf (at3 x) j u g (8 * k.val + r) k') (k0_off5_eq k) hw) fun _ s1 p1 => ?_
  refine Run.seq (putSel_run (W := fun r k' => selOf (at3 x) j u g (8 * k.val + r) k') (k0_off6_eq k) hw) fun _ s2 p2 => ?_
  refine Run.seq (putSel_run (W := fun r k' => selOf (at3 x) j u g (8 * k.val + r) k') (k0_off7_eq k) hw) fun _ s3 p3 => ?_
  exact Run.pure (h.puts (R := 8 * k.val) (n := 8) (by omega) p1 p2 p3)

/-- The selected window stored. -/
theorem selPart_run {j : ℕ} {u : BitVec 32} {g : Ideal .f32} {s : Stt} (hs : Sh x s) :
    Run defs c B x (selPart B j u g) s fun _ s' => s'.o = s.o ∧ s'.sh = s.sh ∧ Sl (selOf (at3 x) j u g) 222 s' := by
  unfold selPart
  refine Run.seq (mid := fun _ s' => s'.o = s.o ∧ s'.sh = s.sh ∧ Sl (selOf (at3 x) j u g) (8 * 27) s')
    (Run.loop _ _ _ _ (fun k _ s' => s'.o = s.o ∧ s'.sh = s.sh ∧ Sl (selOf (at3 x) j u g) (8 * k) s')
      ⟨rfl, rfl, fun P r k hP hr => by omega⟩ (fun k _ s' h => ?_) (fun _ _ h => h)) fun _ s0 h => ?_
  · have hs' : Sh x s' := fun a b => by rw [h.2.1]; exact hs a b
    exact (selBody_run k hs' h.2.2).mono fun _ s'' h' => ⟨h'.1.trans h.1, h'.2.1.trans h.2.1, h'.2.2⟩
  obtain ⟨ho, hsh, hl⟩ := h
  have hs' : Sh x s0 := fun a b => by rw [hsh]; exact hs a b
  refine Run.seq (winAt_run hs') fun x0 _ ⟨e, h0⟩ => ?_; subst e
  refine Run.seq (winAt_run hs') fun x1 _ ⟨e, h1⟩ => ?_; subst e
  refine Run.seq (winAt_run hs') fun x2 _ ⟨e, h2⟩ => ?_; subst e
  refine Run.seq (winAt_run hs') fun x3 _ ⟨e, h3⟩ => ?_; subst e
  refine Run.seq (winAt_run hs') fun x4 _ ⟨e, h4⟩ => ?_; subst e
  refine Run.seq (winAt_run hs') fun x5 _ ⟨e, h5⟩ => ?_; subst e
  have hw := selc_eq (u := u) (g := g) h0 h1 h2 h3 h4 h5
  refine Run.seq (putSel6_run (W := fun r k' => selOf (at3 x) j u g (216 + r) k') rfl hw) fun _ s1 p1 => ?_
  refine Run.seq (putSel6_run (W := fun r k' => selOf (at3 x) j u g (216 + r) k') rfl hw) fun _ s2 p2 => ?_
  refine (putSel6_run (W := fun r k' => selOf (at3 x) j u g (216 + r) k') rfl hw).mono fun _ s3 p3 => ?_
  have hp := hl.puts (n := 6) (by omega) p1 p2 p3
  exact ⟨hp.1.trans ho, hp.2.1.trans hsh, hp.2.2⟩

end Cert.Motif.Body

end
-- ==== Proof.Out.lean ====
/-
  What a slice adds to the output block: the masked, rounded products of its windows.
-/
module

public import proofs.«01_k».proof.Proof.Sel
public import Idealize.ShloMosaic.Lib.WordCmp

@[expose] public section

noncomputable section

namespace Cert.Motif.Body

open Cert.KernelIdeal Cert.KernelIdeal.Gen
open Idealize.ShloMosaic Idealize.ShloMosaic.TcCoe
open Idealize.SL Idealize.SL.Sem

variable {defs : Defs nD τ sig (Elt Ideal) Λ₀} {c : Dev nD} {B : Bf} {x : Vec Ideal S6x224x224 .f32}

/-- Sixteen rows of a plane of the selected windows, read. -/
theorem getSel_run {off : Fin 3 → ℕ} {inb} {P R : ℕ} {s : Stt} (hoff : off = ![P, R, 0]) :
    Run defs c B x (getSel B off inb) s fun v s' => s' = s ∧ ∀ i, v i = at3 s.sel P (R + (i 0).val) (i 1).val := by
  subst hoff
  unfold getSel
  refine Run.bind (Run.load4 (Run.pure ⟨rfl, fun i => ?_⟩))
  have e : ∀ v : FVec Ideal S1x16x224 .f32, shapeCast S16x224 v shapeCasts_S1x16x224_S16x224 i = v (ix3 0 (i 0) (i 1)) := by
    intro v; pointwise
  refine (e _).trans (at3_of s.sel _ ?_ ?_ ?_)
  · show P + 1 * 0 = _; omega
  · show R + 1 * (i 0).val = _; omega
  · show 0 + 1 * (i 1).val = _; omega

/-- Eight rows of a channel of the input block, read. -/
theorem getX_run {off : Fin 3 → ℕ} {inb} {C R : ℕ} {s : Stt} (hoff : off = ![C, R, 0]) :
    Run defs c B x (getX B off inb) s fun v s' => s' = s ∧ ∀ i, v i = at3 x C (R + (i 0).val) (i 1).val := by
  subst hoff
  unfold getX
  refine Run.bind (Run.load1 (Run.pure ⟨rfl, fun i => ?_⟩))
  have e : ∀ v : FVec Ideal S1x8x224 .f32, shapeCast S8x224 v shapeCasts_S1x8x224_S8x224 i = v (ix3 0 (i 0) (i 1)) := by
    intro v; pointwise
  refine (e _).trans (at3_of x _ ?_ ?_ ?_)
  · show C + 1 * 0 = _; omega
  · show R + 1 * (i 0).val = _; omega
  · show 0 + 1 * (i 1).val = _; omega

/-- Eight rows of channels of the output block increased. -/
def Inc (W : ℕ → ℕ → ℕ → EReal) (D : ℕ → Prop) [DecidablePred D] (R : ℕ) (s s' : Stt) : Prop :=
  s'.sel = s.sel ∧ s'.sh = s.sh ∧ ∀ C y w, C < 6 → y < 224 → w < 224 →
    at3 s'.o C y w = if D C ∧ R ≤ y ∧ y < R + 8 then at3 s.o C y w + W C y w else at3 s.o C y w

/-- Eight rows added into a channel of the output block. -/
theorem addO_run {off : Fin 3 → ℕ} {inb} {C R : ℕ} {w : FVec Ideal S8x224 .f32} {W : ℕ → ℕ → ℕ → EReal} {s : Stt} (hoff : off = ![C, R, 0])
    (hC : C < 6) (hw : ∀ i, w i = W C (R + (i 0).val) (i 1).val) :
    Run defs c B x (addO B off inb w) s fun _ s' => Inc W (fun C' => C' = C) R s s' := by
  unfold addO
  refine Run.bind (Run.load2 (Run.bind (Run.load2 (Run.store2 ⟨rfl, rfl, fun P r k hP hr hk => ?_⟩))))
  have key := (at3_put (a := 6) (b := 224) (d := 224) (p := 1) (q := 8) (r := 224) s.o hoff inb
    (shapeCast S1x8x224 (addf (shapeCast S8x224 (fun i => s.o ((Rect.unit (s := S6x224x224) off S1x8x224.size inb).toLoadRect.idx i))
      shapeCasts_S1x8x224_S8x224) w) shapeCasts_S8x224_S1x8x224) hP hr hk)
  dsimp only
  rw [key]
  by_cases hin : P = C ∧ R ≤ r ∧ r < R + 8
  · rw [if_pos hin, if_pos (by omega)]
    refine (at3_of (a := 1) (b := 8) (c := 224) _ (ix3 ⟨P - C, by omega⟩ ⟨r - R, by omega⟩ ⟨k - 0, by omega⟩) rfl rfl rfl).symm.trans ?_
    have e : ∀ v : FVec Ideal S1x8x224 .f32, ∀ i : Fin 1, ∀ j : Fin 8, ∀ k : Fin 224,
        shapeCast S1x8x224 (addf (shapeCast S8x224 v shapeCasts_S1x8x224_S8x224) w) shapeCasts_S8x224_S1x8x224 (ix3 i j k)
          = v (ix3 0 j k) + w (ix2 j k) := by
      intro v i j k; pointwise
    refine (e _ _ _ _).trans (congrArg₂ (· + ·) ?_ ((hw _).trans ?_))
    · subst hoff
      refine at3_of s.o _ ?_ ?_ ?_
      · show C + 1 * 0 = _; omega
      · show R + 1 * (r - R) = _; omega
      · show 0 + 1 * (k - 0) = _; omega
    · show W C (R + (r - R)) (k - 0) = _
      rw [hin.1, Nat.sub_zero, show R + (r - R) = r by omega]
  · rw [if_neg hin, if_neg (by omega)]

/-- The terms of one channel, added. -/
theorem sumChan_apply (j C : ℕ) (t : ℕ → FVec Ideal S8x224 .f32) (i : S8x224.Idx) :
    sumChan j C t i = ∑ t' ∈ Finset.range 6, if chan (6 * j + t') = C then t (6 * j + t') i else 0 := by
  have ha : ∀ a b : FVec Ideal S8x224 .f32, (addf a b : FVec Ideal S8x224 .f32) i = (a i + b i : EReal) := fun _ _ => rfl
  have hb : ∀ n, (n = C) = (Nat.beq n C = true) := fun n => Nat.beq_eq.symm
  simp only [Finset.sum_range_succ, Finset.sum_range_zero, zero_add, Nat.add_zero, hb]
  unfold sumChan
  generalize Nat.beq (chan (6 * j)) C = b0, Nat.beq (chan (6 * j + 1)) C = b1, Nat.beq (chan (6 * j + 2)) C = b2,
    Nat.beq (chan (6 * j + 3)) C = b3, Nat.beq (chan (6 * j + 4)) C = b4, Nat.beq (chan (6 * j + 5)) C = b5
  cases b0 <;> cases b1 <;> cases b2 <;> cases b3 <;> cases b4 <;> cases b5 <;> simp [push, ha]
  rfl

/-- One row range of what the slice adds. -/
theorem addTerms_run {j R : ℕ} (hj : j < 9) {offs : (c : ℕ) → Fin 3 → ℕ} {inbs} {sh : ℕ → FVec Ideal S16x224 .f32 → FVec Ideal S8x224 .f32}
    {mk : ℕ → IVec S8x224 1} {s0 s1 s2 : FVec Ideal S16x224 .f32} {s : Stt} (hoffs : ∀ c, offs c = ![c, R, 0])
    (ht : ∀ t, t < 6 → ∀ xv : FVec Ideal S8x224 .f32, (∀ i, xv i = at3 x (chan (6 * j + t)) (R + (i 0).val) (i 1).val) →
      ∀ i, term (mk (6 * j + t)) xv (sh (6 * j + t) (pick (kj (6 * j + t)) s0 s1 s2)) i = add_ (at3 x) (6 * j + t) (R + (i 0).val) (i 1).val) :
    Run defs c B x (addTerms B j offs inbs sh mk s0 s1 s2) s fun _ s' => Inc (slc (at3 x) j) (fun _ => True) R s s' := by
  have hsum : ∀ C (xv : FVec Ideal S8x224 .f32), (∀ i, xv i = at3 x C (R + (i 0).val) (i 1).val) → ∀ i,
      sumChan j C (fun f => term (mk f) xv (sh f (pick (kj f) s0 s1 s2))) i = slc (at3 x) j C (R + (i 0).val) (i 1).val := fun C xv hx i => by
    rw [sumChan_apply]
    unfold slc
    refine Finset.sum_congr rfl fun t h => ?_
    by_cases hc : chan (6 * j + t) = C
    · rw [if_pos hc, if_pos hc]
      exact ht t (Finset.mem_range.mp h) xv (by rw [hc]; exact hx) i
    · rw [if_neg hc, if_neg hc]
  have hzero : ∀ C y w, (∀ t, t < 6 → chan (6 * j + t) ≠ C) → slc (at3 x) j C y w = 0 := fun C y w h =>
    Finset.sum_eq_zero fun t ht => if_neg (h t (Finset.mem_range.mp ht))
  have hchan : ∀ t, t < 6 → chan (6 * j + t) = chan (6 * j) ∨ chan (6 * j + t) = chan (6 * j + 5) := by
    have hd : ∀ j, j < 9 → ∀ t, t < 6 → chan (6 * j + t) = chan (6 * j) ∨ chan (6 * j + t) = chan (6 * j + 5) := by decide
    exact hd j hj
  unfold addTerms
  refine Run.seq (getX_run (hoffs _)) fun x0 _ ⟨e, h0⟩ => ?_; subst e
  cases h2 : two j with
  | false =>
    have he : chan (6 * j) = chan (6 * j + 5) := by
      unfold two at h2
      exact Nat.eq_of_beq_eq_true (by simpa using h2)
    refine Run.seq (mid := fun _ s' => s' = _) (Run.pure rfl) fun x1 _ e => ?_; subst e
    refine Run.seq (addO_run (W := slc (at3 x) j) (hoffs _) (chan_lt _) (hsum _ x0 h0)) fun _ s1 h1 => Run.pure ?_
    refine ⟨h1.1, h1.2.1, fun C y w hC hy hw => (h1.2.2 C y w hC hy hw).trans ?_⟩
    by_cases hc : C = chan (6 * j)
    · exact if_congr (by simp [hc]) rfl rfl
    · rw [if_neg (fun h => hc h.1), hzero C y w (fun t ht => by rcases hchan t ht with h | h <;> omega), add_zero, ite_self]
  | true =>
    have he : chan (6 * j) ≠ chan (6 * j + 5) := by
      unfold two at h2
      intro h; rw [h] at h2; simp at h2
    refine Run.seq (getX_run (hoffs _)) fun x1 _ ⟨e, h1⟩ => ?_; subst e
    refine Run.seq (addO_run (W := slc (at3 x) j) (hoffs _) (chan_lt _) (hsum _ x0 h0)) fun _ s1 p1 => ?_
    refine (addO_run (W := slc (at3 x) j) (hoffs _) (chan_lt _) (hsum _ x1 h1)).mono fun _ s2 p2 => ?_
    refine ⟨p2.1.trans p1.1, p2.2.1.trans p1.2.1, fun C y w hC hy hw => ?_⟩
    rw [p2.2.2 C y w hC hy hw, p1.2.2 C y w hC hy hw]
    by_cases hc : C = chan (6 * j)
    · rw [if_neg (fun h : C = chan (6 * j + 5) ∧ _ => he (hc.symm.trans h.1))]
      exact if_congr (by simp [hc]) rfl rfl
    · rw [if_neg (fun h : C = chan (6 * j) ∧ _ => hc h.1)]
      by_cases hc' : C = chan (6 * j + 5)
      · exact if_congr (by simp [hc']) rfl rfl
      · rw [if_neg (fun h => hc' h.1), hzero C y w (fun t ht => by rcases hchan t ht with h | h <;> omega), add_zero, ite_self]

/-- The column mask at an index. -/
theorem colMask_apply {o : ℕ} (ho : o ≤ 2) (i : S8x224.Idx) :
    colMask o i = BitVec.ofBool (decide (o ≤ (i 1).val ∧ (i 1).val < o + 222)) := by
  have h : (i 1).val < 224 := (i 1).2
  have e : colMask o i = IntOp.andi (IntOp.cmpi .sge (BitVec.ofNat 32 (i 1).val) (BitVec.ofNat 32 o))
      (IntOp.cmpi .slt (BitVec.ofNat 32 (i 1).val) (BitVec.ofNat 32 (o + 222))) := by
    unfold colMask; pointwise
  rw [e, WordCmp.cmpi_sge_ofNat (by omega) (by omega), WordCmp.cmpi_slt_ofNat (by omega) (by omega), Bool.decide_and]
  cases decide (o ≤ (i 1).val) <;> cases decide ((i 1).val < o + 222) <;> rfl

/-- The first rows' mask at an index. -/
theorem topMask_apply {o p : ℕ} (ho : o ≤ 2) (hp : p ≤ 2) (i : S8x224.Idx) :
    topMask o p i = BitVec.ofBool (decide ((p ≤ (i 1).val ∧ (i 1).val < p + 222) ∧ o ≤ (i 0).val)) := by
  have h : (i 0).val < 8 := (i 0).2
  have e : topMask o p i = IntOp.andi (colMask p i) (IntOp.cmpi .sge (BitVec.ofNat 32 (i 0).val) (BitVec.ofNat 32 o)) := by
    unfold topMask; pointwise
  rw [e, colMask_apply hp, WordCmp.cmpi_sge_ofNat (by omega) (by omega), Bool.decide_and (p := p ≤ (i 1).val ∧ (i 1).val < p + 222)]
  cases decide (p ≤ (i 1).val ∧ (i 1).val < p + 222) <;> cases decide (o ≤ (i 0).val) <;> rfl

/-- The last rows' mask at an index. -/
theorem botMask_apply {o p : ℕ} (ho : o ≤ 2) (hp : p ≤ 2) (i : S8x224.Idx) :
    botMask o p i = BitVec.ofBool (decide ((p ≤ (i 1).val ∧ (i 1).val < p + 222) ∧ (i 0).val < 6 + o)) := by
  have h : (i 0).val < 8 := (i 0).2
  have e : botMask o p i = IntOp.andi (colMask p i) (IntOp.cmpi .slt (BitVec.ofNat 32 (i 0).val) (BitVec.ofNat 32 (6 + o))) := by
    unfold botMask; pointwise
  rw [e, colMask_apply hp, WordCmp.cmpi_slt_ofNat (by omega) (by omega), Bool.decide_and (p := p ≤ (i 1).val ∧ (i 1).val < p + 222)]
  cases decide (p ≤ (i 1).val ∧ (i 1).val < p + 222) <;> cases decide ((i 0).val < 6 + o) <;> rfl

/-- A term at an index, the mask there known. -/
theorem term_apply {m : IVec S8x224 1} {xv sv : FVec Ideal S8x224 .f32} {i : S8x224.Idx} {p : Prop} [Decidable p]
    (hm : m i = BitVec.ofBool (decide p)) : term m xv sv i = if p then flr (xv i * sv i) else 0 := by
  have e : term m xv sv i = Scalar.select (m i) (flr (xv i * sv i)) (Ideal.ofBits .f32 0x00000000#32) := rfl
  rw [e, hm, Ideal.ofBits_zero_f32]
  by_cases h : p
  · rw [if_pos h, decide_eq_true h]; rfl
  · rw [if_neg h, decide_eq_false h]; rfl

/-- Rows cut up from the end, at an index. -/
theorem shiftDn_apply (f : ℕ) (sv : FVec Ideal S16x224 .f32) (i : S8x224.Idx) :
    shiftDn f sv i = sv (ix2 ⟨8 - ki f + (i 0).val, by have h : (i 0).val < 8 := (i 0).2; show _ < 16; omega⟩ (i 1)) := by
  unfold shiftDn
  pointwise

/-- Rows cut down from the start, at an index it reaches. -/
theorem shiftUp_apply (f : ℕ) (sv : FVec Ideal S16x224 .f32) (i : S8x224.Idx) {r : ℕ} (hr : r < 16) (h : (i 0).val = ki f + r) :
    shiftUp f sv i = sv (ix2 ⟨r, hr⟩ (i 1)) := by
  have hk := ki_le f
  unfold shiftUp
  generalize ki f = n at h hk ⊢
  have hv : ∀ (q : ℕ) (hq : q < 16), q = r → sv (ix2 ⟨q, hq⟩ (i 1)) = sv (ix2 ⟨r, hr⟩ (i 1)) := fun q hq e => by subst e; rfl
  interval_cases n
  · pointwise
    exact hv _ _ (by omega)
  · pointwise
    exact (dif_neg (by omega)).trans (hv _ _ (by omega))
  · pointwise
    exact (dif_neg (by omega)).trans (hv _ _ (by omega))

/-- A plane picked, of three that read the state's three planes. -/
theorem pick_apply {n R : ℕ} (hn : n ≤ 2) {s : Stt} {s0 s1 s2 : FVec Ideal S16x224 .f32} (h0 : ∀ i, s0 i = at3 s.sel 0 (R + (i 0).val) (i 1).val)
    (h1 : ∀ i, s1 i = at3 s.sel 1 (R + (i 0).val) (i 1).val) (h2 : ∀ i, s2 i = at3 s.sel 2 (R + (i 0).val) (i 1).val) (i : S16x224.Idx) :
    pick n s0 s1 s2 i = at3 s.sel n (R + (i 0).val) (i 1).val := by
  rcases n with _ | _ | _ | n
  · exact h0 i
  · exact h1 i
  · exact h2 i
  · omega

/-- What is added where the mask holds: the product with the selected window's element, rounded down. -/
theorem add_of {X : Blk} {j t y w r : ℕ} {s : Stt} {p : Prop} [Decidable p] (ht : t < 6) (hw : w < 224) (hl : Sl (sel_ X j) 222 s)
    (hp : p ↔ (ki (6 * j + t) ≤ y ∧ y < ki (6 * j + t) + 222) ∧ kj (6 * j + t) ≤ w ∧ w < kj (6 * j + t) + 222) (z : EReal)
    (hr : p → r = y - ki (6 * j + t) ∧ z = at3 s.sel (kj (6 * j + t)) r w) :
    (if p then flr (X (chan (6 * j + t)) y w * z) else 0) = add_ X (6 * j + t) y w := by
  unfold add_
  by_cases h : p
  · have h' := hp.mp h
    have hk := kj_le (6 * j + t)
    rw [if_pos h, if_pos h', (hr h).2, show (6 * j + t) / 6 = j by omega, (hr h).1]
    have e := hl (kj (6 * j + t)) (y - ki (6 * j + t)) (w - kj (6 * j + t)) (by omega) (by omega) (by omega)
    rw [show kj (6 * j + t) + (w - kj (6 * j + t)) = w by omega] at e
    rw [e]
  · rw [if_neg h, if_neg (fun h' => h (hp.mpr h'))]

/-- One trip of the middle rows. -/
theorem pbBody_run {j : ℕ} (hj : j < 9) (k : Fin k0_t3_loop.trips) {s : Stt} (hl : Sl (sel_ (at3 x) j) 222 s) :
    Run defs c B x (pbBody B j k) s fun _ s' => Inc (slc (at3 x) j) (fun _ => True) (8 * k.val + 8) s s' := by
  have hk : k.val < 26 := k.2
  unfold pbBody
  refine Run.seq (getSel_run (R := 8 * k.val) (k0_off8_eq k)) fun s0 _ ⟨e, h0⟩ => ?_; subst e
  refine Run.seq (getSel_run (R := 8 * k.val) (k0_off9_eq k)) fun s1 _ ⟨e, h1⟩ => ?_; subst e
  refine Run.seq (getSel_run (R := 8 * k.val) (k0_off10_eq k)) fun s2 _ ⟨e, h2⟩ => ?_; subst e
  refine Run.seq (addTerms_run (R := 8 * k.val + 8) hj (fun c => ?_) fun t ht xv hx i => ?_) fun _ s' h => Run.pure h
  · show ![c, k0_off11 k 1, 0] = _
    rw [k0_off11_eq k]; rfl
  · have hi : (i 0).val < 8 := (i 0).2
    have hki := ki_le (6 * j + t)
    rw [term_apply (colMask_apply (kj_le _) i), hx, shiftDn_apply, pick_apply (kj_le _) h0 h1 h2]
    exact add_of ht (i 1).2 hl (by constructor <;> intro h <;> omega) _ fun h => ⟨by show 8 * k.val + (8 - ki (6 * j + t) + (i 0).val) = _; omega, rfl⟩

/-- The first eight rows. -/
theorem pbTop_run {j : ℕ} (hj : j < 9) {s : Stt} (hl : Sl (sel_ (at3 x) j) 222 s) :
    Run defs c B x (pbTop B j) s fun _ s' => Inc (slc (at3 x) j) (fun _ => True) 0 s s' := by
  unfold pbTop
  refine Run.seq (getSel_run (R := 0) rfl) fun s0 _ ⟨e, h0⟩ => ?_; subst e
  refine Run.seq (getSel_run (R := 0) rfl) fun s1 _ ⟨e, h1⟩ => ?_; subst e
  refine Run.seq (getSel_run (R := 0) rfl) fun s2 _ ⟨e, h2⟩ => ?_; subst e
  refine addTerms_run (R := 0) hj (fun c => rfl) fun t ht xv hx i => ?_
  have hi : (i 0).val < 8 := (i 0).2
  have hki := ki_le (6 * j + t)
  rw [term_apply (topMask_apply (ki_le _) (kj_le _) i), hx]
  refine add_of (r := (i 0).val - ki (6 * j + t)) ht (i 1).2 hl (by constructor <;> intro h <;> omega) _ fun h => ⟨by omega, ?_⟩
  rw [shiftUp_apply (r := (i 0).val - ki (6 * j + t)) _ _ _ (by omega) (by omega), pick_apply (kj_le _) h0 h1 h2, Nat.zero_add]; rfl

/-- The last eight rows. -/
theorem pbBot_run {j : ℕ} (hj : j < 9) {s : Stt} (hl : Sl (sel_ (at3 x) j) 222 s) :
    Run defs c B x (pbBot B j) s fun _ s' => Inc (slc (at3 x) j) (fun _ => True) 216 s s' := by
  unfold pbBot
  refine Run.seq (getSel_run (R := 208) rfl) fun s0 _ ⟨e, h0⟩ => ?_; subst e
  refine Run.seq (getSel_run (R := 208) rfl) fun s1 _ ⟨e, h1⟩ => ?_; subst e
  refine Run.seq (getSel_run (R := 208) rfl) fun s2 _ ⟨e, h2⟩ => ?_; subst e
  refine addTerms_run (R := 216) hj (fun c => rfl) fun t ht xv hx i => ?_
  have hi : (i 0).val < 8 := (i 0).2
  have hki := ki_le (6 * j + t)
  rw [term_apply (botMask_apply (ki_le _) (kj_le _) i), hx, shiftDn_apply, pick_apply (kj_le _) h0 h1 h2]
  exact add_of ht (i 1).2 hl (by constructor <;> intro h <;> omega) _ fun h => ⟨by show 208 + (8 - ki (6 * j + t) + (i 0).val) = _; omega, rfl⟩

/-- What the slice adds, added on every row. -/
theorem outPart_run {j : ℕ} (hj : j < 9) {s : Stt} (hl : Sl (sel_ (at3 x) j) 222 s) :
    Run defs c B x (outPart B j) s fun _ s' => s'.sh = s.sh ∧
      ∀ C y w, C < 6 → y < 224 → w < 224 → at3 s'.o C y w = at3 s.o C y w + slc (at3 x) j C y w := by
  unfold outPart
  refine Run.seq (mid := fun _ s' => s'.sel = s.sel ∧ s'.sh = s.sh ∧ ∀ C y w, C < 6 → y < 224 → w < 224 →
      at3 s'.o C y w = if 8 ≤ y ∧ y < 8 * 26 + 8 then at3 s.o C y w + slc (at3 x) j C y w else at3 s.o C y w)
    (Run.loop _ _ _ _ (fun k _ s' => s'.sel = s.sel ∧ s'.sh = s.sh ∧ ∀ C y w, C < 6 → y < 224 → w < 224 →
      at3 s'.o C y w = if 8 ≤ y ∧ y < 8 * k + 8 then at3 s.o C y w + slc (at3 x) j C y w else at3 s.o C y w)
      ⟨rfl, rfl, fun C y w _ _ _ => (if_neg (by omega)).symm⟩ (fun k _ s' h => ?_) (fun _ _ h => h)) fun _ s0 h => ?_
  · have hl' : Sl (sel_ (at3 x) j) 222 s' := fun a b => by rw [h.1]; exact hl a b
    refine (pbBody_run hj k hl').mono fun _ s'' h' => ⟨h'.1.trans h.1, h'.2.1.trans h.2.1, fun C y w hC hy hw => ?_⟩
    rw [h'.2.2 C y w hC hy hw, h.2.2 C y w hC hy hw]
    simp only [true_and]
    split_ifs <;> first | rfl | (exfalso; omega)
  have hl0 : Sl (sel_ (at3 x) j) 222 s0 := fun a b => by rw [h.1]; exact hl a b
  refine Run.seq (pbTop_run hj hl0) fun _ s1 h1 => ?_
  have hl1 : Sl (sel_ (at3 x) j) 222 s1 := fun a b => by rw [h1.1]; exact hl0 a b
  refine (pbBot_run hj hl1).mono fun _ s2 h2 => ⟨h2.2.1.trans (h1.2.1.trans h.2.1), fun C y w hC hy hw => ?_⟩
  rw [h2.2.2 C y w hC hy hw, h1.2.2 C y w hC hy hw, h.2.2 C y w hC hy hw]
  simp only [true_and]
  split_ifs <;> first | rfl | (exfalso; omega)

end Cert.Motif.Body

end
-- ==== Proof.Slice.lean ====
/-
  The whole body: the start, then the slices one after another; the output block is what all slices add.
-/
module

public import proofs.«01_k».proof.Proof.Out

@[expose] public section

noncomputable section

namespace Cert.Motif.Body

open Cert.KernelIdeal Cert.KernelIdeal.Gen
open Idealize.ShloMosaic Idealize.ShloMosaic.TcCoe
open Idealize.SL Idealize.SL.Sem

variable {defs : Defs nD τ sig (Elt Ideal) Λ₀} {c : Dev nD} {B : Bf} {x : Vec Ideal S6x224x224 .f32}

/-- One slice. -/
theorem slice_run {j : ℕ} (hj : j < 9) {s : Stt} (hs : Sh x s) :
    Run defs c B x (slice B j) s fun _ s' => s'.sh = s.sh ∧
      ∀ C y w, C < 6 → y < 224 → w < 224 → at3 s'.o C y w = at3 s.o C y w + slc (at3 x) j C y w := by
  unfold slice
  refine Run.seq (mid := fun a s' => s' = s ∧ G15 (at3 x) j 27 a) (Run.loop _ _ _ _ (fun k a s' => s' = s ∧ G15 (at3 x) j k a)
    ⟨rfl, G_zero _ _ _, G_zero _ _ _, G_zero _ _ _, G_zero _ _ _, G_zero _ _ _, G_zero _ _ _, G_zero _ _ _, G_zero _ _ _,
      G_zero _ _ _, G_zero _ _ _, G_zero _ _ _, G_zero _ _ _, G_zero _ _ _, G_zero _ _ _, G_zero _ _ _⟩
    (fun k a s' h => ?_) (fun _ _ h => h)) fun a s' ⟨e, h⟩ => ?_
  · obtain ⟨e, h⟩ := h
    subst e
    exact paBody_run k a hs h
  subst e
  refine afterPa_run hs h (Run.seq (selPart_run hs) fun _ s1 h1 => ?_)
  have hl : Sl (sel_ (at3 x) j) 222 s1 := h1.2.2
  refine (outPart_run hj hl).mono fun _ s2 h2 => ⟨h2.1.trans h1.2.1, fun C y w hC hy hw => ?_⟩
  rw [h2.2 C y w hC hy hw, h1.1]

/-- The copies of the first channels are filled, and the output block is zero. -/
def Fl (x : Vec Ideal S6x224x224 .f32) (n : ℕ) (s : Stt) : Prop :=
  (∀ C y w, C < 6 → y < 224 → w < 224 → at3 s.o C y w = 0) ∧
  ∀ c o h w : ℕ, c < n → 1 ≤ o → o ≤ 2 → h < 224 → w + o < 224 → at3 s.sh ((o - 1) * 6 + c) h w = at3 x c h (w + o)

/-- One plane of the shifted copies filled. -/
theorem fill1_run {C o m : ℕ} {hc : C < 6} {ho : o ≤ 2} {hm : o + m = 224} {hn : 0 < (⟨3, ![1, 224, m]⟩ : Shape).numel} {h1 h2} {s : Stt} :
    Run defs c B x (fill1 B C o m hc ho hm hn h1 h2) s fun _ s' => s'.o = s.o ∧ ∀ p h w, p < 12 → h < 224 → w < 224 →
      at3 s'.sh p h w = if p = (o - 1) * 6 + C ∧ w < m then at3 x C h (w + o) else at3 s.sh p h w := by
  unfold fill1
  refine Run.bind (Run.load1 (Run.bind (Run.load3 (Run.store3 ⟨rfl, fun p h w hp hh hw => ?_⟩))))
  have key := at3_put (a := 12) (b := 224) (d := 224) (p := 1) (q := 224) (r := m) s.sh (off := ![(o - 1) * 6 + C, 0, 0]) rfl
    (inbF (S := ⟨3, ![1, 224, m]⟩) (T := S12x224x224) rfl rfl (by omega) (by omega)) (shapeCast _ (shapeCast (⟨2, ![224, m]⟩ : Shape) (fun i => x ((Rect.unit (s := S6x224x224) ![C, 0, o] (⟨3, ![1, 224, m]⟩ : Shape).size
      (inbF (S := ⟨3, ![1, 224, m]⟩) (T := S6x224x224) rfl rfl hc hm.le)).toLoadRect.idx i)) h1) h2) hp hh hw
  refine Eq.trans ?_ (key.trans ?_)
  · rfl
  by_cases hin : p = (o - 1) * 6 + C ∧ w < m
  · rw [if_pos hin, if_pos (by omega)]
    refine (at3_of (a := 1) (b := 224) (c := m) _ (ix3 ⟨p - ((o - 1) * 6 + C), by omega⟩ ⟨h - 0, by omega⟩ ⟨w - 0, by omega⟩) rfl rfl rfl).symm.trans ?_
    refine (congrFun (shapeCast_shapeCast _ h1 h2) _).trans (at3_of x _ ?_ ?_ ?_)
    · show C + 1 * (p - ((o - 1) * 6 + C)) = _; omega
    · show 0 + 1 * (h - 0) = _; omega
    · show o + 1 * (w - 0) = _; omega
  · rw [if_neg hin, if_neg (by omega)]

/-- The two copies of a channel. -/
theorem fill_run {C : ℕ} {hc : C < 6} {s : Stt} (h : Fl x C s) : Run defs c B x (fill B C hc) s fun _ s' => Fl x (C + 1) s' := by
  unfold fill
  refine Run.seq fill1_run fun _ s1 h1 => fill1_run.mono fun _ s2 h2 => ⟨fun C' y w hC hy hw => ?_, fun c' o h' w hc' ho1 ho2 hh hw => ?_⟩
  · rw [h2.1, h1.1]; exact h.1 C' y w hC hy hw
  · rw [h2.2 _ _ _ (by omega) hh (by omega), h1.2 _ _ _ (by omega) hh (by omega)]
    by_cases e : c' = C
    · subst e
      by_cases e2 : o = 2
      · subst e2; rw [if_pos (by omega)]
      · have e1 : o = 1 := by omega
        subst e1
        rw [if_neg (by omega), if_pos (by omega)]
    · rw [if_neg (by omega), if_neg (by omega)]
      exact h.2 c' o h' w (by omega) ho1 ho2 hh hw

/-- The start. -/
theorem start_run {s : Stt} : Run defs c B x (start B) s fun _ s' => Fl x 6 s' := by
  unfold start
  refine Run.bind (Run.load2 ?_)
  refine Run.seq (mid := fun _ s' => Fl x 0 s') (Run.store2 ⟨fun C y w hC hy hw => ?_, fun _ _ _ _ h => absurd h (Nat.not_lt_zero _)⟩) fun _ s0 h0 => ?_
  · have key := at3_put (a := 6) (b := 224) (d := 224) (p := 6) (q := 224) (r := 224) s.o (off := ![0, 0, 0]) rfl
      inb_S6x224x224_S6x224x224_0_0_0 (broadcast S6x224x224 (zero (F := Ideal))) hC hy hw
    dsimp only
    rw [key, if_pos (by omega)]
    refine (at3_of (a := 6) (b := 224) (c := 224) _ (ix3 ⟨C - 0, by omega⟩ ⟨y - 0, by omega⟩ ⟨w - 0, by omega⟩) rfl rfl rfl).symm.trans ?_
    exact Ideal.ofBits_zero_f32
  refine Run.seq (fill_run h0) fun _ s1 h1 => ?_
  refine Run.seq (fill_run h1) fun _ s2 h2 => ?_
  refine Run.seq (fill_run h2) fun _ s3 h3 => ?_
  refine Run.seq (fill_run h3) fun _ s4 h4 => ?_
  refine Run.seq (fill_run h4) fun _ s5 h5 => ?_
  exact fill_run h5

/-- The output block after the first slices. -/
def At (x : Vec Ideal S6x224x224 .f32) (n : ℕ) (s : Stt) : Prop :=
  Sh x s ∧ ∀ C y w, C < 6 → y < 224 → w < 224 → at3 s.o C y w = out_ (at3 x) n C y w

/-- One slice more. -/
theorem slice_at {j : ℕ} (hj : j < 9) {s : Stt} (h : At x j s) : Run defs c B x (slice B j) s fun _ s' => At x (j + 1) s' :=
  (slice_run hj h.1).mono fun _ s' h' => ⟨fun a b => by rw [h'.1]; exact h.1 a b, fun C y w hC hy hw => by
    rw [h'.2 C y w hC hy hw, h.2 C y w hC hy hw]
    exact (Finset.sum_range_succ (fun j => slc (at3 x) j C y w) j).symm⟩

/-- The whole body: the output block is what the nine slices add. -/
theorem prog_run {s : Stt} : Run defs c B x (prog B) s fun _ s' => s'.o = fun i => out_ (at3 x) 9 (i 0).val (i 1).val (i 2).val := by
  unfold prog
  refine Run.seq start_run fun _ s0 h => ?_
  have h0 : At x 0 s0 := ⟨h.2, fun C y w hC hy hw => (h.1 C y w hC hy hw).trans (Finset.sum_range_zero _).symm⟩
  refine Run.seq (slice_at (by omega) h0) fun _ s1 h1 => ?_
  refine Run.seq (slice_at (by omega) h1) fun _ s2 h2 => ?_
  refine Run.seq (slice_at (by omega) h2) fun _ s3 h3 => ?_
  refine Run.seq (slice_at (by omega) h3) fun _ s4 h4 => ?_
  refine Run.seq (slice_at (by omega) h4) fun _ s5 h5 => ?_
  refine Run.seq (slice_at (by omega) h5) fun _ s6 h6 => ?_
  refine Run.seq (slice_at (by omega) h6) fun _ s7 h7 => ?_
  refine Run.seq (slice_at (by omega) h7) fun _ s8 h8 => ?_
  refine Run.seq (slice_at (by omega) h8) fun _ s9 h9 => Run.pure ?_
  funext i
  exact (at3_idx s9.o i).trans (h9.2 _ _ _ (i 0).2 (i 1).2 (i 2).2)

end Cert.Motif.Body

end
-- ==== Proof.KernelValue.lean ====
/-
  The idealised kernel's run, valued: at each point of the grid the output's block holds what the body computes of the
  input's block, the blocks fill the output's array, and the result is that array with a leading axis.
-/
module

public import proofs.«01_k».proof.Proof.FrameKernelIdeal
public import proofs.«01_k».proof.Proof.ProgEq
public import proofs.«01_k».proof.Proof.Slice
public import Idealize.ShloMosaic.Lib.Pipeline.ValueKit

@[expose] public section

noncomputable section

namespace Cert.Motif.KernelIdealValue

open Cert.KernelIdeal Cert.KernelIdeal.Gen
open Cert.Motif.KernelIdeal (bufs defs₀_row)
open Cert.Motif (Held)
open Cert.Motif.Body (at3 at3_idx at3_of Blk out_ prog prog_run body_eq)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The output's block of a block of the input. -/
def outBlk (x : Vec Ideal S6x224x224 .f32) : Vec Ideal S6x224x224 .f32 :=
  fun i => out_ (at3 x) 9 (i 0).val (i 1).val (i 2).val

/-- The proof data: the input's block stays, the output's is what the body computes. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => outBlk (iblk m c 0 t)
  Φ _ := Pipeline.ΦA spec0 c
  q _ := fullShare
  owed _ := 0

/-- The arrays are what the region finds. -/
theorem A_eq (c : Dev nD) (w : Fin cfg0.W) : (dats m 0 c).A w = V m c (Pipeline.arrRef spec0 w) := by dsimp only [dats]

/-- The body leaves the input's block in place. -/
theorem after0_0 (c : Dev nD) (t : Fin cfg0.N) : (dats m 0 c).after 0 t = iblk m c 0 t := by dsimp only [dats]

/-- The body leaves the output's block computed. -/
theorem after0_1 (c : Dev nD) (t : Fin cfg0.N) : (dats m 0 c).after 1 t = outBlk (iblk m c 0 t) := by dsimp only [dats]

/-- The input's staging buffer holds the input's block. -/
theorem before0_0 (c : Dev nD) (t : Fin cfg0.N) (d) : (dats m 0 c).before 0 t d = iblk m c 0 t :=
  before0_0_of m (dats m 0 c) (A_eq m c 0) (after0_0 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point, the two scratch buffers taken out of the invariant and put back. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before0_0]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, after0_0, after0_1]
  unfold Pipeline.ΦA
  rw [scopedRest0_eq]
  simp only [← owns_whole]
  have hb : bodyAt0 (F := Ideal) t = prog (bufs t) := body_eq (grid0.coords t) (bufs t) _ _ _ _
  rw [hb]
  have key : ∀ d f3 f4, iprop(Held c (bufs t) (iblk m c 0 t) ⟨d, f3, f4⟩ ∗ (∃ r, prngReg c r)
      ∗ (dats m 0 c).owesAt () t.castSucc) ⊢ wp frame (wpE (defs₀ (F := Ideal)) Variants.none c none) Set.univ (prog (bufs t))
        (fun _ => iprop((((∃ f3, owns (c : Thread nD τ) (Memref.whole cc0_scratch0) fullShare f3)
            ∗ (∃ f4, owns (c : Thread nD τ) (Memref.whole cc0_scratch1) fullShare f4)) ∗ (∃ r, prngReg c r))
          ∗ (dats m 0 c).owesAt () t.castSucc ∗ owns (c : Thread nD τ) (st0_0 t) fullShare (iblk m c 0 t)
          ∗ owns (c : Thread nD τ) (st0_1 t) fullShare (outBlk (iblk m c 0 t)))) := fun d f3 f4 => by
    refine (prog_run (defs := defs₀ (F := Ideal)) (c := c) (B := bufs t) (x := iblk m c 0 t) (s := ⟨d, f3, f4⟩)).framed ?_
    intro a s' e
    have e' : outBlk (iblk m c 0 t) = s'.o := e.symm
    rw [e']
    unfold Held
    iintro ⟨⟨H0, H1, H3, H4⟩, Hg, Ho⟩
    isplitl [H3 H4 Hg]
    · isplitl [H3 H4]
      · isplitl [H3]
        · iexists _; iexact H3
        · iexists _; iexact H4
      iexact Hg
    isplitl [Ho]; · iexact Ho
    isplitl [H0]; · iexact H0
    iexact H1
  iintro ⟨⟨⟨⟨%f3, H3⟩, ⟨%f4, H4⟩⟩, Hg⟩, Ho, ⟨%d0, H0⟩, ⟨%d1, H1⟩⟩
  iapply (key ((dats m 0 c).before 1 t d1) f3 f4)
  isplitl [H0 H1 H3 H4]
  · unfold Held
    isplitl [H0]; · iexact H0
    isplitl [H1]; · iexact H1
    isplitl [H3]; · iexact H3
    iexact H4
  isplitl [Hg]; · iexact Hg
  iexact Ho

/-- The body obligation. -/
theorem body_obligation (c : Dev nD) :
    BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The launch: every execution of the program ends at the arrays the proof data name, all else as the host operations
    leave it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The array the output's blocks fill -/

/-- A group of six channels of an array, by natural coordinates. -/
def grp (a : Vec Ideal S1x96x224x224 .f32) (g : ℕ) : Blk := fun ch h w =>
  if H : (g < 16 ∧ ch < 6) ∧ h < 224 ∧ w < 224 then a (ix4 0 ⟨6 * g + ch, by omega⟩ ⟨h, H.2.1⟩ ⟨w, H.2.2⟩) else 0

/-- The array the kernel writes. -/
def outArr (a : Vec Ideal S1x96x224x224 .f32) : Vec Ideal S96x224x224 .f32 :=
  fun i => out_ (grp a ((i 0).val / 6)) 9 ((i 0).val % 6) (i 1).val (i 2).val

/-- The region's input array is the argument without its leading axis. -/
theorem V_main_v0 (c : Dev nD) : V m c main_v0
    = shapeCast S96x224x224 (m ((c : Thread nD τ).loc main_arg0)) shapeCasts_S1x96x224x224_S96x224x224 := rfl

/-- The array without its leading axis, at an index. -/
theorem drop_apply (a : Vec Ideal S1x96x224x224 .f32) (y : S96x224x224.Idx) :
    shapeCast S96x224x224 a shapeCasts_S1x96x224x224_S96x224x224 y = a (ix4 0 (y 0) (y 1) (y 2)) := by
  idx_vars y
  pointwise

/-- An array of rank four at two indices of the same coordinates. -/
theorem ix4_congr {α : Type} {n1 n2 n3 n4 : ℕ} (a : (⟨4, ![n1, n2, n3, n4]⟩ : Shape).Idx → α) {i i' : Fin n1} {j j' : Fin n2}
    {k k' : Fin n3} {l l' : Fin n4} (h1 : i.val = i'.val) (h2 : j.val = j'.val) (h3 : k.val = k'.val) (h4 : l.val = l'.val) :
    a (ix4 i j k l) = a (ix4 i' j' k' l') := by
  rw [Fin.ext h1, Fin.ext h2, Fin.ext h3, Fin.ext h4]

/-- Where the input's block lies at a point. -/
theorem index0 : ∀ t : Fin cfg0.N, win0_0.index t = ![t.val, 0, 0] :=
  (by decide +kernel : ∀ t : Fin grid0.N, win0_0.index t = ![t.val, 0, 0])

/-- Where the output's block lies at a point. -/
theorem index1 : ∀ t : Fin cfg0.N, win0_1.index t = ![t.val, 0, 0] :=
  (by decide +kernel : ∀ t : Fin grid0.N, win0_1.index t = ![t.val, 0, 0])

/-- The input's block at a point is a group of six channels of the argument. -/
theorem at3_iblk (c : Dev nD) (t : Fin cfg0.N) : at3 (iblk m c 0 t) = grp (m ((c : Thread nD τ).loc main_arg0)) t.val := by
  have hN : cfg0.N = 16 := N_0
  have ht := t.2
  funext ch h w
  unfold at3 grp
  by_cases H : ch < 6 ∧ h < 224 ∧ w < 224
  · rw [dif_pos H, dif_pos ⟨⟨by omega, H.1⟩, H.2⟩]
    have e : iblk m c 0 t (ix3 ⟨ch, H.1⟩ ⟨h, H.2.1⟩ ⟨w, H.2.2⟩)
        = V m c main_v0 (((cfg0.win 0).blk t).view.emb (ix3 ⟨ch, H.1⟩ ⟨h, H.2.1⟩ ⟨w, H.2.2⟩)) := rfl
    have e0 : (((cfg0.win 0).blk t).view.emb (ix3 ⟨ch, H.1⟩ ⟨h, H.2.1⟩ ⟨w, H.2.2⟩) 0).val = 6 * t.val + ch := by
      blk_simp [index0]; simp; omega
    have e1 : (((cfg0.win 0).blk t).view.emb (ix3 ⟨ch, H.1⟩ ⟨h, H.2.1⟩ ⟨w, H.2.2⟩) 1).val = h := by
      blk_simp [index0]
    have e2 : (((cfg0.win 0).blk t).view.emb (ix3 ⟨ch, H.1⟩ ⟨h, H.2.1⟩ ⟨w, H.2.2⟩) 2).val = w := by
      blk_simp [index0]
    rw [e, V_main_v0, drop_apply]
    exact ix4_congr _ rfl e0 e1 e2
  · rw [dif_neg H, dif_neg (fun h' => H ⟨h'.1.2, h'.2⟩)]

/-- What point `t` writes back is its block of the array. -/
theorem flushed_eq (c : Dev nD) (t : Fin cfg0.N) : (dats m 0 c).flushed 1 t
    = ((cfg0.win 1).blk t).view.read (Elt Ideal) (outArr (m ((c : Thread nD τ).loc main_arg0))) := by
  show (cfg0.win 1).cut (grid0.coords t) ((dats m 0 c).after 1 t) = _
  rw [after0_1]
  funext i
  have e0 : (((cfg0.win 1).blk t).view.emb i 0).val = 6 * t.val + (i 0).val := by blk_simp [index1]; simp; omega
  have e1 : (((cfg0.win 1).blk t).view.emb i 1).val = (i 1).val := by blk_simp [index1]
  have e2 : (((cfg0.win 1).blk t).view.emb i 2).val = (i 2).val := by blk_simp [index1]
  have h0 : (i 0).val < 6 := (i 0).2
  show out_ (at3 (iblk m c 0 t)) 9 (i 0).val (i 1).val (i 2).val = outArr _ (((cfg0.win 1).blk t).view.emb i)
  unfold outArr
  rw [e0, e1, e2, at3_iblk, show (6 * t.val + (i 0).val) / 6 = t.val by omega, show (6 * t.val + (i 0).val) % 6 = (i 0).val by omega]

/-- An index of the output's array is in point `t`'s block when its channel is in the group `t`. -/
theorem mem_blk (t : Fin cfg0.N) (i : S96x224x224.Idx) :
    i ∈ ((cfg0.win 1).blk t).view.set ↔ t.val * 6 ≤ (i 0).val ∧ (i 0).val < t.val * 6 + 6 := by
  show i ∈ ((View.whole main_v1).slice (win0_1.rect t)).set ↔ _
  rw [View.set_slice_whole, Rect.mem_set_unit]
  have h1 : (i 1 : Nat) < 224 := (i 1).isLt
  have h2 : (i 2 : Nat) < 224 := (i 2).isLt
  have e : (win0_1.index t 0 * win0_1.size 0 = t.val * 6 ∧ win0_1.xsize (grid0.coords t) 0 = 6)
      ∧ (win0_1.index t 1 * win0_1.size 1 = 0 ∧ win0_1.xsize (grid0.coords t) 1 = 224)
      ∧ win0_1.index t 2 * win0_1.size 2 = 0 ∧ win0_1.xsize (grid0.coords t) 2 = 224 := by
    revert t; decide +kernel
  refine ⟨fun h => ?_, fun h a => ?_⟩
  · have : win0_1.index t 0 * win0_1.size 0 ≤ (i 0 : Nat) ∧ (i 0 : Nat) < win0_1.index t 0 * win0_1.size 0 + win0_1.xsize (grid0.coords t) 0 := h 0
    rw [e.1.1, e.1.2] at this; exact this
  · match a with
    | ⟨0, _⟩ => show win0_1.index t 0 * win0_1.size 0 ≤ (i 0 : Nat) ∧ (i 0 : Nat) < win0_1.index t 0 * win0_1.size 0 + win0_1.xsize (grid0.coords t) 0
                rw [e.1.1, e.1.2]; exact h
    | ⟨1, _⟩ => show win0_1.index t 1 * win0_1.size 1 ≤ (i 1 : Nat) ∧ (i 1 : Nat) < win0_1.index t 1 * win0_1.size 1 + win0_1.xsize (grid0.coords t) 1
                rw [e.2.1.1, e.2.1.2]; omega
    | ⟨2, _⟩ => show win0_1.index t 2 * win0_1.size 2 ≤ (i 2 : Nat) ∧ (i 2 : Nat) < win0_1.index t 2 * win0_1.size 2 + win0_1.xsize (grid0.coords t) 2
                rw [e.2.2.1, e.2.2.2]; omega

/-- The blocks fill the array. -/
theorem cover (i : S96x224x224.Idx) :
    ∃ t : Fin cfg0.N, (cfg0.win 1).flush t = true ∧ i ∈ ((cfg0.win 1).blk t).view.set := by
  have h0 : (i 0 : Nat) < 96 := (i 0).isLt
  have hN : cfg0.N = 16 := N_0
  refine ⟨⟨(i 0).val / 6, by omega⟩, flush0_1 _, ?_⟩
  rw [mem_blk]
  dsimp only
  omega

/-- The output's array after the last point. -/
theorem final_v1 (c : Dev nD) : (dats m 0 c).arrAt 1 cfg0.N = outArr (m ((c : Thread nD τ).loc main_arg0)) :=
  (dats m 0 c).arrAt_eq_of_cover 1 (outArr (m ((c : Thread nD τ).loc main_arg0))) (fun t _ => flushed_eq m c t) cover

/-- What the program returns of the argument: the array with a leading axis. -/
def result (a : Vec Ideal S1x96x224x224 .f32) : Vec Ideal S1x96x224x224 .f32 :=
  fun i => out_ (grp a ((i 1).val / 6)) 9 ((i 1).val % 6) (i 2).val (i 3).val

/-- The result after the operation that follows the region. -/
theorem W_main_v2 (c : Dev nD) : Pipeline.afterTail₀ cfgs (dats m) 0 (V0 m) [hostOps1] c main_v2
    = result (m ((c : Thread nD τ).loc main_arg0)) := by
  have e : Pipeline.afterTail₀ cfgs (dats m) 0 (V0 m) [hostOps1] c main_v2
      = broadcastInDim S1x96x224x224 ![1,2,3] bcast_S96x224x224_S1x96x224x224_1_2_3 ((dats m 0 c).arrAt 1 cfg0.N) := by
    unfold Pipeline.afterTail₀
    simp only [hostOps1, List.flatten_cons, List.flatten_nil, List.append_nil, StableHlo.after_cons, StableHlo.after_nil]
    rw [← Pipeline.withArrays_arr spec0 (by decide) c (V0 m c) (fun w => (dats m 0 c).arrAt w cfg0.N) 1]
    rfl
  rw [e, final_v1]
  funext i
  pointwise [outArr, result]

/-- The run: the result computed of the argument, the argument as it was. -/
theorem run : θ_run defs (onTc (τ := τ) (main (F := Ideal))) ⟨m, fun _ => 0, ρ⟩ fun r => ∀ c : Dev nD,
      r.2.mem ((c.tc : Thread nD τ).loc main_v2) = result (m ((c.tc : Thread nD τ).loc main_arg0))
      ∧ r.2.mem ((c.tc : Thread nD τ).loc main_arg0) = m ((c.tc : Thread nD τ).loc main_arg0) :=
  (θ_run defs _ _).mono (fun _ h c =>
    ⟨((h c).2 main_v2 (Pipeline.mem_restRefs_of main_v2 (by decide) (by decide))).trans (W_main_v2 m c),
     ((h c).2 main_arg0 (Pipeline.mem_restRefs_of main_arg0 (by decide) (by decide))).trans (W_main_arg0 m (dats m) c)⟩) (run_main m ρ)

end Cert.Motif.KernelIdealValue

end
-- ==== Proof.RefMotif.lean ====
/-
  The reference's windows by natural coordinates.
-/
module

public import proofs.«01_k».proof.Proof.KernelValue
public import proofs.«01_k».proof.Proof.RefRun
public import Idealize.ShloMosaic.Lib.Tactic.CleanTypes

@[expose] public section

noncomputable section

namespace Cert.Motif.Ref

open Cert.ReferenceIdeal Cert.ReferenceIdeal.Gen
open Cert.Motif.KernelIdealValue (grp ix4_congr)
open Cert.Motif.Body (Blk win_ dst dsl chan ki kj)
open Idealize.ShloMosaic Idealize.ShloMosaic.TcCoe Idealize.SL.Sem Idealize.ShloMosaic.StableHlo

/-- The reference's argument. -/
abbrev arg (V : Valuation τ sig (Elt Ideal)) : Vec Ideal S1x96x224x224 .f32 := V (Proc.devRef .tc main_arg0)

/-- A group of channels in range is read off the array. -/
theorem grp_of (a : Vec Ideal S1x96x224x224 .f32) {g ch h w : ℕ} (H : (g < 16 ∧ ch < 6) ∧ h < 224 ∧ w < 224) :
    grp a g ch h w = a (ix4 0 ⟨6 * g + ch, by omega⟩ ⟨h, H.2.1⟩ ⟨w, H.2.2⟩) := by
  unfold grp; rw [dif_pos H]

/-- The argument grouped. -/
theorem v0_apply (V : Valuation τ sig (Elt Ideal)) (g : Fin 16) (ch : Fin 6) (h w : Fin 224) :
    (res_main_v0 V : Vec Ideal S16x6x224x224 .f32) (ix4 g ch h w) = grp (arg V) g.val ch.val h.val w.val := by
  rw [grp_of _ ⟨⟨g.2, ch.2⟩, h.2, w.2⟩]
  unfold res_main_v0
  clean_types
  pointwise
  exact ix4_congr _ rfl (by show g.val * 6 + ch.val = 6 * g.val + ch.val; omega) rfl rfl

/-- An array of rank five at two indices of the same coordinates. -/
theorem ix5_congr {α : Type} {n1 n2 n3 n4 n5 : ℕ} (a : (⟨5, ![n1, n2, n3, n4, n5]⟩ : Shape).Idx → α) {i i' : Fin n1} {j j' : Fin n2}
    {k k' : Fin n3} {l l' : Fin n4} {o o' : Fin n5} (h1 : i.val = i'.val) (h2 : j.val = j'.val) (h3 : k.val = k'.val)
    (h4 : l.val = l'.val) (h5 : o.val = o'.val) : a (ix5 i j k l o) = a (ix5 i' j' k' l' o') := by
  rw [Fin.ext h1, Fin.ext h2, Fin.ext h3, Fin.ext h4, Fin.ext h5]

/-- The windows side by side, taken six at a time. -/
theorem six_apply (S : Vec Ideal S16x6x9x222x222 .f32) (g : Fin 16) (j : Fin 9) (t : Fin 6) (r c : Fin 222) :
    shapeCast S16x9x6x222x222 S shapeCasts_S16x6x9x222x222_S16x9x6x222x222 (ix5 g j t r c)
      = S (ix5 g ⟨(6 * j.val + t.val) / 9, by omega⟩ ⟨(6 * j.val + t.val) % 9, by omega⟩ r c) := by
  pointwise
  exact ix5_congr S rfl (by dsimp only; omega) (by dsimp only; omega) rfl rfl

set_option maxRecDepth 8192 in
/-- The windows side by side. -/
theorem stack_apply (x : Vec Ideal S16x6x224x224 .f32) (g : Fin 16) (ch : Fin 6) (k : Fin 9) (r c : Fin 222) :
    (concatenate S16x6x9x222x222 2 [⟨S16x6x1x222x222, ((broadcastInDim S16x6x1x222x222 ![0, 1, 3, 4] bcast_S16x6x222x222_S16x6x1x222x222_0_1_3_4 (extractStridedSlice S16x6x222x222 ![0, 0, 0, 0] x slices_S16x6x224x224_S16x6x222x222_0_0_0_0)) : Vec Ideal S16x6x1x222x222 .f32)⟩, ⟨S16x6x1x222x222, (broadcastInDim S16x6x1x222x222 ![0, 1, 3, 4] bcast_S16x6x222x222_S16x6x1x222x222_0_1_3_4 (extractStridedSlice S16x6x222x222 ![0, 0, 0, 1] x slices_S16x6x224x224_S16x6x222x222_0_0_0_1))⟩, ⟨S16x6x1x222x222, (broadcastInDim S16x6x1x222x222 ![0, 1, 3, 4] bcast_S16x6x222x222_S16x6x1x222x222_0_1_3_4 (extractStridedSlice S16x6x222x222 ![0, 0, 0, 2] x slices_S16x6x224x224_S16x6x222x222_0_0_0_2))⟩, ⟨S16x6x1x222x222, (broadcastInDim S16x6x1x222x222 ![0, 1, 3, 4] bcast_S16x6x222x222_S16x6x1x222x222_0_1_3_4 (extractStridedSlice S16x6x222x222 ![0, 0, 1, 0] x slices_S16x6x224x224_S16x6x222x222_0_0_1_0))⟩, ⟨S16x6x1x222x222, (broadcastInDim S16x6x1x222x222 ![0, 1, 3, 4] bcast_S16x6x222x222_S16x6x1x222x222_0_1_3_4 (extractStridedSlice S16x6x222x222 ![0, 0, 1, 1] x slices_S16x6x224x224_S16x6x222x222_0_0_1_1))⟩, ⟨S16x6x1x222x222, (broadcastInDim S16x6x1x222x222 ![0, 1, 3, 4] bcast_S16x6x222x222_S16x6x1x222x222_0_1_3_4 (extractStridedSlice S16x6x222x222 ![0, 0, 1, 2] x slices_S16x6x224x224_S16x6x222x222_0_0_1_2))⟩, ⟨S16x6x1x222x222, (broadcastInDim S16x6x1x222x222 ![0, 1, 3, 4] bcast_S16x6x222x222_S16x6x1x222x222_0_1_3_4 (extractStridedSlice S16x6x222x222 ![0, 0, 2, 0] x slices_S16x6x224x224_S16x6x222x222_0_0_2_0))⟩, ⟨S16x6x1x222x222, (broadcastInDim S16x6x1x222x222 ![0, 1, 3, 4] bcast_S16x6x222x222_S16x6x1x222x222_0_1_3_4 (extractStridedSlice S16x6x222x222 ![0, 0, 2, 1] x slices_S16x6x224x224_S16x6x222x222_0_0_2_1))⟩, ⟨S16x6x1x222x222, (broadcastInDim S16x6x1x222x222 ![0, 1, 3, 4] bcast_S16x6x222x222_S16x6x1x222x222_0_1_3_4 (extractStridedSlice S16x6x222x222 ![0, 0, 2, 2] x slices_S16x6x224x224_S16x6x222x222_0_0_2_2))⟩]
      concatenates_S16x6x1x222x222_S16x6x1x222x222_S16x6x1x222x222_S16x6x1x222x222_S16x6x1x222x222_S16x6x1x222x222_S16x6x1x222x222_S16x6x1x222x222_S16x6x1x222x222_S16x6x9x222x222_d2 : Vec Ideal S16x6x9x222x222 .f32) (ix5 g ch k r c)
      = x (ix4 g ch ⟨k.val / 3 + r.val, by omega⟩ ⟨k.val % 3 + c.val, by omega⟩) := by
  fin_cases k <;> pointwise

/-- The windows of a group. -/
theorem v20_apply (V : Valuation τ sig (Elt Ideal)) (g : Fin 16) (j : Fin 9) (t : Fin 6) (r c : Fin 222) :
    (res_main_v20 V : Vec Ideal S16x9x6x222x222 .f32) (ix5 g j t r c) = win_ (grp (arg V) g.val) (6 * j.val + t.val) r.val c.val := by
  have e : (res_main_v20 V : Vec Ideal S16x9x6x222x222 .f32) (ix5 g j t r c)
      = (res_main_v0 V : Vec Ideal S16x6x224x224 .f32) (ix4 g ⟨(6 * j.val + t.val) / 9, by omega⟩ ⟨(6 * j.val + t.val) % 9 / 3 + r.val, by omega⟩ ⟨(6 * j.val + t.val) % 9 % 3 + c.val, by omega⟩) := by
    unfold res_main_v20
    clean_types
    exact (six_apply _ g j t r c).trans (stack_apply _ g _ _ r c)
  have hc : chan (6 * j.val + t.val) = (6 * j.val + t.val) / 9 := by unfold chan; omega
  rw [e, v0_apply]
  have hi : (6 * j.val + t.val) % 9 / 3 = ki (6 * j.val + t.val) := rfl
  have hj : (6 * j.val + t.val) % 9 % 3 = kj (6 * j.val + t.val) := by unfold kj; omega
  unfold win_
  rw [hc]
  dsimp only
  rw [hi, hj]

end Cert.Motif.Ref

end
-- ==== Proof.RefNear.lean ====
/-
  The reference's distances by natural coordinates.
-/
module

public import proofs.«01_k».proof.Proof.RefMotif

@[expose] public section

noncomputable section

namespace Cert.Motif.Ref

open Cert.ReferenceIdeal Cert.ReferenceIdeal.Gen
open Cert.Motif.KernelIdealValue (grp ix4_congr)
open Cert.Motif.Body (Blk win_ sqd dst dsl chan ki kj nn5 max6)
open Idealize.ShloMosaic Idealize.ShloMosaic.TcCoe Idealize.SL.Sem Idealize.ShloMosaic.StableHlo

variable (V : Valuation τ sig (Elt Ideal))

/-- The differences of the windows of an array. -/
theorem diff_apply (x : Vec Ideal S16x9x6x222x222 .f32) (g : Fin 16) (j : Fin 9) (p q : Fin 6) (r c : Fin 222) :
    (subf (F := Ideal) (s := S16x9x6x6x222x222) (φ := .f32) (broadcastInDim S16x9x6x6x222x222 ![0, 1, 2, 3, 4, 5] bcast_S16x9x6x1x222x222_S16x9x6x6x222x222_0_1_2_3_4_5 (broadcastInDim S16x9x6x1x222x222 ![0, 1, 2, 4, 5] bcast_S16x9x6x222x222_S16x9x6x1x222x222_0_1_2_4_5 x)) (broadcastInDim S16x9x6x6x222x222 ![0, 1, 2, 3, 4, 5] bcast_S16x9x1x6x222x222_S16x9x6x6x222x222_0_1_2_3_4_5 (broadcastInDim S16x9x1x6x222x222 ![0, 1, 3, 4, 5] bcast_S16x9x6x222x222_S16x9x1x6x222x222_0_1_3_4_5 x)) (ix6 g j p q r c) : EReal)
      = (x (ix5 g j p r c) - x (ix5 g j q r c) : EReal) := by
  pointwise

/-- The differences of the windows. -/
theorem v25_apply (g : Fin 16) (j : Fin 9) (p q : Fin 6) (r c : Fin 222) :
    (res_main_v25 V : Vec Ideal S16x9x6x6x222x222 .f32) (ix6 g j p q r c)
      = win_ (grp (arg V) g.val) (6 * j.val + p.val) r.val c.val - win_ (grp (arg V) g.val) (6 * j.val + q.val) r.val c.val := by
  unfold res_main_v25
  clean_types
  rw [diff_apply, v20_apply V g j p r c, v20_apply V g j q r c]

/-- The mask of the diagonal. -/
theorem eye_apply (p q : Fin 6) : IntOp.cmpi CmpIPredicate.eq (IntOp.addi (BitVec.ofNat 32 p.val) 0#32) (BitVec.ofNat 32 q.val)
    = BitVec.ofBool (decide (p = q)) := by
  revert p q
  decide

/-- The places that reduce to four kept coordinates. -/
theorem drop45 (h : S16x9x6x6x222x222.ReducesTo [4, 5] S16x9x6x6) (g : Fin 16) (j : Fin 9) (p q : Fin 6) (i : S16x9x6x6x222x222.Idx) :
    h.drop i = ix4 g j p q ↔ ∃ k : Fin 222 × Fin 222, (ix6 g j p q k.1 k.2 : S16x9x6x6x222x222.Idx) = i := by
  constructor
  · intro e
    refine ⟨(i 4, i 5), ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => rfl
    | ⟨5, _⟩ => rfl
  · rintro ⟨k, rfl⟩
    funext b; apply Fin.ext
    match b with
    | ⟨0, _⟩ => rfl
    | ⟨1, _⟩ => rfl
    | ⟨2, _⟩ => rfl
    | ⟨3, _⟩ => rfl

/-- The sum over the last two axes. -/
theorem sum45 (h : S16x9x6x6x222x222.ReducesTo [4, 5] S16x9x6x6) (x : S16x9x6x6x222x222.Idx → EReal) (g : Fin 16) (j : Fin 9) (p q : Fin 6) :
    Ideal.hostReduceAdd h x 0 (ix4 g j p q) = ∑ r : Fin 222, ∑ c : Fin 222, x (ix6 g j p q r c) := by
  unfold Ideal.hostReduceAdd
  rw [zero_add, Finset.sum_filter_eq_sum_of_fiber _ (fun k : Fin 222 × Fin 222 => (ix6 g j p q k.1 k.2 : S16x9x6x6x222x222.Idx)) (fun a b e => Prod.ext (congrFun e 4) (congrFun e 5)) (drop45 h g j p q),
    Fintype.sum_prod_type]

/-- The distances of the windows. -/
theorem dist_apply (g : Fin 16) (j : Fin 9) (p q : Fin 6) :
    Ideal.sqrt (Ideal.hostReduceAdd reducesTo_S16x9x6x6x222x222_S16x9x6x6_d4_5 (mulf (F := Ideal) (s := S16x9x6x6x222x222) (φ := .f32) (res_main_v25 V) (res_main_v25 V)) 0 (ix4 g j p q))
      = dsl (grp (arg V) g.val) j.val p.val q.val := by
  refine congrArg Ideal.sqrt ((sum45 _ _ g j p q).trans ?_)
  rw [Finset.sum_range]
  refine Finset.sum_congr rfl fun r _ => ?_
  rw [Finset.sum_range]
  refine Finset.sum_congr rfl fun c _ => ?_
  unfold sqd
  rw [← v25_apply V g j p q r c]
  exact mulf_apply _ _ _

/-- The bits of infinity. -/
theorem inf_eq : Ideal.ofBits .f32 2139095040#32 = ⊤ := by simp [Ideal.ofBits, Ideal.ieee]

/-- The distances, the diagonal put out of reach. -/
theorem v34_apply (g : Fin 16) (j : Fin 9) (p q : Fin 6) :
    (res_main_v34 V : Vec Ideal S16x9x6x6 .f32) (ix4 g j p q)
      = if p = q then (⊤ : EReal) else dsl (grp (arg V) g.val) j.val p.val q.val := by
  rw [← dist_apply]
  unfold res_main_v34
  clean_types
  pointwise
  rw [eye_apply]
  by_cases h : p = q
  · rw [if_pos h, decide_eq_true h]
    exact (if_pos rfl).trans inf_eq
  · rw [if_neg h, decide_eq_false h]
    exact if_neg (by decide)

/-- The difference's square does not depend on the order. -/
theorem sq_comm (a b : EReal) : (a - b) * (a - b) = (b - a) * (b - a) := by
  induction a using EReal.rec <;> induction b using EReal.rec <;> simp [sub_eq_add_neg]
  · norm_cast
    ring_nf

/-- The distance does not depend on the order. -/
theorem dsl_comm (X : Blk) (j p q : ℕ) : dsl X j p q = dsl X j q p := by
  unfold dsl dst sqd
  congr 1
  exact Finset.sum_congr rfl fun r _ => Finset.sum_congr rfl fun c _ => sq_comm _ _

end Cert.Motif.Ref

end
-- ==== Proof.RefList.lean ====
/-
  Lists of the places that reduce to one place, and the folds over six of them.
-/
module

public import proofs.«01_k».proof.Proof.RefNear

@[expose] public section

noncomputable section

namespace Cert.Motif.Ref

open Cert.ReferenceIdeal Cert.ReferenceIdeal.Gen
open Cert.Motif.Body (nn5 max6 uOf)
open Idealize.ShloMosaic Idealize.ShloMosaic.TcCoe Idealize.SL.Sem Idealize.ShloMosaic.StableHlo

/-- The positions with a property, listed in order by a strictly increasing list of them. -/
theorem filter_finRange {n k : ℕ} (P : Fin n → Prop) [DecidablePred P] (f : Fin k → Fin n) (hf : StrictMono f)
    (hP : ∀ i, P i ↔ ∃ a, f a = i) : (List.finRange n).filter (fun i => decide (P i)) = List.ofFn f := by
  have h1 : ((List.finRange n).filter (fun i => decide (P i))).SortedLT :=
    ((List.sortedLT_finRange n).pairwise.filter _).sortedLT
  refine h1.eq_of_mem_iff hf.sortedLT_ofFn fun i => ?_
  rw [List.mem_filter, List.mem_ofFn]
  simp [hP i]

/-- The places that reduce to three kept coordinates. -/
theorem drop3 {a b c d : ℕ} (h : (⟨4, ![a, b, c, d]⟩ : Shape).ReducesTo [3] ⟨3, ![a, b, c]⟩) (g : Fin a) (j : Fin b) (p : Fin c) (i : (⟨4, ![a, b, c, d]⟩ : Shape).Idx) :
    h.drop i = ix3 g j p ↔ ∃ q : Fin d, (ix4 g j p q : (⟨4, ![a, b, c, d]⟩ : Shape).Idx) = i := by
  constructor
  · intro e
    refine ⟨i 3, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
  · rintro ⟨k, rfl⟩
    funext b; apply Fin.ext
    match b with
    | ⟨0, _⟩ => rfl
    | ⟨1, _⟩ => rfl
    | ⟨2, _⟩ => rfl

/-- The places that reduce to two kept coordinates. -/
theorem drop2 (h : S16x9x6.ReducesTo [2] S16x9) (g : Fin 16) (j : Fin 9) (i : S16x9x6.Idx) :
    h.drop i = ix2 g j ↔ ∃ q : Fin 6, (ix3 g j q : S16x9x6.Idx) = i := by
  constructor
  · intro e
    refine ⟨i 2, ?_⟩
    funext a; apply Fin.ext
    match a with
    | ⟨0, _⟩ => exact (congrArg Fin.val (congrFun e 0)).symm
    | ⟨1, _⟩ => exact (congrArg Fin.val (congrFun e 1)).symm
    | ⟨2, _⟩ => rfl
  · rintro ⟨k, rfl⟩
    funext b; apply Fin.ext
    match b with
    | ⟨0, _⟩ => rfl
    | ⟨1, _⟩ => rfl

/-- The positions that reduce to three kept coordinates, in order. -/
theorem fiber3 {a b c d : ℕ} (h : (⟨4, ![a, b, c, d]⟩ : Shape).ReducesTo [3] ⟨3, ![a, b, c]⟩) (g : Fin a) (j : Fin b) (p : Fin c) :
    ((List.finRange (⟨4, ![a, b, c, d]⟩ : Shape).numel).filter fun n => h.drop ((⟨4, ![a, b, c, d]⟩ : Shape).rowMajor.symm n) = ix3 g j p)
      = List.ofFn fun q : Fin d => (⟨4, ![a, b, c, d]⟩ : Shape).rowMajor (ix4 g j p q) := by
  refine filter_finRange _ _ ?_ fun i => ?_
  · intro x y hab
    rw [Fin.lt_def, Shape.rowMajor_val_four, Shape.rowMajor_val_four]
    exact Nat.add_lt_add_left hab _
  · rw [drop3]
    exact exists_congr fun q => (⟨4, ![a, b, c, d]⟩ : Shape).rowMajor.eq_symm_apply

/-- The positions that reduce to two kept coordinates, in order. -/
theorem fiber2 (h : S16x9x6.ReducesTo [2] S16x9) (g : Fin 16) (j : Fin 9) :
    ((List.finRange S16x9x6.numel).filter fun n => h.drop (S16x9x6.rowMajor.symm n) = ix2 g j)
      = List.ofFn fun q : Fin 6 => S16x9x6.rowMajor (ix3 g j q) := by
  refine filter_finRange _ _ ?_ fun i => ?_
  · intro a b hab
    rw [Fin.lt_def, Shape.rowMajor_val_three, Shape.rowMajor_val_three]
    exact Nat.add_lt_add_left hab _
  · rw [drop2]
    exact exists_congr fun q => S16x9x6.rowMajor.eq_symm_apply

/-- A fold of words over the last of three axes. -/
theorem reduce_six (f : BitVec 32 → BitVec 32 → BitVec 32) (x : S16x9x6.Idx → BitVec 32) (b : BitVec 32) (h : S16x9x6.ReducesTo [2] S16x9)
    (hu : 0 < S_.numel) (g : Fin 16) (j : Fin 9) :
    Host.reduce f x (constantI S_ 32 b) h hu (ix2 g j)
      = f (f (f (f (f (f b (x (ix3 g j 0))) (x (ix3 g j 1))) (x (ix3 g j 2))) (x (ix3 g j 3))) (x (ix3 g j 4))) (x (ix3 g j 5)) := by
  have e : Host.reduce f x (constantI S_ 32 b) h hu (ix2 g j)
      = ((List.finRange S16x9x6.numel).filter fun n => h.drop (S16x9x6.rowMajor.symm n) = ix2 g j).foldl
        (fun r n => f r (x (S16x9x6.rowMajor.symm n))) b := rfl
  rw [e, fiber2]
  simp only [List.ofFn_succ, List.ofFn_zero, List.foldl_cons, List.foldl_nil, Equiv.symm_apply_apply]
  rfl

/-- A fold of bits over the last of four axes of sizes sixteen, nine, one, one. -/
theorem reduce_one (f : BitVec 1 → BitVec 1 → BitVec 1) (x : S16x9x1x1.Idx → BitVec 1) (b : BitVec 1) (h : S16x9x1x1.ReducesTo [3] S16x9x1)
    (hu : 0 < S_.numel) (g : Fin 16) (j : Fin 9) :
    Host.reduce f x (constantI S_ 1 b) h hu (ix3 g j 0) = f b (x (ix4 g j 0 0)) := by
  have e : Host.reduce f x (constantI S_ 1 b) h hu (ix3 g j 0)
      = ((List.finRange S16x9x1x1.numel).filter fun n => h.drop (S16x9x1x1.rowMajor.symm n) = ix3 g j 0).foldl
        (fun r n => f r (x (S16x9x1x1.rowMajor.symm n))) b := rfl
  rw [e, fiber3]
  simp only [List.ofFn_succ, List.ofFn_zero, List.foldl_cons, List.foldl_nil, Equiv.symm_apply_apply]

/-- One step of keeping the smaller value, the first of equals. -/
def step (a b : Ideal .f32 × BitVec 32) : Ideal .f32 × BitVec 32 :=
  (Scalar.select (Scalar.cmpf .olt b.1 a.1) b.1 a.1, Scalar.select (Scalar.cmpf .olt b.1 a.1) b.2 a.2)

/-- Where the numbers grow, the reference's step keeps the first of equals. -/
theorem step_eq (a b : Ideal .f32 × BitVec 32) (h : a.2.toInt ≤ b.2.toInt) : reducer_argmin_f32_i32 a b = step a b := by
  obtain ⟨m, i⟩ := a
  obtain ⟨v, q⟩ := b
  have c1 : ∀ x y : Ideal .f32, Scalar.cmpf .olt x y = BitVec.ofBool (decide ((x : EReal) < y)) := fun _ _ => rfl
  have c2 : ∀ x y : Ideal .f32, FloatOps.cmpf .olt x y = BitVec.ofBool (decide ((x : EReal) < y)) := fun _ _ => rfl
  have c3 : ∀ x y : Ideal .f32, FloatOps.cmpf .oeq x y = BitVec.ofBool (decide ((x : EReal) = y)) := fun _ _ => rfl
  have c4 : ∀ x : Ideal .f32, FloatOps.cmpf .une x x = BitVec.ofBool (decide ((x : EReal) ≠ x)) := fun _ => rfl
  have c5 : IntOp.cmpi .slt i q = BitVec.ofBool (i.slt q) := rfl
  have e0 : decide ((m : EReal) ≠ m) = false := by simp
  unfold reducer_argmin_f32_i32 step
  dsimp only at h ⊢
  rw [c1, c2, c3, c4, c5, e0]
  rcases lt_trichotomy (m : EReal) v with hl | he | hg
  · rw [decide_eq_true hl, decide_eq_false (ne_of_lt hl), decide_eq_false (not_lt_of_gt hl)]
    cases i.slt q <;> rfl
  · subst he
    rw [decide_eq_false (lt_irrefl _), decide_eq_true rfl]
    by_cases hq : i.slt q = true
    · rw [hq]; rfl
    · have hq' : i = q := by
        rw [BitVec.slt_iff_toInt_lt] at hq
        exact BitVec.eq_of_toInt_eq (by omega)
      subst hq'
      cases i.slt i <;> rfl
  · rw [decide_eq_false (not_lt_of_gt hg), decide_eq_false (ne_of_gt hg), decide_eq_true hg]
    cases i.slt q <;> rfl

/-- A step keeps one of the two numbers. -/
theorem step_snd (a b : Ideal .f32 × BitVec 32) : (step a b).2 = a.2 ∨ (step a b).2 = b.2 := by
  unfold step Scalar.select
  dsimp only
  split
  · exact Or.inr rfl
  · exact Or.inl rfl

/-- The reference's fold over pairs whose numbers grow. -/
theorem fold_step (l : List (Ideal .f32 × BitVec 32)) (s : Ideal .f32 × BitVec 32)
    (h : (s :: l).Pairwise fun a b => a.2.toInt ≤ b.2.toInt) : l.foldl reducer_argmin_f32_i32 s = l.foldl step s := by
  induction l generalizing s with
  | nil => rfl
  | cons b l ih =>
    rw [List.pairwise_cons, List.pairwise_cons] at h
    rw [List.foldl_cons, List.foldl_cons, step_eq s b (h.1 b (List.mem_cons_self ..))]
    refine ih _ (List.pairwise_cons.2 ⟨fun x hx => ?_, h.2.2⟩)
    rcases step_snd s b with e | e
    · rw [e]; exact h.1 x (List.mem_cons_of_mem _ hx)
    · rw [e]; exact h.2.1 x hx

/-- A step over a value out of reach changes nothing. -/
theorem step_top (a : Ideal .f32 × BitVec 32) (q : BitVec 32) : step a ((⊤ : EReal), q) = a := by
  have c1 : Scalar.cmpf .olt (φ := .f32) (F := Ideal) (⊤ : EReal) a.1 = BitVec.ofBool (decide ((⊤ : EReal) < a.1)) := rfl
  unfold step
  dsimp only
  rw [c1, decide_eq_false not_top_lt]
  rfl

/-- The nearest of five by steps. -/
theorem nn5_step (d1 d2 d3 d4 d5 : Ideal .f32) (q1 q2 q3 q4 q5 : BitVec 32) :
    nn5 d1 d2 d3 d4 d5 q1 q2 q3 q4 q5
      = (step (step (step (step (step (Scalar.ofBits .f32 0x7F800000#32, 0#32) (d1, q1)) (d2, q2)) (d3, q3)) (d4, q4)) (d5, q5)).2 := by
  simp only [nn5, step]

/-- The numbers of six pairs grow. -/
theorem grows (D : Fin 6 → Ideal .f32) (t : Ideal .f32) : ((t, 0#32) :: List.ofFn fun q : Fin 6 => (D q, BitVec.ofNat 32 q.val)).Pairwise
    fun a b => a.2.toInt ≤ b.2.toInt := by
  simp [List.ofFn_succ]

/-- The reference's argument of the least over the last of four axes, by six steps. -/
theorem arg_six (x : FVec Ideal S16x9x6x6 .f32) (h : S16x9x6x6.ReducesTo [3] S16x9x6) (hu : 0 < S_.numel) (g : Fin 16) (j : Fin 9) (p : Fin 6) :
    (Host.argReduce reducer_argmin_f32_i32 x (iotaInDim S16x9x6x6 32 3) (constant S_ .f32 0x7F800000#32) (constantI S_ 32 0#32) h hu (ix3 g j p)).2
      = (step (step (step (step (step (step (Scalar.ofBits .f32 0x7F800000#32, 0#32) (x (ix4 g j p 0), 0#32)) (x (ix4 g j p 1), 1#32))
        (x (ix4 g j p 2), 2#32)) (x (ix4 g j p 3), 3#32)) (x (ix4 g j p 4), 4#32)) (x (ix4 g j p 5), 5#32)).2 := by
  have hl : Host.argReduceFiber x (iotaInDim S16x9x6x6 32 3) h (ix3 g j p) = List.ofFn fun q : Fin 6 => (x (ix4 g j p q), BitVec.ofNat 32 q.val) := by
    unfold Host.argReduceFiber
    rw [fiber3, List.map_ofFn]
    refine congrArg List.ofFn (funext fun q => ?_)
    simp only [Function.comp, Equiv.symm_apply_apply]
    rfl
  have e : Host.argReduce reducer_argmin_f32_i32 x (iotaInDim S16x9x6x6 32 3) (constant S_ .f32 0x7F800000#32) (constantI S_ 32 0#32) h hu (ix3 g j p)
      = (List.ofFn fun q : Fin 6 => (x (ix4 g j p q), BitVec.ofNat 32 q.val)).foldl reducer_argmin_f32_i32 (Scalar.ofBits .f32 0x7F800000#32, 0#32) := by
    rw [Ideal.argReduce_eq_reduce2, Host.reduce2_eq_foldl_fiber, hl]
    rfl
  rw [e, fold_step _ _ (grows _ _)]
  simp only [List.ofFn_succ, List.ofFn_zero, List.foldl_cons, List.foldl_nil]
  rfl

end Cert.Motif.Ref

end
-- ==== Proof.RefNum.lean ====
/-
  The reference's nearest neighbours, the largest of them and how many windows have it.
-/
module

public import proofs.«01_k».proof.Proof.RefList

@[expose] public section

noncomputable section

namespace Cert.Motif.Ref

open Cert.ReferenceIdeal Cert.ReferenceIdeal.Gen
open Cert.Motif.KernelIdealValue (grp)
open Cert.Motif.Body (nn5 max6 uOf gOf fac hot dsl)
open Idealize.ShloMosaic Idealize.ShloMosaic.TcCoe Idealize.SL.Sem Idealize.ShloMosaic.StableHlo

variable (V : Valuation τ sig (Elt Ideal))

/-- The nearest of the others, by number. -/
def nnOf (d : ℕ → ℕ → Ideal .f32) : Fin 6 → BitVec 32
  | ⟨0, _⟩ => nn5 (d 0 1) (d 0 2) (d 0 3) (d 0 4) (d 0 5) 1#32 2#32 3#32 4#32 5#32
  | ⟨1, _⟩ => nn5 (d 0 1) (d 1 2) (d 1 3) (d 1 4) (d 1 5) 0#32 2#32 3#32 4#32 5#32
  | ⟨2, _⟩ => nn5 (d 0 2) (d 1 2) (d 2 3) (d 2 4) (d 2 5) 0#32 1#32 3#32 4#32 5#32
  | ⟨3, _⟩ => nn5 (d 0 3) (d 1 3) (d 2 3) (d 3 4) (d 3 5) 0#32 1#32 2#32 4#32 5#32
  | ⟨4, _⟩ => nn5 (d 0 4) (d 1 4) (d 2 4) (d 3 4) (d 4 5) 0#32 1#32 2#32 3#32 5#32
  | ⟨_, _⟩ => nn5 (d 0 5) (d 1 5) (d 2 5) (d 3 5) (d 4 5) 0#32 1#32 2#32 3#32 4#32

/-- Six steps over the distances of one window, its own out of reach, give the nearest of the others. -/
theorem six_nn (D : Fin 6 → Fin 6 → Ideal .f32) (d : ℕ → ℕ → Ideal .f32)
    (hD : ∀ p q : Fin 6, D p q = if p < q then d p.val q.val else if q < p then d q.val p.val else (⊤ : EReal)) (p : Fin 6) :
    (step (step (step (step (step (step (Scalar.ofBits .f32 0x7F800000#32, 0#32) (D p 0, 0#32)) (D p 1, 1#32))
        (D p 2, 2#32)) (D p 3, 3#32)) (D p 4, 4#32)) (D p 5, 5#32)).2 = nnOf d p := by
  have lt (q : Fin 6) (h : p < q) : D p q = d p.val q.val := by rw [hD, if_pos h]
  have gt (q : Fin 6) (h : q < p) : D p q = d q.val p.val := by rw [hD, if_neg (not_lt_of_gt h), if_pos h]
  have eq : D p p = (⊤ : EReal) := by rw [hD, if_neg (lt_irrefl _), if_neg (lt_irrefl _)]
  match p with
  | ⟨0, _⟩ => rw [lt 1 (of_decide_eq_true rfl), lt 2 (of_decide_eq_true rfl), lt 3 (of_decide_eq_true rfl), lt 4 (of_decide_eq_true rfl), lt 5 (of_decide_eq_true rfl)]; erw [eq]; rw [step_top]; exact (nn5_step ..).symm
  | ⟨1, _⟩ => rw [gt 0 (of_decide_eq_true rfl), lt 2 (of_decide_eq_true rfl), lt 3 (of_decide_eq_true rfl), lt 4 (of_decide_eq_true rfl), lt 5 (of_decide_eq_true rfl)]; erw [eq]; rw [step_top]; exact (nn5_step ..).symm
  | ⟨2, _⟩ => rw [gt 0 (of_decide_eq_true rfl), gt 1 (of_decide_eq_true rfl), lt 3 (of_decide_eq_true rfl), lt 4 (of_decide_eq_true rfl), lt 5 (of_decide_eq_true rfl)]; erw [eq]; rw [step_top]; exact (nn5_step ..).symm
  | ⟨3, _⟩ => rw [gt 0 (of_decide_eq_true rfl), gt 1 (of_decide_eq_true rfl), gt 2 (of_decide_eq_true rfl), lt 4 (of_decide_eq_true rfl), lt 5 (of_decide_eq_true rfl)]; erw [eq]; rw [step_top]; exact (nn5_step ..).symm
  | ⟨4, _⟩ => rw [gt 0 (of_decide_eq_true rfl), gt 1 (of_decide_eq_true rfl), gt 2 (of_decide_eq_true rfl), gt 3 (of_decide_eq_true rfl), lt 5 (of_decide_eq_true rfl)]; erw [eq]; rw [step_top]; exact (nn5_step ..).symm
  | ⟨5, _⟩ => rw [gt 0 (of_decide_eq_true rfl), gt 1 (of_decide_eq_true rfl), gt 2 (of_decide_eq_true rfl), gt 3 (of_decide_eq_true rfl), gt 4 (of_decide_eq_true rfl)]; erw [eq]; rw [step_top]; exact (nn5_step ..).symm

/-- The nearest neighbours. -/
theorem v35_apply (g : Fin 16) (j : Fin 9) (p : Fin 6) :
    (res_main_v35 V : IVec S16x9x6 32) (ix3 g j p) = nnOf (dsl (grp (arg V) g.val) j.val) p := by
  unfold res_main_v35
  clean_types
  refine (arg_six (res_main_v34 V : Vec Ideal S16x9x6x6 .f32) reducesTo_S16x9x6x6_S16x9x6_d3 h_S_ g j p).trans ?_
  refine six_nn (fun p q => (res_main_v34 V : Vec Ideal S16x9x6x6 .f32) (ix4 g j p q)) _ (fun p q => ?_) p
  rw [v34_apply]
  rcases lt_trichotomy p q with h | h | h
  · rw [if_neg (ne_of_lt h), if_pos h]
  · rw [if_pos h, if_neg (not_lt_of_ge (ge_of_eq h)), if_neg (not_lt_of_ge (le_of_eq h))]
  · rw [if_neg (ne_of_gt h), if_neg (not_lt_of_gt h), if_pos h, dsl_comm]

/-- The least word is no larger than another. -/
theorem max_least (a : BitVec 32) : IntOp.maxsi 2147483648#32 a = a := by
  unfold IntOp.maxsi
  refine if_neg ?_
  rw [BitVec.slt_iff_toInt_lt]
  have h : (2147483648#32).toInt = -2147483648 := by decide
  have := BitVec.le_toInt a
  rw [h]
  omega

/-- The largest nearest neighbour. -/
theorem v36_apply (g : Fin 16) (j : Fin 9) :
    (res_main_v36 V : IVec S16x9 32) (ix2 g j) = uOf (dsl (grp (arg V) g.val) j.val) := by
  have e : (res_main_v36 V : IVec S16x9 32) (ix2 g j)
      = Host.reduce IntOp.maxsi (res_main_v35 V : IVec S16x9x6 32) (constantI S_ 32 2147483648#32) reducesTo_S16x9x6_S16x9_d2 h_S_ (ix2 g j) := rfl
  rw [e, reduce_six, max_least]
  simp only [v35_apply]
  rfl

/-- A property of the number kept by a step. -/
theorem step_ind (S : BitVec 32 → Prop) (a b : Ideal .f32 × BitVec 32) (ha : S a.2) (hb : S b.2) : S (step a b).2 := by
  rcases step_snd a b with e | e <;> rw [e] <;> assumption

/-- A property of the nearest of five. -/
theorem nn5_ind (S : BitVec 32 → Prop) (d1 d2 d3 d4 d5 : Ideal .f32) {q1 q2 q3 q4 q5 : BitVec 32} (h0 : S 0#32) (h1 : S q1) (h2 : S q2)
    (h3 : S q3) (h4 : S q4) (h5 : S q5) : S (nn5 d1 d2 d3 d4 d5 q1 q2 q3 q4 q5) := by
  rw [nn5_step]
  exact step_ind S _ _ (step_ind S _ _ (step_ind S _ _ (step_ind S _ _ (step_ind S _ _ h0 h1) h2) h3) h4) h5

/-- A property of the larger of two. -/
theorem max_ind (S : BitVec 32 → Prop) {a b : BitVec 32} (ha : S a) (hb : S b) : S (Scalar.maxsi a b) := by
  unfold Scalar.maxsi IntOp.maxsi
  split <;> assumption

/-- The word is the number of a window. -/
def IsNum (u : BitVec 32) : Prop := ∃ k : Fin 6, u = BitVec.ofNat 32 k.val

/-- The nearest of the others is the number of a window. -/
theorem nnOf_lt (d : ℕ → ℕ → Ideal .f32) (p : Fin 6) : IsNum (nnOf d p) := by
  have h0 : IsNum 0#32 := ⟨0, rfl⟩
  have h1 : IsNum 1#32 := ⟨1, rfl⟩
  have h2 : IsNum 2#32 := ⟨2, rfl⟩
  have h3 : IsNum 3#32 := ⟨3, rfl⟩
  have h4 : IsNum 4#32 := ⟨4, rfl⟩
  have h5 : IsNum 5#32 := ⟨5, rfl⟩
  unfold nnOf
  split <;> apply nn5_ind <;> assumption

/-- The largest nearest neighbour is the number of a window. -/
theorem uOf_lt (d : ℕ → ℕ → Ideal .f32) : IsNum (uOf d) := by
  have e : uOf d = max6 (nnOf d 0) (nnOf d 1) (nnOf d 2) (nnOf d 3) (nnOf d 4) (nnOf d 5) := rfl
  have n := nnOf_lt d
  rw [e]
  unfold max6
  exact max_ind IsNum (max_ind IsNum (max_ind IsNum (max_ind IsNum (max_ind IsNum (n 0) (n 1)) (n 2)) (n 3)) (n 4)) (n 5)

/-- The sum of six bits as words is the sum of their values. -/
theorem bits_sum : ∀ b0 b1 b2 b3 b4 b5 : BitVec 1,
    (IntOp.addi (IntOp.addi (IntOp.addi (IntOp.addi (IntOp.addi (IntOp.addi 0#32 (b0.setWidth 32)) (b1.setWidth 32)) (b2.setWidth 32))
      (b3.setWidth 32)) (b4.setWidth 32)) (b5.setWidth 32) : BitVec 32).toInt
      = (b0.setWidth 32).toInt + (b1.setWidth 32).toInt + (b2.setWidth 32).toInt + (b3.setWidth 32).toInt + (b4.setWidth 32).toInt
        + (b5.setWidth 32).toInt := by
  intro b0 b1 b2 b3 b4 b5
  have h (b : BitVec 1) : (b.setWidth 32).toNat < 2 := by
    rw [BitVec.toNat_setWidth]
    have := b.isLt
    omega
  have t (b : BitVec 1) : (b.setWidth 32).toInt = (b.setWidth 32).toNat := BitVec.toInt_eq_toNat_of_lt (by have := h b; omega)
  have h0 := h b0
  have h1 := h b1
  have h2 := h b2
  have h3 := h b3
  have h4 := h b4
  have h5 := h b5
  simp only [t]
  generalize b0.setWidth 32 = e0 at *
  generalize b1.setWidth 32 = e1 at *
  generalize b2.setWidth 32 = e2 at *
  generalize b3.setWidth 32 = e3 at *
  generalize b4.setWidth 32 = e4 at *
  generalize b5.setWidth 32 = e5 at *
  have T : (IntOp.addi (IntOp.addi (IntOp.addi (IntOp.addi (IntOp.addi (IntOp.addi 0#32 e0) e1) e2) e3) e4) e5 : BitVec 32).toNat
      = e0.toNat + e1.toNat + e2.toNat + e3.toNat + e4.toNat + e5.toNat := by
    simp only [IntOp.addi, BitVec.toNat_add, BitVec.toNat_ofNat]
    omega
  rw [BitVec.toInt_eq_toNat_of_lt (by rw [T]; omega), T]
  push_cast
  rfl

/-- The number of windows whose nearest neighbour is the word. -/
theorem count_six (n : IVec S16x9x6 32) (u : IVec S16x9 32) (g : Fin 16) (j : Fin 9) :
    (Scalar.sitofp (F := Ideal) .f32 (Host.reduce IntOp.addi (extui 32 (cmpi .eq n (broadcastInDim S16x9x6 ![0, 1, 2] bcast_S16x9x1_S16x9x6_0_1_2 (broadcastInDim S16x9x1 ![0, 1] bcast_S16x9_S16x9x1_0_1 u))) natLt_1_32) (constantI S_ 32 0#32) reducesTo_S16x9x6_S16x9_d2 h_S_ (ix2 g j)) : EReal)
      = (hot (F := Ideal) (n (ix3 g j 0)) (u (ix2 g j)) : EReal) + (hot (F := Ideal) (n (ix3 g j 1)) (u (ix2 g j)) : EReal)
        + (hot (F := Ideal) (n (ix3 g j 2)) (u (ix2 g j)) : EReal) + (hot (F := Ideal) (n (ix3 g j 3)) (u (ix2 g j)) : EReal)
        + (hot (F := Ideal) (n (ix3 g j 4)) (u (ix2 g j)) : EReal) + (hot (F := Ideal) (n (ix3 g j 5)) (u (ix2 g j)) : EReal) := by
  have hx (p : Fin 6) : (extui 32 (cmpi .eq n (broadcastInDim S16x9x6 ![0, 1, 2] bcast_S16x9x1_S16x9x6_0_1_2 (broadcastInDim S16x9x1 ![0, 1] bcast_S16x9_S16x9x1_0_1 u))) natLt_1_32) (ix3 g j p)
      = (IntOp.cmpi .eq (n (ix3 g j p)) (u (ix2 g j))).setWidth 32 := by
    pointwise
    try rfl
  have hh (a b : BitVec 32) : (hot (F := Ideal) a b : EReal) = ((((IntOp.cmpi .eq a b).setWidth 32).toInt : ℝ) : EReal) := rfl
  have hs (a : BitVec 32) : (Scalar.sitofp (F := Ideal) .f32 a : EReal) = ((a.toInt : ℝ) : EReal) := rfl
  rw [reduce_six]
  simp only [hx, hs, hh, bits_sum]
  push_cast
  rfl

end Cert.Motif.Ref

end
-- ==== Proof.RefGather.lean ====
/-
  The reference's selected window read at an index.
-/
module

public import proofs.«01_k».proof.Proof.RefList

@[expose] public section

noncomputable section

namespace Cert.Motif.Ref

open Cert.ReferenceIdeal Cert.ReferenceIdeal.Gen
open Idealize.ShloMosaic Idealize.ShloMosaic.TcCoe Idealize.SL.Sem Idealize.ShloMosaic.StableHlo

/-- The dimension numbers of the reference's selection. -/
abbrev gd : GatherDims S16x9x6x222x222 S16x9x1x1 S16x9x1x222x222 :=
  gather_S16x9x6x222x222_S16x9x1x1_S16x9x1x222x222_34_2_01_01_2_3_111222222

/-- The place that holds the number of the window selected. -/
theorem gd_at (g : Fin 16) (j : Fin 9) (r c : Fin 222) (h : gd.startIndexMap.idxOf 2 < gd.startIndexMap.length) :
    gd.siIdx (ix5 g j 0 r c) ⟨gd.startIndexMap.idxOf 2, h⟩ = ix4 g j 0 0 := by
  funext b; apply Fin.ext
  match b with
  | ⟨0, _⟩ => rfl
  | ⟨1, _⟩ => rfl
  | ⟨2, _⟩ => rfl
  | ⟨3, _⟩ => rfl

/-- The window selected. -/
theorem gather_apply (x : Vec Ideal S16x9x6x222x222 .f32) (s : IVec S16x9x1x1 32) (g : Fin 16) (j : Fin 9) (r c : Fin 222) (k : Fin 6)
    (hk : s (ix4 g j 0 0) = BitVec.ofNat 32 k.val) : Host.gather gd x s (ix5 g j 0 r c) = x (ix5 g j k r c) := by
  refine congrArg x (funext fun a => Fin.ext ?_)
  show gd.start (ix5 g j 0 r c) s a + gd.batchCoord (ix5 g j 0 r c) a + gd.offCoord (ix5 g j 0 r c) a = _
  match a with
  | ⟨0, _⟩ => exact (Nat.zero_add _)
  | ⟨1, _⟩ => exact (Nat.zero_add _)
  | ⟨2, _⟩ =>
    have e : gd.start (ix5 g j 0 r c) s 2 = min (s (ix4 g j 0 0)).toInt.toNat (6 - 1) := by
      unfold GatherDims.start
      rw [dif_pos (by decide), gd_at]
      rfl
    have e' : gd.batchCoord (ix5 g j 0 r c) 2 = 0 := rfl
    have e'' : gd.offCoord (ix5 g j 0 r c) 2 = 0 := rfl
    refine (congrArg₂ (· + ·) (congrArg₂ (· + ·) e e') e'').trans ?_
    rw [hk]
    show min (BitVec.ofNat 32 k.val).toInt.toNat (6 - 1) + 0 + 0 = k.val
    clear hk; revert k
    decide
  | ⟨3, _⟩ => exact (Nat.zero_add _)
  | ⟨4, _⟩ => exact (Nat.zero_add _)

end Cert.Motif.Ref

end
-- ==== Proof.RefSel.lean ====
/-
  The reference's weighted windows by natural coordinates.
-/
module

public import proofs.«01_k».proof.Proof.RefNum
public import proofs.«01_k».proof.Proof.RefGather

@[expose] public section

noncomputable section

namespace Cert.Motif.Ref

open Cert.ReferenceIdeal Cert.ReferenceIdeal.Gen
open Cert.Motif.KernelIdealValue (grp)
open Cert.Motif.Body (Blk win_ sel_ selOf flr uOf gOf fac hot dsl)
open Idealize.ShloMosaic Idealize.ShloMosaic.TcCoe Idealize.SL.Sem Idealize.ShloMosaic.StableHlo

variable (V : Valuation τ sig (Elt Ideal))

/-- The number of a window is not moved by the wrap of negative numbers. -/
theorem wrap_num (k : Fin 6) : Scalar.select (IntOp.cmpi .slt (BitVec.ofNat 32 k.val) 0#32) (IntOp.addi (BitVec.ofNat 32 k.val) 6#32) (BitVec.ofNat 32 k.val)
    = BitVec.ofNat 32 k.val := by
  revert k; decide

/-- The number of a window is in range. -/
theorem mask_num (k : Fin 6) : IntOp.andi 1#1 (IntOp.andi (IntOp.cmpi .sge (BitVec.ofNat 32 k.val) 0#32) (IntOp.cmpi .sle (BitVec.ofNat 32 k.val) 5#32)) = 1#1 := by
  revert k; decide

/-- The numbers of the windows to select. -/
theorem wrap_apply (u : IVec S16x9 32) (g : Fin 16) (j : Fin 9) (k : Fin 6) (hk : u (ix2 g j) = BitVec.ofNat 32 k.val) :
    (shapeCast S16x9x1x1 (select (cmpi .slt (broadcastInDim S16x9x1x1x1 ![0, 1] bcast_S16x9_S16x9x1x1x1_0_1 u) (broadcastInDim S16x9x1x1x1 ![] bcast_S_S16x9x1x1x1 (constantI S_ 32 0#32))) (addi (broadcastInDim S16x9x1x1x1 ![0, 1] bcast_S16x9_S16x9x1x1x1_0_1 u) (broadcastInDim S16x9x1x1x1 ![] bcast_S_S16x9x1x1x1 (constantI S_ 32 6#32))) (broadcastInDim S16x9x1x1x1 ![0, 1] bcast_S16x9_S16x9x1x1x1_0_1 u)) shapeCasts_S16x9x1x1x1_S16x9x1x1 : IVec S16x9x1x1 32) (ix4 g j 0 0)
      = BitVec.ofNat 32 k.val := by
  pointwise
  rw [hk]
  exact wrap_num k

/-- The window selected, its number in range. -/
theorem pick_apply (x : Vec Ideal S16x9x6x222x222 .f32) (s : IVec S16x9x1x1 32) (z : Vec Ideal S16x9x1x222x222 .f32) (g : Fin 16) (j : Fin 9) (r c : Fin 222) (k : Fin 6)
    (hk : s (ix4 g j 0 0) = BitVec.ofNat 32 k.val) :
    select (broadcastInDim S16x9x1x222x222 ![0, 1, 2] bcast_S16x9x1_S16x9x1x222x222_0_1_2 (Host.reduce IntOp.andi (andi (cmpi .sge s (broadcastInDim S16x9x1x1 ![] bcast_S_S16x9x1x1 (constantI S_ 32 0#32))) (cmpi .sle s (broadcastInDim S16x9x1x1 ![0, 1, 2, 3] bcast_S1x1x1x1_S16x9x1x1_0_1_2_3 (broadcastInDim S1x1x1x1 ![3] bcast_S1_S1x1x1x1_3 (constantI S1 32 5#32))))) (constantI S_ 1 1#1) reducesTo_S16x9x1x1_S16x9x1_d3 h_S_)) (Host.gather gd x s) z (ix5 g j 0 r c)
      = x (ix5 g j k r c) := by
  have m (M : IVec S16x9x1 1) (hM : M (ix3 g j 0) = 1#1) : broadcastInDim S16x9x1x222x222 ![0, 1, 2] bcast_S16x9x1_S16x9x1x222x222_0_1_2 M (ix5 g j 0 r c) = 1#1 := by
    pointwise
    exact hM
  refine (if_pos (m _ ?_)).trans (gather_apply x s g j r c k hk)
  rw [reduce_one]
  pointwise
  rw [hk]
  exact mask_num k

/-- The weighted windows rounded down, by the window selected and the count. -/
theorem value_apply (x : Vec Ideal S16x9x6x222x222 .f32) (P : Vec Ideal S16x9x1x222x222 .f32) (C : IVec S16x9 32) (g : Fin 16) (j : Fin 9) (t : Fin 6) (r c : Fin 222) :
    (Host.floor (Host.divf (F := Ideal) (s := S16x9x6x222x222) (φ := .f32) (mulf (mulf x (broadcastInDim S16x9x6x222x222 ![0, 1, 2, 3, 4] bcast_S16x9x1x222x222_S16x9x6x222x222_0_1_2_3_4 P)) (broadcastInDim S16x9x6x222x222 ![0, 1, 2, 3, 4] bcast_S16x9x1x1x1_S16x9x6x222x222_0_1_2_3_4 (sitofp .f32 (broadcastInDim S16x9x1x1x1 ![0, 1] bcast_S16x9_S16x9x1x1x1_0_1 C)))) (broadcastInDim S16x9x6x222x222 ![] bcast_S_S16x9x6x222x222 (constant S_ .f32 0x40C00000#32))) : Vec Ideal S16x9x6x222x222 .f32) (ix5 g j t r c)
      = flr (Ideal.div (((x (ix5 g j t r c) : EReal) * P (ix5 g j 0 r c)) * Scalar.sitofp (F := Ideal) .f32 (C (ix2 g j))) (Ideal.ofBits .f32 0x40C00000#32)) := by
  pointwise
  rfl

/-- The bits of six. -/
theorem six_eq : Ideal.ofBits .f32 0x40C00000#32 = ((6 : ℝ) : EReal) := by
  simp [Ideal.ofBits, Ideal.ieee]
  rw [← EReal.coe_mul]
  norm_num

/-- Dividing by six last is weighting by a sixth first. -/
theorem div_six (a b c : EReal) : Ideal.div (a * b * c) (Ideal.ofBits .f32 0x40C00000#32) = a * (b * (c * ((1 / 6 : ℝ) : EReal))) := by
  rw [six_eq, Ideal.div_coe (by norm_num), mul_assoc, mul_assoc]

/-- The mark of a number among six. -/
theorem hot_num (k t : Fin 6) : (hot (F := Ideal) (BitVec.ofNat 32 k.val) (BitVec.ofNat 32 t.val) : EReal) = if k = t then 1 else 0 := by
  have h : ∀ k t : Fin 6, ((IntOp.cmpi .eq (BitVec.ofNat 32 k.val) (BitVec.ofNat 32 t.val)).setWidth 32).toInt = if k = t then 1 else 0 := by decide
  have e : (hot (F := Ideal) (BitVec.ofNat 32 k.val) (BitVec.ofNat 32 t.val) : EReal)
      = ((((IntOp.cmpi .eq (BitVec.ofNat 32 k.val) (BitVec.ofNat 32 t.val)).setWidth 32).toInt : ℝ) : EReal) := rfl
  rw [e, h]
  split <;> simp

/-- The weighted windows of a slice are the window of the number. -/
theorem selOf_num (X : Blk) (j : ℕ) (k : Fin 6) (y : Ideal .f32) (r c : ℕ) :
    selOf X j (BitVec.ofNat 32 k.val) y r c = win_ X (6 * j + k.val) r c * (y : EReal) := by
  have h (t : Fin 6) := hot_num k t
  have h0 := h 0
  have h1 := h 1
  have h2 := h 2
  have h3 := h 3
  have h4 := h 4
  have h5 := h 5
  unfold selOf
  erw [h0, h1, h2, h3, h4, h5]
  clear h h0 h1 h2 h3 h4 h5
  congr 1
  fin_cases k <;> simp

/-- The factor of a slice. -/
theorem gOf_eq (d : ℕ → ℕ → Ideal .f32) : (gOf d : EReal)
    = ((hot (F := Ideal) (nnOf d 0) (uOf d) : EReal) + (hot (F := Ideal) (nnOf d 1) (uOf d) : EReal)
        + (hot (F := Ideal) (nnOf d 2) (uOf d) : EReal) + (hot (F := Ideal) (nnOf d 3) (uOf d) : EReal)
        + (hot (F := Ideal) (nnOf d 4) (uOf d) : EReal) + (hot (F := Ideal) (nnOf d 5) (uOf d) : EReal)) * ((1 / 6 : ℝ) : EReal) := by
  have e : (Named.named (F := Ideal) (φ := .f32) Cert.KernelIdeal.κ "sixth" 0x3E2AAAAB#32 : EReal) = ((1 / 6 : ℝ) : EReal) :=
    IdealRules.named_const.ideal_named_scalar _ _ _ _ rfl
  rw [← e]
  rfl

/-- The windows by channel and offsets. -/
theorem flat_apply (A : Vec Ideal S16x9x6x222x222 .f32) (g : Fin 16) (c : Fin 6) (i k : Fin 3) (r w : Fin 222) :
    shapeCast S16x6x3x3x222x222 A shapeCasts_S16x9x6x222x222_S16x6x3x3x222x222 (ix6 g c i k r w)
      = A (ix5 g ⟨(9 * c.val + 3 * i.val + k.val) / 6, by omega⟩ ⟨(9 * c.val + 3 * i.val + k.val) % 6, by omega⟩ r w) := by
  pointwise
  exact ix5_congr A rfl (by dsimp only; omega) (by dsimp only; omega) rfl rfl

/-- The numbers the reference selects by. -/
theorem wrap_u (g : Fin 16) (j : Fin 9) (k : Fin 6) (hk : uOf (dsl (grp (arg V) g.val) j.val) = BitVec.ofNat 32 k.val) :
    (res_main_call2_v5 V : IVec S16x9x1x1 32) (ix4 g j 0 0) = BitVec.ofNat 32 k.val := by
  unfold res_main_call2_v5 res_main_v42
  clean_types
  exact wrap_apply _ g j k ((v36_apply V g j).trans hk)

/-- How many windows have the largest nearest neighbour, over six. -/
theorem count_apply (g : Fin 16) (j : Fin 9) :
    ((Scalar.sitofp (F := Ideal) .f32 (Host.reduce IntOp.addi (extui 32 (cmpi .eq (res_main_v35 V : IVec S16x9x6 32) (broadcastInDim S16x9x6 ![0, 1, 2] bcast_S16x9x1_S16x9x6_0_1_2 (broadcastInDim S16x9x1 ![0, 1] bcast_S16x9_S16x9x1_0_1 (res_main_v36 V : IVec S16x9 32)))) natLt_1_32) (constantI S_ 32 0#32) reducesTo_S16x9x6_S16x9_d2 h_S_ (ix2 g j)) : EReal)) * ((1 / 6 : ℝ) : EReal)
      = (gOf (dsl (grp (arg V) g.val) j.val) : EReal) := by
  rw [gOf_eq, count_six]
  simp only [v35_apply, v36_apply]

/-- The selected window times the count over six. -/
theorem sel_apply (z : Vec Ideal S16x9x1x222x222 .f32) (g : Fin 16) (j : Fin 9) (r c : Fin 222) :
    (select (broadcastInDim S16x9x1x222x222 ![0, 1, 2] bcast_S16x9x1_S16x9x1x222x222_0_1_2 (Host.reduce IntOp.andi (andi (cmpi .sge (res_main_call2_v5 V : IVec S16x9x1x1 32) (broadcastInDim S16x9x1x1 ![] bcast_S_S16x9x1x1 (constantI S_ 32 0#32))) (cmpi .sle (res_main_call2_v5 V : IVec S16x9x1x1 32) (broadcastInDim S16x9x1x1 ![0, 1, 2, 3] bcast_S1x1x1x1_S16x9x1x1_0_1_2_3 (broadcastInDim S1x1x1x1 ![3] bcast_S1_S1x1x1x1_3 (constantI S1 32 5#32))))) (constantI S_ 1 1#1) reducesTo_S16x9x1x1_S16x9x1_d3 h_S_)) (Host.gather gd (res_main_v20 V : Vec Ideal S16x9x6x222x222 .f32) (res_main_call2_v5 V : IVec S16x9x1x1 32)) z (ix5 g j 0 r c) : EReal)
      * (((Scalar.sitofp (F := Ideal) .f32 (Host.reduce IntOp.addi (extui 32 (cmpi .eq (res_main_v35 V : IVec S16x9x6 32) (broadcastInDim S16x9x6 ![0, 1, 2] bcast_S16x9x1_S16x9x6_0_1_2 (broadcastInDim S16x9x1 ![0, 1] bcast_S16x9_S16x9x1_0_1 (res_main_v36 V : IVec S16x9 32)))) natLt_1_32) (constantI S_ 32 0#32) reducesTo_S16x9x6_S16x9_d2 h_S_ (ix2 g j)) : EReal)) * ((1 / 6 : ℝ) : EReal))
      = sel_ (grp (arg V) g.val) j.val r.val c.val := by
  obtain ⟨q, hq⟩ := uOf_lt (dsl (grp (arg V) g.val) j.val)
  have e : sel_ (grp (arg V) g.val) j.val r.val c.val = win_ (grp (arg V) g.val) (6 * j.val + q.val) r.val c.val * (gOf (dsl (grp (arg V) g.val) j.val) : EReal) := by
    unfold sel_
    rw [hq, selOf_num]
  refine Eq.trans (congrArg₂ HMul.hMul ?_ (count_apply V g j)) e.symm
  exact (pick_apply (res_main_v20 V : Vec Ideal S16x9x6x222x222 .f32) (res_main_call2_v5 V : IVec S16x9x1x1 32) _ g j r c q (wrap_u V g j q hq)).trans (v20_apply V g j q r c)

/-- The weighted windows rounded down. -/
theorem v53_apply (g : Fin 16) (c : Fin 6) (i k : Fin 3) (r w : Fin 222) :
    (res_main_v53 V : Vec Ideal S16x6x3x3x222x222 .f32) (ix6 g c i k r w)
      = flr (win_ (grp (arg V) g.val) (9 * c.val + 3 * i.val + k.val) r.val w.val
          * sel_ (grp (arg V) g.val) ((9 * c.val + 3 * i.val + k.val) / 6) r.val w.val) := by
  have hf : 6 * ((9 * c.val + 3 * i.val + k.val) / 6) + (9 * c.val + 3 * i.val + k.val) % 6 = 9 * c.val + 3 * i.val + k.val := Nat.div_add_mod ..
  unfold res_main_v53
  clean_types
  refine (flat_apply _ g c i k r w).trans ((value_apply _ _ _ g _ _ r w).trans (congrArg flr ((div_six _ _ _).trans ?_)))
  have a := v20_apply V g ⟨(9 * c.val + 3 * i.val + k.val) / 6, by omega⟩ ⟨(9 * c.val + 3 * i.val + k.val) % 6, by omega⟩ r w
  dsimp only at a
  rw [hf] at a
  exact congrArg₂ HMul.hMul a (sel_apply V _ g ⟨(9 * c.val + 3 * i.val + k.val) / 6, by omega⟩ r w)

end Cert.Motif.Ref

end
-- ==== Proof.RefValue.lean ====
/-
  The reference's result by natural coordinates: what the nine padded windows add to a channel is what the slices add.
-/
module

public import proofs.«01_k».proof.Proof.RefSel
public import Idealize.ShloMosaic.Lib.KernelVsHost

@[expose] public section

noncomputable section

namespace Cert.Motif.Ref

open Cert.ReferenceIdeal Cert.ReferenceIdeal.Gen
open Cert.Motif.KernelIdealValue (grp result)
open Cert.Motif.Body (Blk win_ sel_ flr chan ki kj add_ slc out_)
open Idealize.ShloMosaic Idealize.ShloMosaic.TcCoe Idealize.SL.Sem Idealize.ShloMosaic.StableHlo

variable (V : Valuation τ sig (Elt Ideal))

/-- The unit axes dropped. -/
theorem unit_apply (A : Vec Ideal S16x6x1x1x222x222 .f32) (h : S16x6x1x1x222x222.ShapeCasts S16x6x222x222) (g : Fin 16) (c : Fin 6) (r w : Fin 222) :
    shapeCast S16x6x222x222 A h (ix4 g c r w) = A (ix6 g c 0 0 r w) := by
  pointwise

/-- The windows of one pair of offsets. -/
theorem off_apply (x : Vec Ideal S16x6x3x3x222x222 .f32) (i k : Fin 3) (h : S16x6x3x3x222x222.Slices ![0, 0, i.val, k.val, 0, 0] S16x6x1x1x222x222)
    (g : Fin 16) (c : Fin 6) (r w : Fin 222) :
    extractStridedSlice S16x6x1x1x222x222 ![0, 0, i.val, k.val, 0, 0] x h (ix6 g c 0 0 r w) = x (ix6 g c i k r w) := by
  refine extractStridedSlice_apply _ _ _ _ _ fun a => ?_
  match a with
  | ⟨0, _⟩ => exact (Nat.zero_add _).symm
  | ⟨1, _⟩ => exact (Nat.zero_add _).symm
  | ⟨2, _⟩ => rfl
  | ⟨3, _⟩ => rfl
  | ⟨4, _⟩ => exact (Nat.zero_add _).symm
  | ⟨5, _⟩ => exact (Nat.zero_add _).symm

/-- An array put at an offset into zeros. -/
theorem put_apply (A : Vec Ideal S16x6x222x222 .f32) (i k : Fin 3) (e : Fin 4 → ℕ) (z : Vec Ideal S_ .f32) (hz : ∀ j, (z j : EReal) = 0)
    (h : S16x6x222x222.Pads ![0, 0, i.val, k.val] e ![0, 0, 0, 0] S16x6x224x224) (hu : 0 < S_.numel)
    (g : Fin 16) (c : Fin 6) (y w : Fin 224) :
    (pad S16x6x224x224 ![0, 0, i.val, k.val] e ![0, 0, 0, 0] A z h hu (ix4 g c y w) : EReal)
      = if H : (i.val ≤ y.val ∧ y.val < i.val + 222) ∧ k.val ≤ w.val ∧ w.val < k.val + 222
        then A (ix4 g c ⟨y.val - i.val, by omega⟩ ⟨w.val - k.val, by omega⟩) else 0 := by
  by_cases H : (i.val ≤ y.val ∧ y.val < i.val + 222) ∧ k.val ≤ w.val ∧ w.val < k.val + 222
  · rw [dif_pos H]
    refine pad_apply_of_inside _ _ _ _ _ _ _ _ _ fun a => ?_
    match a with
    | ⟨0, _⟩ => show g.val = 0 + g.val * (0 + 1); omega
    | ⟨1, _⟩ => show c.val = 0 + c.val * (0 + 1); omega
    | ⟨2, _⟩ => show y.val = i.val + (y.val - i.val) * (0 + 1); omega
    | ⟨3, _⟩ => show w.val = k.val + (w.val - k.val) * (0 + 1); omega
  · rw [dif_neg H, ← hz (Shape.Idx.first hu)]
    by_cases hy : i.val ≤ y.val ∧ y.val < i.val + 222
    · refine pad_apply_of_not_inside _ _ _ _ _ _ _ _ 3 fun h' => ?_
      have h1 : k.val ≤ w.val := h'.1
      have h2 : (w.val - k.val) / (0 + 1) < 222 := h'.2.2
      rw [Nat.zero_add, Nat.div_one] at h2
      omega
    · refine pad_apply_of_not_inside _ _ _ _ _ _ _ _ 2 fun h' => ?_
      have h1 : i.val ≤ y.val := h'.1
      have h2 : (y.val - i.val) / (0 + 1) < 222 := h'.2.2
      rw [Nat.zero_add, Nat.div_one] at h2
      omega

/-- One padded part is what its window adds. -/
theorem part_apply (i k : Fin 3) (e : Fin 4 → ℕ) (z : Vec Ideal S_ .f32) (hz : ∀ j, (z j : EReal) = 0)
    (hs : S16x6x3x3x222x222.Slices ![0, 0, i.val, k.val, 0, 0] S16x6x1x1x222x222) (hc : S16x6x1x1x222x222.ShapeCasts S16x6x222x222)
    (h : S16x6x222x222.Pads ![0, 0, i.val, k.val] e ![0, 0, 0, 0] S16x6x224x224) (hu : 0 < S_.numel)
    (g : Fin 16) (c : Fin 6) (y w : Fin 224) :
    (pad S16x6x224x224 ![0, 0, i.val, k.val] e ![0, 0, 0, 0] (shapeCast S16x6x222x222 (extractStridedSlice S16x6x1x1x222x222 ![0, 0, i.val, k.val, 0, 0] (res_main_v53 V : Vec Ideal S16x6x3x3x222x222 .f32) hs) hc) z h hu (ix4 g c y w) : EReal)
      = add_ (grp (arg V) g.val) (9 * c.val + (3 * i.val + k.val)) y.val w.val := by
  have hki : ki (9 * c.val + (3 * i.val + k.val)) = i.val := by unfold ki; omega
  have hkj : kj (9 * c.val + (3 * i.val + k.val)) = k.val := by unfold kj; omega
  rw [put_apply _ i k e z hz h hu g c y w]
  unfold add_
  rw [hki, hkj]
  by_cases H : (i.val ≤ y.val ∧ y.val < i.val + 222) ∧ k.val ≤ w.val ∧ w.val < k.val + 222
  · rw [dif_pos H, if_pos H, unit_apply, off_apply, v53_apply, add_assoc]
    unfold win_
    rw [hki, hkj]
    dsimp only
    rw [Nat.add_sub_cancel' H.1.1, Nat.add_sub_cancel' H.2.1]
  · rw [dif_neg H, if_neg H]

/-- What the slices add to a channel, window by window. -/
theorem out_eq (X : Blk) (c : Fin 6) (y w : ℕ) : out_ X 9 c.val y w
    = 0 + add_ X (9 * c.val + (3 * 0 + 0)) y w + add_ X (9 * c.val + (3 * 0 + 1)) y w + add_ X (9 * c.val + (3 * 0 + 2)) y w
      + add_ X (9 * c.val + (3 * 1 + 0)) y w + add_ X (9 * c.val + (3 * 1 + 1)) y w + add_ X (9 * c.val + (3 * 1 + 2)) y w
      + add_ X (9 * c.val + (3 * 2 + 0)) y w + add_ X (9 * c.val + (3 * 2 + 1)) y w + add_ X (9 * c.val + (3 * 2 + 2)) y w := by
  unfold out_ slc
  generalize hA : (fun f => add_ X f y w) = A
  have e (f : ℕ) : add_ X f y w = A f := congrFun hA f
  simp only [e]
  clear e hA
  fin_cases c <;> simp [Finset.sum_range_succ, chan, add_assoc]

/-- A sum of ten arrays, its groups side by side. -/
theorem ten_apply (z p0 p1 p2 p3 p4 p5 p6 p7 p8 : Vec Ideal S16x6x224x224 .f32) (a : Fin 1) (b : Fin 96) (y w : Fin 224) :
    (shapeCast S1x96x224x224 (addf (F := Ideal) (s := S16x6x224x224) (φ := .f32) (addf (addf (addf (addf (addf (addf (addf (addf z p0) p1) p2) p3) p4) p5) p6) p7) p8) shapeCasts_S16x6x224x224_S1x96x224x224 (ix4 a b y w) : EReal)
      = (fun j => ((z j : EReal) + p0 j + p1 j + p2 j + p3 j + p4 j + p5 j + p6 j + p7 j + p8 j)) (ix4 ⟨b.val / 6, by omega⟩ ⟨b.val % 6, by omega⟩ y w) := by
  pointwise

/-- The integer zero as a float. -/
theorem zero_i (j : S_.Idx) : (sitofp (F := Ideal) .f32 (constantI S_ 32 0#32) j : EReal) = 0 := by
  have e : (sitofp (F := Ideal) .f32 (constantI S_ 32 0#32) j : EReal) = (((0#32 : BitVec 32).toInt : ℝ) : EReal) := rfl
  rw [e]
  simp

/-- The array of zeros. -/
theorem zero_f (j : S16x6x224x224.Idx) : (broadcastInDim S16x6x224x224 ![] bcast_S_S16x6x224x224 (constant (F := Ideal) S_ .f32 0x00000000#32) j : EReal) = 0 :=
  Ideal.ofBits_zero_f32

/-- The sum of the nine parts is what the slices add. -/
theorem ten_eq (X : ℕ → Blk) (z p0 p1 p2 p3 p4 p5 p6 p7 p8 : Vec Ideal S16x6x224x224 .f32) (hz : ∀ j, (z j : EReal) = 0)
    (h0 : ∀ (g : Fin 16) (c : Fin 6) (y w : Fin 224), (p0 (ix4 g c y w) : EReal) = add_ (X g.val) (9 * c.val + (3 * 0 + 0)) y.val w.val)
    (h1 : ∀ (g : Fin 16) (c : Fin 6) (y w : Fin 224), (p1 (ix4 g c y w) : EReal) = add_ (X g.val) (9 * c.val + (3 * 0 + 1)) y.val w.val)
    (h2 : ∀ (g : Fin 16) (c : Fin 6) (y w : Fin 224), (p2 (ix4 g c y w) : EReal) = add_ (X g.val) (9 * c.val + (3 * 0 + 2)) y.val w.val)
    (h3 : ∀ (g : Fin 16) (c : Fin 6) (y w : Fin 224), (p3 (ix4 g c y w) : EReal) = add_ (X g.val) (9 * c.val + (3 * 1 + 0)) y.val w.val)
    (h4 : ∀ (g : Fin 16) (c : Fin 6) (y w : Fin 224), (p4 (ix4 g c y w) : EReal) = add_ (X g.val) (9 * c.val + (3 * 1 + 1)) y.val w.val)
    (h5 : ∀ (g : Fin 16) (c : Fin 6) (y w : Fin 224), (p5 (ix4 g c y w) : EReal) = add_ (X g.val) (9 * c.val + (3 * 1 + 2)) y.val w.val)
    (h6 : ∀ (g : Fin 16) (c : Fin 6) (y w : Fin 224), (p6 (ix4 g c y w) : EReal) = add_ (X g.val) (9 * c.val + (3 * 2 + 0)) y.val w.val)
    (h7 : ∀ (g : Fin 16) (c : Fin 6) (y w : Fin 224), (p7 (ix4 g c y w) : EReal) = add_ (X g.val) (9 * c.val + (3 * 2 + 1)) y.val w.val)
    (h8 : ∀ (g : Fin 16) (c : Fin 6) (y w : Fin 224), (p8 (ix4 g c y w) : EReal) = add_ (X g.val) (9 * c.val + (3 * 2 + 2)) y.val w.val)
    (a : Fin 1) (b : Fin 96) (y w : Fin 224) :
    (shapeCast S1x96x224x224 (addf (F := Ideal) (s := S16x6x224x224) (φ := .f32) (addf (addf (addf (addf (addf (addf (addf (addf z p0) p1) p2) p3) p4) p5) p6) p7) p8) shapeCasts_S16x6x224x224_S1x96x224x224 (ix4 a b y w) : EReal)
      = out_ (X (b.val / 6)) 9 (b.val % 6) y.val w.val := by
  have e := ten_apply z p0 p1 p2 p3 p4 p5 p6 p7 p8 a b y w
  dsimp only at e
  rw [hz, h0, h1, h2, h3, h4, h5, h6, h7, h8] at e
  exact e.trans (out_eq _ ⟨b.val % 6, Nat.mod_lt _ (by norm_num)⟩ y.val w.val).symm

/-- The reference's run leaves the kernel's result. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v91) = result (m ((c.tc : Thread nD τ).loc main_arg0))
      ∧ r.2.mem ((c.tc : Thread nD τ).loc main_arg0) = m ((c.tc : Thread nD τ).loc main_arg0) := by
  refine (θ_run defs _ _).mono (fun _ h c => ⟨(h c).1.trans ?_, (h c).2⟩) (run m ρ)
  funext i
  have hi : i = ix4 (i 0) (i 1) (i 2) (i 3) := eq_ix4 i
  rw [hi]
  exact ten_eq (grp (arg (launchContents m c))) _ _ _ _ _ _ _ _ _ _ zero_f
    (part_apply _ 0 0 _ _ zero_i _ _ _ _)
    (part_apply _ 0 1 _ _ zero_i _ _ _ _)
    (part_apply _ 0 2 _ _ zero_i _ _ _ _)
    (part_apply _ 1 0 _ _ zero_i _ _ _ _)
    (part_apply _ 1 1 _ _ zero_i _ _ _ _)
    (part_apply _ 1 2 _ _ zero_i _ _ _ _)
    (part_apply _ 2 0 _ _ zero_i _ _ _ _)
    (part_apply _ 2 1 _ _ zero_i _ _ _ _)
    (part_apply _ 2 2 _ _ zero_i _ _ _ _) (i 0) (i 1) (i 2) (i 3)

end Cert.Motif.Ref

end
-- ==== Proof.Algebraic.lean ====
/-
  The kernel and the reference leave one result.
-/
module

public import proofs.«01_k».proof.Proof.Claims
public import proofs.«01_k».proof.Proof.RefValue

@[expose] public section

namespace Cert.Motif

open Idealize.ShloMosaic Idealize.SL.Sem

/-- From arguments that agree the idealized kernel and the idealized reference leave one result. -/
theorem algebraic : Cert.algebraic_KernelIdeal_ReferenceIdeal := by
  intro m g m' g' _ hagree
  refine ⟨fun c => KernelIdealValue.result (m ((c.tc : Thread Cert.KernelIdeal.nD Cert.KernelIdeal.τ).loc Cert.KernelIdeal.main_arg0)), KernelIdealValue.run m g, ?_⟩
  refine (θ_run _ _ _).mono (fun _ h c => ⟨(h c).1.trans ?_, (h c).2⟩) (Ref.run_result m' g')
  exact congrArg KernelIdealValue.result (hagree c)

end Cert.Motif

end
-- ==== Proof.lean ====
module

public import proofs.«01_k».proof.Defs
public import proofs.«01_k».proof.Proof.Claims
public import proofs.«01_k».proof.Proof.Algebraic
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- Everything claimed. -/
theorem claim : Cert.Claim :=
  ⟨Cert.Kernel.Gen.facts, Cert.KernelIdeal.Gen.facts, Cert.ReferenceIdeal.Gen.facts,
    Motif.frame_p, Motif.frame_pi, Motif.frame_ri, Motif.preserves, Motif.algebraic⟩

end Cert.Proof

end
